-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6)
      ∧ r.2.mem ((c.tc : Thread Cert.Sgu.nD Cert.Sgu.τ).loc Cert.Sgu.main_arg7) = m ((c.tc : Thread Cert.Sgu.nD Cert.Sgu.τ).loc Cert.Sgu.main_arg7))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
      ∧ r.2.mem ((c.tc : Thread Cert.SguIdeal.nD Cert.SguIdeal.τ).loc Cert.SguIdeal.main_arg7) = m ((c.tc : Thread Cert.SguIdeal.nD Cert.SguIdeal.τ).loc Cert.SguIdeal.main_arg7))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5)
      ∧ r.2.mem ((c.tc : Thread Cert.SguReferenceIdeal.nD Cert.SguReferenceIdeal.τ).loc Cert.SguReferenceIdeal.main_arg6) = m ((c.tc : Thread Cert.SguReferenceIdeal.nD Cert.SguReferenceIdeal.τ).loc Cert.SguReferenceIdeal.main_arg6)
      ∧ r.2.mem ((c.tc : Thread Cert.SguReferenceIdeal.nD Cert.SguReferenceIdeal.τ).loc Cert.SguReferenceIdeal.main_arg7) = m ((c.tc : Thread Cert.SguReferenceIdeal.nD Cert.SguReferenceIdeal.τ).loc Cert.SguReferenceIdeal.main_arg7))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)
  ∧ IdealRules.named_const.Statement Cert.KernelIdeal.κ "mask" .f32 0xF149F2CA#32 ⊥
  ∧ IdealRules.named_const.Statement Cert.KernelIdeal.κ "mask_tenth" .f32 0xEFA18F08#32 ⊥

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)
      ∧ m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v90) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v5_0)) (v1 : (c : Dev Cert.ProjIdeal.nD) → Buf (Elt Ideal) ((c.tc : Thread Cert.ProjIdeal.nD Cert.ProjIdeal.τ).loc Cert.ProjIdeal.main_v5_1)) (v2 : (c : Dev Cert.ProjIdeal.nD) → Buf (Elt Ideal) ((c.tc : Thread Cert.ProjIdeal.nD Cert.ProjIdeal.τ).loc Cert.ProjIdeal.main_v5_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5_0) = v0 c
          ∧ r.2.mem ((c.tc : Thread Cert.ProjIdeal.nD Cert.ProjIdeal.τ).loc Cert.ProjIdeal.main_v5_1) = v1 c
          ∧ r.2.mem ((c.tc : Thread Cert.ProjIdeal.nD Cert.ProjIdeal.τ).loc Cert.ProjIdeal.main_v5_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v16) = v0 c
          ∧ r.2.mem ((c.tc : Thread Cert.ProjReferenceIdeal.nD Cert.ProjReferenceIdeal.τ).loc Cert.ProjReferenceIdeal.main_v17) = v1 c
          ∧ r.2.mem ((c.tc : Thread Cert.ProjReferenceIdeal.nD Cert.ProjReferenceIdeal.τ).loc Cert.ProjReferenceIdeal.main_v19) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_Sgu_SguIdeal : Prop :=
  True

def algebraic_SguIdeal_SguReferenceIdeal [hSguIdeal : Cert.SguIdeal.Facts] [hSguReferenceIdeal : Cert.SguReferenceIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguIdeal m →
    (∀ c : Dev Cert.SguIdeal.nD,
      m' ((c.tc : Thread Cert.SguReferenceIdeal.nD Cert.SguReferenceIdeal.τ).loc Cert.SguReferenceIdeal.main_arg0) = m ((c.tc : Thread Cert.SguIdeal.nD Cert.SguIdeal.τ).loc Cert.SguIdeal.main_arg0)
      ∧ m' ((c.tc : Thread Cert.SguReferenceIdeal.nD Cert.SguReferenceIdeal.τ).loc Cert.SguReferenceIdeal.main_arg1) = m ((c.tc : Thread Cert.SguIdeal.nD Cert.SguIdeal.τ).loc Cert.SguIdeal.main_arg1)
      ∧ m' ((c.tc : Thread Cert.SguReferenceIdeal.nD Cert.SguReferenceIdeal.τ).loc Cert.SguReferenceIdeal.main_arg2) = m ((c.tc : Thread Cert.SguIdeal.nD Cert.SguIdeal.τ).loc Cert.SguIdeal.main_arg2)
      ∧ m' ((c.tc : Thread Cert.SguReferenceIdeal.nD Cert.SguReferenceIdeal.τ).loc Cert.SguReferenceIdeal.main_arg3) = m ((c.tc : Thread Cert.SguIdeal.nD Cert.SguIdeal.τ).loc Cert.SguIdeal.main_arg3)
      ∧ m' ((c.tc : Thread Cert.SguReferenceIdeal.nD Cert.SguReferenceIdeal.τ).loc Cert.SguReferenceIdeal.main_arg4) = m ((c.tc : Thread Cert.SguIdeal.nD Cert.SguIdeal.τ).loc Cert.SguIdeal.main_arg4)
      ∧ m' ((c.tc : Thread Cert.SguReferenceIdeal.nD Cert.SguReferenceIdeal.τ).loc Cert.SguReferenceIdeal.main_arg5) = m ((c.tc : Thread Cert.SguIdeal.nD Cert.SguIdeal.τ).loc Cert.SguIdeal.main_arg5)
      ∧ m' ((c.tc : Thread Cert.SguReferenceIdeal.nD Cert.SguReferenceIdeal.τ).loc Cert.SguReferenceIdeal.main_arg6) = m ((c.tc : Thread Cert.SguIdeal.nD Cert.SguIdeal.τ).loc Cert.SguIdeal.main_arg6)
      ∧ m' ((c.tc : Thread Cert.SguReferenceIdeal.nD Cert.SguReferenceIdeal.τ).loc Cert.SguReferenceIdeal.main_arg7) = m ((c.tc : Thread Cert.SguIdeal.nD Cert.SguIdeal.τ).loc Cert.SguIdeal.main_arg7)) →
    ∃ (v0 : (c : Dev Cert.SguIdeal.nD) → Buf (Elt Ideal) ((c.tc : Thread Cert.SguIdeal.nD Cert.SguIdeal.τ).loc Cert.SguIdeal.main_v8)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v8) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
          ∧ r.2.mem ((c.tc : Thread Cert.SguIdeal.nD Cert.SguIdeal.τ).loc Cert.SguIdeal.main_arg7) = m ((c.tc : Thread Cert.SguIdeal.nD Cert.SguIdeal.τ).loc Cert.SguIdeal.main_arg7))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v78) = v0 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4)
          ∧ r.2.mem ((c.tc : Thread Cert.SguReferenceIdeal.nD Cert.SguReferenceIdeal.τ).loc Cert.SguReferenceIdeal.main_arg5) = m' ((c.tc : Thread Cert.SguReferenceIdeal.nD Cert.SguReferenceIdeal.τ).loc Cert.SguReferenceIdeal.main_arg5)
          ∧ r.2.mem ((c.tc : Thread Cert.SguReferenceIdeal.nD Cert.SguReferenceIdeal.τ).loc Cert.SguReferenceIdeal.main_arg6) = m' ((c.tc : Thread Cert.SguReferenceIdeal.nD Cert.SguReferenceIdeal.τ).loc Cert.SguReferenceIdeal.main_arg6)
          ∧ r.2.mem ((c.tc : Thread Cert.SguReferenceIdeal.nD Cert.SguReferenceIdeal.τ).loc Cert.SguReferenceIdeal.main_arg7) = m' ((c.tc : Thread Cert.SguReferenceIdeal.nD Cert.SguReferenceIdeal.τ).loc Cert.SguReferenceIdeal.main_arg7))

def Claim : Prop :=
  ∃ (hKernel : Cert.Kernel.Facts) (hKernelIdeal : Cert.KernelIdeal.Facts) (hFfn : Cert.Ffn.Facts) (hFfnIdeal : Cert.FfnIdeal.Facts) (hFfnReferenceIdeal : Cert.FfnReferenceIdeal.Facts) (hProj : Cert.Proj.Facts) (hProjIdeal : Cert.ProjIdeal.Facts) (hProjReferenceIdeal : Cert.ProjReferenceIdeal.Facts) (hSgu : Cert.Sgu.Facts) (hSguIdeal : Cert.SguIdeal.Facts) (hSguReferenceIdeal : Cert.SguReferenceIdeal.Facts),
    quiescent_Kernel (hKernel := hKernel)
    ∧ quiescent_KernelIdeal (hKernelIdeal := hKernelIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Sgu (hSgu := hSgu)
    ∧ quiescent_SguIdeal (hSguIdeal := hSguIdeal)
    ∧ quiescent_SguReferenceIdeal (hSguReferenceIdeal := hSguReferenceIdeal)
    ∧ preserves_Kernel_KernelIdeal
    ∧ preserves_Ffn_FfnIdeal
    ∧ algebraic_FfnIdeal_FfnReferenceIdeal (hFfnIdeal := hFfnIdeal) (hFfnReferenceIdeal := hFfnReferenceIdeal)
    ∧ preserves_Proj_ProjIdeal
    ∧ algebraic_ProjIdeal_ProjReferenceIdeal (hProjIdeal := hProjIdeal) (hProjReferenceIdeal := hProjReferenceIdeal)
    ∧ preserves_Sgu_SguIdeal
    ∧ algebraic_SguIdeal_SguReferenceIdeal (hSguIdeal := hSguIdeal) (hSguReferenceIdeal := hSguReferenceIdeal)
-- ==== Kernel.lean ====
abbrev S8x4096x1280 : Shape := ⟨3, ![8, 4096, 1280]⟩
abbrev S8x4096x896 : Shape := ⟨3, ![8, 4096, 896]⟩
abbrev S8x1280x4096 : Shape := ⟨3, ![8, 1280, 4096]⟩
abbrev S1x128 : Shape := ⟨2, ![1, 128]⟩
abbrev S8x2x256x64 : Shape := ⟨4, ![8, 2, 256, 64]⟩
abbrev S8x2x64x256 : Shape := ⟨4, ![8, 2, 64, 256]⟩
abbrev S64x256 : Shape := ⟨2, ![64, 256]⟩
abbrev S_ : Shape := ⟨0, ![]⟩
abbrev S4096x192 : Shape := ⟨2, ![4096, 192]⟩
abbrev S128x256 : Shape := ⟨2, ![128, 256]⟩
abbrev S256x64 : Shape := ⟨2, ![256, 64]⟩
abbrev S3x256x256 : Shape := ⟨3, ![3, 256, 256]⟩
abbrev S8x4096x512 : Shape := ⟨3, ![8, 4096, 512]⟩
abbrev S1x256x512 : Shape := ⟨3, ![1, 256, 512]⟩
abbrev S1x256x128 : Shape := ⟨3, ![1, 256, 128]⟩
abbrev S1x2x256x64 : Shape := ⟨4, ![1, 2, 256, 64]⟩
abbrev S1x2x64x256 : Shape := ⟨4, ![1, 2, 64, 256]⟩
abbrev S1x4096x128 : Shape := ⟨3, ![1, 4096, 128]⟩
abbrev S1x128x4096 : Shape := ⟨3, ![1, 128, 4096]⟩
abbrev S2x4096x256 : Shape := ⟨3, ![2, 4096, 256]⟩
abbrev S2x256x128 : Shape := ⟨3, ![2, 256, 128]⟩
abbrev S2x80x4096 : Shape := ⟨3, ![2, 80, 4096]⟩
abbrev S2x2x256x1024 : Shape := ⟨4, ![2, 2, 256, 1024]⟩
abbrev S2x3x256x1024 : Shape := ⟨4, ![2, 3, 256, 1024]⟩
abbrev S1x4096x64 : Shape := ⟨3, ![1, 4096, 64]⟩
abbrev S4096x64 : Shape := ⟨2, ![4096, 64]⟩
abbrev S1x4096x192 : Shape := ⟨3, ![1, 4096, 192]⟩
abbrev S1x1x256x64 : Shape := ⟨4, ![1, 1, 256, 64]⟩
abbrev S1x256x64 : Shape := ⟨3, ![1, 256, 64]⟩
abbrev S1x64x4096 : Shape := ⟨3, ![1, 64, 4096]⟩
abbrev S64x4096 : Shape := ⟨2, ![64, 4096]⟩
abbrev S16x4096 : Shape := ⟨2, ![16, 4096]⟩
abbrev S1x16x4096 : Shape := ⟨3, ![1, 16, 4096]⟩
abbrev S1x256x256 : Shape := ⟨3, ![1, 256, 256]⟩
abbrev S256x256 : Shape := ⟨2, ![256, 256]⟩
abbrev S1x1024 : Shape := ⟨2, ![1, 1024]⟩
abbrev S80x1024 : Shape := ⟨2, ![80, 1024]⟩
abbrev S128x1024 : Shape := ⟨2, ![128, 1024]⟩
abbrev S256x1024 : Shape := ⟨2, ![256, 1024]⟩
abbrev S256x128 : Shape := ⟨2, ![256, 128]⟩
abbrev S1x4096x256 : Shape := ⟨3, ![1, 4096, 256]⟩
abbrev S4096x256 : Shape := ⟨2, ![4096, 256]⟩
abbrev S1x1x256x1024 : Shape := ⟨4, ![1, 1, 256, 1024]⟩
abbrev S1024 : Shape := ⟨1, ![1024]⟩
abbrev S1x1x64x256 : Shape := ⟨4, ![1, 1, 64, 256]⟩
abbrev S64x1024 : Shape := ⟨2, ![64, 1024]⟩
abbrev S8x256 : Shape := ⟨2, ![8, 256]⟩
abbrev S1x256 : Shape := ⟨2, ![1, 256]⟩
abbrev S48x256 : Shape := ⟨2, ![48, 256]⟩
abbrev S16x256 : Shape := ⟨2, ![16, 256]⟩
abbrev S32x256 : Shape := ⟨2, ![32, 256]⟩
abbrev S1x80x256 : Shape := ⟨3, ![1, 80, 256]⟩
abbrev S80x256 : Shape := ⟨2, ![80, 256]⟩
abbrev S1x80x4096 : Shape := ⟨3, ![1, 80, 4096]⟩
abbrev S80x4096 : Shape := ⟨2, ![80, 4096]⟩
abbrev S512x256 : Shape := ⟨2, ![512, 256]⟩
abbrev S256x512 : Shape := ⟨2, ![256, 512]⟩

abbrev nBuf : Space → Nat
  | .hbm => 187
  | .vmem => 34
  | .smem => 0
  | _ => 0

abbrev hbmTy0_0 (i : Nat) : BufTy := match i % 128 with
  | 0 => ⟨S8x4096x1280, .bf16⟩
  | 1 => ⟨S8x4096x896, .f32⟩
  | 2 => ⟨S8x1280x4096, .bf16⟩
  | 3 => ⟨S1x128, .f32⟩
  | 4 => ⟨S8x2x256x64, .bf16⟩
  | 5 => ⟨S8x2x64x256, .bf16⟩
  | 6 => ⟨S64x256, .i32⟩
  | 7 => ⟨S64x256, .i32⟩
  | 8 => ⟨S_, .i32⟩
  | 9 => ⟨S64x256, .i32⟩
  | 10 => ⟨S64x256, .i32⟩
  | 11 => ⟨S_, .i32⟩
  | 12 => ⟨S64x256, .i32⟩
  | 13 => ⟨S64x256, .i32⟩
  | 14 => ⟨S_, .i32⟩
  | 15 => ⟨S64x256, .i32⟩
  | 16 => ⟨S64x256, .i32⟩
  | 17 => ⟨S64x256, .i1⟩
  | 18 => ⟨S_, .i32⟩
  | 19 => ⟨S64x256, .i32⟩
  | 20 => ⟨S64x256, .i32⟩
  | 21 => ⟨S_, .i32⟩
  | 22 => ⟨S64x256, .i32⟩
  | 23 => ⟨S64x256, .i32⟩
  | 24 => ⟨S_, .i32⟩
  | 25 => ⟨S64x256, .i32⟩
  | 26 => ⟨S64x256, .i32⟩
  | 27 => ⟨S64x256, .i1⟩
  | 28 => ⟨S64x256, .i1⟩
  | 29 => ⟨S_, .i32⟩
  | 30 => ⟨S64x256, .i32⟩
  | 31 => ⟨S64x256, .i1⟩
  | 32 => ⟨S64x256, .i1⟩
  | 33 => ⟨S_, .f32⟩
  | 34 => ⟨S_, .f32⟩
  | 35 => ⟨S64x256, .f32⟩
  | 36 => ⟨S64x256, .f32⟩
  | 37 => ⟨S64x256, .f32⟩
  | 38 => ⟨S4096x192, .i32⟩
  | 39 => ⟨S4096x192, .i32⟩
  | 40 => ⟨S_, .i32⟩
  | 41 => ⟨S4096x192, .i32⟩
  | 42 => ⟨S4096x192, .i32⟩
  | 43 => ⟨S_, .i32⟩
  | 44 => ⟨S4096x192, .i32⟩
  | 45 => ⟨S4096x192, .i32⟩
  | 46 => ⟨S_, .i32⟩
  | 47 => ⟨S4096x192, .i32⟩
  | 48 => ⟨S4096x192, .i1⟩
  | 49 => ⟨S4096x192, .i1⟩
  | 50 => ⟨S_, .f32⟩
  | 51 => ⟨S_, .f32⟩
  | 52 => ⟨S4096x192, .f32⟩
  | 53 => ⟨S4096x192, .f32⟩
  | 54 => ⟨S4096x192, .f32⟩
  | 55 => ⟨S_, .i32⟩
  | 56 => ⟨S4096x192, .i32⟩
  | 57 => ⟨S4096x192, .i1⟩
  | 58 => ⟨S4096x192, .f32⟩
  | 59 => ⟨S_, .i32⟩
  | 60 => ⟨S4096x192, .i32⟩
  | 61 => ⟨S4096x192, .i1⟩
  | 62 => ⟨S4096x192, .f32⟩
  | 63 => ⟨S_, .f32⟩
  | 64 => ⟨S_, .f32⟩
  | 65 => ⟨S4096x192, .f32⟩
  | 66 => ⟨S4096x192, .f32⟩
  | 67 => ⟨S4096x192, .f32⟩
  | 68 => ⟨S4096x192, .f32⟩
  | 69 => ⟨S4096x192, .f32⟩
  | 70 => ⟨S4096x192, .bf16⟩
  | 71 => ⟨S128x256, .i32⟩
  | 72 => ⟨S128x256, .i32⟩
  | 73 => ⟨S256x64, .i32⟩
  | 74 => ⟨S256x64, .i32⟩
  | 75 => ⟨S64x256, .i32⟩
  | 76 => ⟨S64x256, .i32⟩
  | 77 => ⟨S_, .f32⟩
  | 78 => ⟨S_, .f32⟩
  | 79 => ⟨S_, .f32⟩
  | 80 => ⟨S_, .f32⟩
  | 81 => ⟨S_, .bf16⟩
  | 82 => ⟨S_, .f32⟩
  | 83 => ⟨S_, .f32⟩
  | 84 => ⟨S_, .bf16⟩
  | 85 => ⟨S_, .f32⟩
  | 86 => ⟨S_, .f32⟩
  | 87 => ⟨S_, .f32⟩
  | 88 => ⟨S_, .bf16⟩
  | 89 => ⟨S_, .f32⟩
  | 90 => ⟨S_, .i32⟩
  | 91 => ⟨S128x256, .i32⟩
  | 92 => ⟨S128x256, .i1⟩
  | 93 => ⟨S_, .i32⟩
  | 94 => ⟨S128x256, .i32⟩
  | 95 => ⟨S128x256, .i1⟩
  | 96 => ⟨S_, .i32⟩
  | 97 => ⟨S128x256, .i32⟩
  | 98 => ⟨S128x256, .i1⟩
  | 99 => ⟨S_, .i32⟩
  | 100 => ⟨S128x256, .i32⟩
  | 101 => ⟨S128x256, .i1⟩
  | 102 => ⟨S_, .f32⟩
  | 103 => ⟨S_, .f32⟩
  | 104 => ⟨S128x256, .f32⟩
  | 105 => ⟨S128x256, .f32⟩
  | 106 => ⟨S128x256, .f32⟩
  | 107 => ⟨S128x256, .f32⟩
  | 108 => ⟨S128x256, .f32⟩
  | 109 => ⟨S128x256, .f32⟩
  | 110 => ⟨S128x256, .f32⟩
  | 111 => ⟨S_, .f32⟩
  | 112 => ⟨S128x256, .f32⟩
  | 113 => ⟨S128x256, .f32⟩
  | 114 => ⟨S_, .i32⟩
  | 115 => ⟨S128x256, .i32⟩
  | 116 => ⟨S128x256, .i32⟩
  | 117 => ⟨S_, .i32⟩
  | 118 => ⟨S128x256, .i32⟩
  | 119 => ⟨S128x256, .i1⟩
  | 120 => ⟨S_, .i32⟩
  | 121 => ⟨S128x256, .i32⟩
  | 122 => ⟨S128x256, .i1⟩
  | 123 => ⟨S_, .i32⟩
  | 124 => ⟨S128x256, .i32⟩
  | 125 => ⟨S128x256, .i1⟩
  | 126 => ⟨S_, .f32⟩
  | 127 => ⟨S_, .f32⟩
  | _ => ⟨S8x4096x1280, .bf16⟩

abbrev hbmTy0_1 (i : Nat) : BufTy := match i % 128 with
  | 0 => ⟨S128x256, .f32⟩
  | 1 => ⟨S128x256, .f32⟩
  | 2 => ⟨S128x256, .f32⟩
  | 3 => ⟨S128x256, .f32⟩
  | 4 => ⟨S128x256, .f32⟩
  | 5 => ⟨S128x256, .f32⟩
  | 6 => ⟨S128x256, .f32⟩
  | 7 => ⟨S128x256, .f32⟩
  | 8 => ⟨S_, .i32⟩
  | 9 => ⟨S256x64, .i32⟩
  | 10 => ⟨S256x64, .i1⟩
  | 11 => ⟨S256x64, .f32⟩
  | 12 => ⟨S_, .f32⟩
  | 13 => ⟨S_, .f32⟩
  | 14 => ⟨S256x64, .f32⟩
  | 15 => ⟨S256x64, .f32⟩
  | 16 => ⟨S256x64, .bf16⟩
  | 17 => ⟨S_, .i32⟩
  | 18 => ⟨S64x256, .i32⟩
  | 19 => ⟨S64x256, .i1⟩
  | 20 => ⟨S_, .i32⟩
  | 21 => ⟨S64x256, .i32⟩
  | 22 => ⟨S64x256, .i1⟩
  | 23 => ⟨S_, .i32⟩
  | 24 => ⟨S64x256, .i32⟩
  | 25 => ⟨S64x256, .i1⟩
  | 26 => ⟨S_, .f32⟩
  | 27 => ⟨S_, .f32⟩
  | 28 => ⟨S64x256, .f32⟩
  | 29 => ⟨S64x256, .f32⟩
  | 30 => ⟨S64x256, .f32⟩
  | 31 => ⟨S64x256, .f32⟩
  | 32 => ⟨S64x256, .f32⟩
  | 33 => ⟨S64x256, .f32⟩
  | 34 => ⟨S64x256, .f32⟩
  | 35 => ⟨S_, .f32⟩
  | 36 => ⟨S64x256, .f32⟩
  | 37 => ⟨S64x256, .f32⟩
  | 38 => ⟨S3x256x256, .i32⟩
  | 39 => ⟨S3x256x256, .i32⟩
  | 40 => ⟨S3x256x256, .i32⟩
  | 41 => ⟨S_, .i32⟩
  | 42 => ⟨S3x256x256, .i32⟩
  | 43 => ⟨S3x256x256, .i32⟩
  | 44 => ⟨S3x256x256, .i32⟩
  | 45 => ⟨S3x256x256, .i32⟩
  | 46 => ⟨S_, .i32⟩
  | 47 => ⟨S3x256x256, .i32⟩
  | 48 => ⟨S3x256x256, .i1⟩
  | 49 => ⟨S_, .i32⟩
  | 50 => ⟨S3x256x256, .i32⟩
  | 51 => ⟨S3x256x256, .i1⟩
  | 52 => ⟨S3x256x256, .i1⟩
  | 53 => ⟨S_, .f32⟩
  | 54 => ⟨S_, .f32⟩
  | 55 => ⟨S3x256x256, .f32⟩
  | 56 => ⟨S3x256x256, .f32⟩
  | 57 => ⟨S3x256x256, .f32⟩
  | 58 => ⟨S8x4096x512, .bf16⟩
  | _ => ⟨S8x4096x1280, .bf16⟩

abbrev hbmTy (i : Nat) : BufTy := match i / 128 with
  | 0 => hbmTy0_0 i
  | 1 => hbmTy0_1 i
  | _ => ⟨S8x4096x1280, .bf16⟩

abbrev bufTy : (tb : Table) → Fin (tcTables nBuf tb) → BufTy
  | .hbm, ⟨i, _⟩ => hbmTy i
  | .local _ .vmem, ⟨0, _⟩ => ⟨S1x256x512, .bf16⟩
  | .local _ .vmem, ⟨1, _⟩ => ⟨S1x256x512, .bf16⟩
  | .local _ .vmem, ⟨2, _⟩ => ⟨S1x256x128, .f32⟩
  | .local _ .vmem, ⟨3, _⟩ => ⟨S1x256x128, .f32⟩
  | .local _ .vmem, ⟨4, _⟩ => ⟨S1x128, .f32⟩
  | .local _ .vmem, ⟨5, _⟩ => ⟨S1x2x256x64, .bf16⟩
  | .local _ .vmem, ⟨6, _⟩ => ⟨S1x2x256x64, .bf16⟩
  | .local _ .vmem, ⟨7, _⟩ => ⟨S1x2x64x256, .bf16⟩
  | .local _ .vmem, ⟨8, _⟩ => ⟨S1x2x64x256, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x128x4096, .bf16⟩
  | .local _ .vmem, ⟨12, _⟩ => ⟨S1x128x4096, .bf16⟩
  | .local _ .vmem, ⟨13, _⟩ => ⟨S1x4096x128, .bf16⟩
  | .local _ .vmem, ⟨14, _⟩ => ⟨S1x4096x128, .bf16⟩
  | .local _ .vmem, ⟨15, _⟩ => ⟨S1x128x4096, .bf16⟩
  | .local _ .vmem, ⟨16, _⟩ => ⟨S1x128x4096, .bf16⟩
  | .local _ .vmem, ⟨17, _⟩ => ⟨S64x256, .f32⟩
  | .local _ .vmem, ⟨18, _⟩ => ⟨S4096x192, .bf16⟩
  | .local _ .vmem, ⟨19, _⟩ => ⟨S256x64, .bf16⟩
  | .local _ .vmem, ⟨20, _⟩ => ⟨S128x256, .f32⟩
  | .local _ .vmem, ⟨21, _⟩ => ⟨S64x256, .f32⟩
  | .local _ .vmem, ⟨22, _⟩ => ⟨S3x256x256, .f32⟩
  | .local _ .vmem, ⟨23, _⟩ => ⟨S1x256x512, .bf16⟩
  | .local _ .vmem, ⟨24, _⟩ => ⟨S1x256x512, .bf16⟩
  | .local _ .vmem, ⟨25, _⟩ => ⟨S2x4096x256, .bf16⟩
  | .local _ .vmem, ⟨26, _⟩ => ⟨S2x4096x256, .bf16⟩
  | .local _ .vmem, ⟨27, _⟩ => ⟨S2x256x128, .bf16⟩
  | .local _ .vmem, ⟨28, _⟩ => ⟨S2x80x4096, .bf16⟩
  | .local _ .vmem, ⟨29, _⟩ => ⟨S2x80x4096, .bf16⟩
  | .local _ .vmem, ⟨30, _⟩ => ⟨S2x2x256x1024, .f32⟩
  | .local _ .vmem, ⟨31, _⟩ => ⟨S2x2x256x1024, .bf16⟩
  | .local _ .vmem, ⟨32, _⟩ => ⟨S2x3x256x1024, .f32⟩
  | .local _ .vmem, ⟨33, _⟩ => ⟨S2x3x256x1024, .bf16⟩
  | _, _ => ⟨S8x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_7 : Ref sig .tc := ⟨.hbm, 40, rfl⟩
abbrev main_v23 : Ref sig .tc := ⟨.hbm, 41, rfl⟩
abbrev main_v24 : Ref sig .tc := ⟨.hbm, 42, rfl⟩
abbrev main_c_8 : Ref sig .tc := ⟨.hbm, 43, rfl⟩
abbrev main_v25 : Ref sig .tc := ⟨.hbm, 44, rfl⟩
abbrev main_v26 : Ref sig .tc := ⟨.hbm, 45, rfl⟩
abbrev main_c_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_cst_11 : Ref sig .tc := ⟨.hbm, 51, rfl⟩
abbrev main_call1_v0 : Ref sig .tc := ⟨.hbm, 52, rfl⟩
abbrev main_call1_v1 : Ref sig .tc := ⟨.hbm, 53, rfl⟩
abbrev main_v30 : Ref sig .tc := ⟨.hbm, 54, rfl⟩
abbrev main_c_12 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_13 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_14 : Ref sig .tc := ⟨.hbm, 63, rfl⟩
abbrev main_call2_v0 : Ref sig .tc := ⟨.hbm, 64, rfl⟩
abbrev main_call2_v1 : Ref sig .tc := ⟨.hbm, 65, rfl⟩
abbrev main_v37 : Ref sig .tc := ⟨.hbm, 66, rfl⟩
abbrev main_v38 : Ref sig .tc := ⟨.hbm, 67, rfl⟩
abbrev main_call4_v0 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_15 : Ref sig .tc := ⟨.hbm, 77, rfl⟩
abbrev main_v47 : Ref sig .tc := ⟨.hbm, 78, rfl⟩
abbrev main_cst_16 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_17 : Ref sig .tc := ⟨.hbm, 90, rfl⟩
abbrev main_v58 : Ref sig .tc := ⟨.hbm, 91, rfl⟩
abbrev main_v59 : Ref sig .tc := ⟨.hbm, 92, rfl⟩
abbrev main_c_18 : Ref sig .tc := ⟨.hbm, 93, rfl⟩
abbrev main_v60 : Ref sig .tc := ⟨.hbm, 94, rfl⟩
abbrev main_v61 : Ref sig .tc := ⟨.hbm, 95, rfl⟩
abbrev main_c_19 : Ref sig .tc := ⟨.hbm, 96, rfl⟩
abbrev main_v62 : Ref sig .tc := ⟨.hbm, 97, rfl⟩
abbrev main_v63 : Ref sig .tc := ⟨.hbm, 98, rfl⟩
abbrev main_c_20 : Ref sig .tc := ⟨.hbm, 99, rfl⟩
abbrev main_v64 : Ref sig .tc := ⟨.hbm, 100, rfl⟩
abbrev main_v65 : Ref sig .tc := ⟨.hbm, 101, rfl⟩
abbrev main_cst_21 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_v66 : Ref sig .tc := ⟨.hbm, 106, rfl⟩
abbrev main_call6_v0 : Ref sig .tc := ⟨.hbm, 107, rfl⟩
abbrev main_v67 : Ref sig .tc := ⟨.hbm, 108, rfl⟩
abbrev main_call7_v0 : Ref sig .tc := ⟨.hbm, 109, rfl⟩
abbrev main_v68 : Ref sig .tc := ⟨.hbm, 110, rfl⟩
abbrev main_cst_22 : Ref sig .tc := ⟨.hbm, 111, rfl⟩
abbrev main_v69 : Ref sig .tc := ⟨.hbm, 112, rfl⟩
abbrev main_v70 : Ref sig .tc := ⟨.hbm, 113, rfl⟩
abbrev main_c_23 : Ref sig .tc := ⟨.hbm, 114, rfl⟩
abbrev main_v71 : Ref sig .tc := ⟨.hbm, 115, rfl⟩
abbrev main_v72 : Ref sig .tc := ⟨.hbm, 116, rfl⟩
abbrev main_c_24 : Ref sig .tc := ⟨.hbm, 117, rfl⟩
abbrev main_v73 : Ref sig .tc := ⟨.hbm, 118, rfl⟩
abbrev main_v74 : Ref sig .tc := ⟨.hbm, 119, rfl⟩
abbrev main_c_25 : Ref sig .tc := ⟨.hbm, 120, rfl⟩
abbrev main_v75 : Ref sig .tc := ⟨.hbm, 121, rfl⟩
abbrev main_v76 : Ref sig .tc := ⟨.hbm, 122, rfl⟩
abbrev main_c_26 : Ref sig .tc := ⟨.hbm, 123, rfl⟩
abbrev main_v77 : Ref sig .tc := ⟨.hbm, 124, rfl⟩
abbrev main_v78 : Ref sig .tc := ⟨.hbm, 125, rfl⟩
abbrev main_cst_27 : Ref sig .tc := ⟨.hbm, 126, rfl⟩
abbrev main_call8_v0 : Ref sig .tc := ⟨.hbm, 127, rfl⟩
abbrev main_call8_v1 : Ref sig .tc := ⟨.hbm, 128, rfl⟩
abbrev main_call8_v2 : Ref sig .tc := ⟨.hbm, 129, rfl⟩
abbrev main_v79 : Ref sig .tc := ⟨.hbm, 130, rfl⟩
abbrev main_call9_v0 : Ref sig .tc := ⟨.hbm, 131, rfl⟩
abbrev main_v80 : Ref sig .tc := ⟨.hbm, 132, rfl⟩
abbrev main_call10_v0 : Ref sig .tc := ⟨.hbm, 133, rfl⟩
abbrev main_v81 : Ref sig .tc := ⟨.hbm, 134, rfl⟩
abbrev main_v82 : Ref sig .tc := ⟨.hbm, 135, rfl⟩
abbrev main_c_28 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_29 : Ref sig .tc := ⟨.hbm, 140, rfl⟩
abbrev main_call12_v0 : Ref sig .tc := ⟨.hbm, 141, rfl⟩
abbrev main_call12_v1 : Ref sig .tc := ⟨.hbm, 142, rfl⟩
abbrev main_v86 : Ref sig .tc := ⟨.hbm, 143, rfl⟩
abbrev main_v87 : Ref sig .tc := ⟨.hbm, 144, rfl⟩
abbrev main_c_30 : Ref sig .tc := ⟨.hbm, 145, rfl⟩
abbrev main_v88 : Ref sig .tc := ⟨.hbm, 146, rfl⟩
abbrev main_v89 : Ref sig .tc := ⟨.hbm, 147, rfl⟩
abbrev main_c_31 : Ref sig .tc := ⟨.hbm, 148, rfl⟩
abbrev main_v90 : Ref sig .tc := ⟨.hbm, 149, rfl⟩
abbrev main_v91 : Ref sig .tc := ⟨.hbm, 150, rfl⟩
abbrev main_c_32 : Ref sig .tc := ⟨.hbm, 151, rfl⟩
abbrev main_v92 : Ref sig .tc := ⟨.hbm, 152, rfl⟩
abbrev main_v93 : Ref sig .tc := ⟨.hbm, 153, rfl⟩
abbrev main_cst_33 : Ref sig .tc := ⟨.hbm, 154, rfl⟩
abbrev main_call13_v0 : Ref sig .tc := ⟨.hbm, 155, rfl⟩
abbrev main_call13_v1 : Ref sig .tc := ⟨.hbm, 156, rfl⟩
abbrev main_call13_v2 : Ref sig .tc := ⟨.hbm, 157, rfl⟩
abbrev main_v94 : Ref sig .tc := ⟨.hbm, 158, rfl⟩
abbrev main_call14_v0 : Ref sig .tc := ⟨.hbm, 159, rfl⟩
abbrev main_v95 : Ref sig .tc := ⟨.hbm, 160, rfl⟩
abbrev main_call15_v0 : Ref sig .tc := ⟨.hbm, 161, rfl⟩
abbrev main_v96 : Ref sig .tc := ⟨.hbm, 162, rfl⟩
abbrev main_cst_34 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_c_35 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_c_36 : Ref sig .tc := ⟨.hbm, 174, rfl⟩
abbrev main_v106 : Ref sig .tc := ⟨.hbm, 175, rfl⟩
abbrev main_v107 : Ref sig .tc := ⟨.hbm, 176, rfl⟩
abbrev main_c_37 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_cst_38 : Ref sig .tc := ⟨.hbm, 181, rfl⟩
abbrev main_cst_39 : Ref sig .tc := ⟨.hbm, 182, rfl⟩
abbrev main_call16_v0 : Ref sig .tc := ⟨.hbm, 183, rfl⟩
abbrev main_call16_v1 : Ref sig .tc := ⟨.hbm, 184, rfl⟩
abbrev main_v111 : Ref sig .tc := ⟨.hbm, 185, rfl⟩
abbrev main_v112 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c0_i32_73 : BitVec 32 := 0#32
  let v165 : BitVec 32 := Scalar.subi v17 c0_i32_73
  let c0_i32_74 : BitVec 32 := 0#32
  let v166 : BitVec 32 := Scalar.maxsi v165 c0_i32_74
  let c256_i32_78 : BitVec 32 := 256#32
  let v170 : BitVec 32 := Scalar.muli v166 c256_i32_78
  v170
def k0_off1 (i : grid0.Coords) (c0_i32_73 : BitVec 32) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let v165 : BitVec 32 := Scalar.subi v17 c0_i32_73
  let c0_i32_74 : BitVec 32 := 0#32
  let v166 : BitVec 32 := Scalar.maxsi v165 c0_i32_74
  let c256_i32_78 : BitVec 32 := 256#32
  let v170 : BitVec 32 := Scalar.muli v166 c256_i32_78
  let v171 : BitVec 32 := v170
  let v174 : Index := Scalar.indexCast v171
  let c0_82 : Index := 0#32
  ![v174.toNat, 0]
def k0_mult2 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c0_i32_73 : BitVec 32 := 0#32
  let v165 : BitVec 32 := Scalar.subi v17 c0_i32_73
  let c0_i32_74 : BitVec 32 := 0#32
  let v166 : BitVec 32 := Scalar.maxsi v165 c0_i32_74
  let c256_i32_89 : BitVec 32 := 256#32
  let v183 : BitVec 32 := Scalar.muli v166 c256_i32_89
  v183
def k0_mult3 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_100 : BitVec 32 := 1#32
  let v196 : BitVec 32 := Scalar.subi v17 c1_i32_100
  let c0_i32_101 : BitVec 32 := 0#32
  let v197 : BitVec 32 := Scalar.maxsi v196 c0_i32_101
  let c256_i32_105 : BitVec 32 := 256#32
  let v200 : BitVec 32 := Scalar.muli v197 c256_i32_105
  v200
def k0_mult4 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_100 : BitVec 32 := 1#32
  let v196 : BitVec 32 := Scalar.subi v17 c1_i32_100
  let c0_i32_101 : BitVec 32 := 0#32
  let v197 : BitVec 32 := Scalar.maxsi v196 c0_i32_101
  let c256_i32_116 : BitVec 32 := 256#32
  let v214 : BitVec 32 := Scalar.muli v197 c256_i32_116
  v214
def k0_mult5 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c2_i32 : BitVec 32 := 2#32
  let v228 : BitVec 32 := Scalar.subi v17 c2_i32
  let c0_i32_127 : BitVec 32 := 0#32
  let v229 : BitVec 32 := Scalar.maxsi v228 c0_i32_127
  let c256_i32_133 : BitVec 32 := 256#32
  let v237 : BitVec 32 := Scalar.muli v229 c256_i32_133
  v237
def k0_mult6 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c2_i32 : BitVec 32 := 2#32
  let v228 : BitVec 32 := Scalar.subi v17 c2_i32
  let c0_i32_127 : BitVec 32 := 0#32
  let v229 : BitVec 32 := Scalar.maxsi v228 c0_i32_127
  let c256_i32_144 : BitVec 32 := 256#32
  let v250 : BitVec 32 := Scalar.muli v229 c256_i32_144
  v250
def k0_mult7 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c256_i32_256 : BitVec 32 := 256#32
  let v515 : BitVec 32 := Scalar.muli v17 c256_i32_256
  v515
def k0_off2 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c256_i32_256 : BitVec 32 := 256#32
  let v515 : BitVec 32 := Scalar.muli v17 c256_i32_256
  let v516 : BitVec 32 := v515
  let v519 : Index := Scalar.indexCast v516
  let c0_260 : Index := 0#32
  ![v519.toNat, 0]
def k0_mult8 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c256_i32_267 : BitVec 32 := 256#32
  let v528 : BitVec 32 := Scalar.muli v17 c256_i32_267
  v528
def k0_mult9 (i : grid0.Coords) : BitVec 32 :=
  let v_false : BitVec 1 := 0#1
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c0_i32_294 : BitVec 32 := 0#32
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v565 : BitVec 32 := Scalar.subi c0_i32_294 v509
  let c0_i32_295 : BitVec 32 := 0#32
  let v566 : BitVec 32 := Scalar.maxsi v565 c0_i32_295
  let v567 : BitVec 32 := Scalar.select v_false v17 v566
  let c256_i32_299 : BitVec 32 := 256#32
  let v570 : BitVec 32 := Scalar.muli v567 c256_i32_299
  v570
def k0_off3 (i : grid0.Coords) : Fin 2 → Nat :=
  let v_false : BitVec 1 := 0#1
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c0_i32_294 : BitVec 32 := 0#32
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v565 : BitVec 32 := Scalar.subi c0_i32_294 v509
  let c0_i32_295 : BitVec 32 := 0#32
  let v566 : BitVec 32 := Scalar.maxsi v565 c0_i32_295
  let v567 : BitVec 32 := Scalar.select v_false v17 v566
  let c256_i32_299 : BitVec 32 := 256#32
  let v570 : BitVec 32 := Scalar.muli v567 c256_i32_299
  let v571 : BitVec 32 := v570
  let v574 : Index := Scalar.indexCast v571
  let c0_303 : Index := 0#32
  ![v574.toNat, 0]
def k0_mult10 (i : grid0.Coords) : BitVec 32 :=
  let v_false : BitVec 1 := 0#1
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c0_i32_294 : BitVec 32 := 0#32
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v565 : BitVec 32 := Scalar.subi c0_i32_294 v509
  let c0_i32_295 : BitVec 32 := 0#32
  let v566 : BitVec 32 := Scalar.maxsi v565 c0_i32_295
  let v567 : BitVec 32 := Scalar.select v_false v17 v566
  let c256_i32_310 : BitVec 32 := 256#32
  let v584 : BitVec 32 := Scalar.muli v567 c256_i32_310
  v584
def k0_mult11 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c0_i32_73 : BitVec 32 := 0#32
  let v165 : BitVec 32 := Scalar.subi v17 c0_i32_73
  let c0_i32_74 : BitVec 32 := 0#32
  let v166 : BitVec 32 := Scalar.maxsi v165 c0_i32_74
  let c256_i32_337 : BitVec 32 := 256#32
  let v620 : BitVec 32 := Scalar.muli v166 c256_i32_337
  v620
def k0_off4 (i : grid0.Coords) (c0_i32_73 : BitVec 32) : Fin 3 → Nat :=
  let c0_338 : Index := 0#32
  let c0_339 : Index := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let v165 : BitVec 32 := Scalar.subi v17 c0_i32_73
  let c0_i32_74 : BitVec 32 := 0#32
  let v166 : BitVec 32 := Scalar.maxsi v165 c0_i32_74
  let c256_i32_337 : BitVec 32 := 256#32
  let v620 : BitVec 32 := Scalar.muli v166 c256_i32_337
  let v621 : BitVec 32 := v620
  let v622 : Index := Scalar.indexCast v621
  ![0, 0, v622.toNat]
def k0_mult12 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c0_i32_73 : BitVec 32 := 0#32
  let v165 : BitVec 32 := Scalar.subi v17 c0_i32_73
  let c0_i32_74 : BitVec 32 := 0#32
  let v166 : BitVec 32 := Scalar.maxsi v165 c0_i32_74
  let c256_i32_345 : BitVec 32 := 256#32
  let v628 : BitVec 32 := Scalar.muli v166 c256_i32_345
  v628
def k0_off5 (i : grid0.Coords) (c0_i32_73 : BitVec 32) : Fin 3 → Nat :=
  let c1_346 : Index := 1#32
  let c0_347 : Index := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let v165 : BitVec 32 := Scalar.subi v17 c0_i32_73
  let c0_i32_74 : BitVec 32 := 0#32
  let v166 : BitVec 32 := Scalar.maxsi v165 c0_i32_74
  let c256_i32_345 : BitVec 32 := 256#32
  let v628 : BitVec 32 := Scalar.muli v166 c256_i32_345
  let v629 : BitVec 32 := v628
  let v630 : Index := Scalar.indexCast v629
  ![1, 0, v630.toNat]
def k0_mult13 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_100 : BitVec 32 := 1#32
  let v196 : BitVec 32 := Scalar.subi v17 c1_i32_100
  let c0_i32_101 : BitVec 32 := 0#32
  let v197 : BitVec 32 := Scalar.maxsi v196 c0_i32_101
  let c256_i32_369 : BitVec 32 := 256#32
  let v654 : BitVec 32 := Scalar.muli v197 c256_i32_369
  v654
def k0_mult14 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_100 : BitVec 32 := 1#32
  let v196 : BitVec 32 := Scalar.subi v17 c1_i32_100
  let c0_i32_101 : BitVec 32 := 0#32
  let v197 : BitVec 32 := Scalar.maxsi v196 c0_i32_101
  let c256_i32_377 : BitVec 32 := 256#32
  let v663 : BitVec 32 := Scalar.muli v197 c256_i32_377
  v663
def k0_mult15 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c2_i32 : BitVec 32 := 2#32
  let v228 : BitVec 32 := Scalar.subi v17 c2_i32
  let c0_i32_127 : BitVec 32 := 0#32
  let v229 : BitVec 32 := Scalar.maxsi v228 c0_i32_127
  let c256_i32_401 : BitVec 32 := 256#32
  let v690 : BitVec 32 := Scalar.muli v229 c256_i32_401
  v690
def k0_mult16 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c2_i32 : BitVec 32 := 2#32
  let v228 : BitVec 32 := Scalar.subi v17 c2_i32
  let c0_i32_127 : BitVec 32 := 0#32
  let v229 : BitVec 32 := Scalar.maxsi v228 c0_i32_127
  let c256_i32_409 : BitVec 32 := 256#32
  let v699 : BitVec 32 := Scalar.muli v229 c256_i32_409
  v699
@[reducible] def k0_t1_loop (i : grid0.Coords) : Scf.Loop 32 :=
  let c0_i32_427 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_419 : BitVec 32 := 2#32
  let v720 : BitVec 32 := Scalar.subi v511 c2_i32_419
  let c0_i32_421 : BitVec 32 := 0#32
  let v722 : BitVec 1 := Scalar.cmpi .sgt v720 c0_i32_421
  let v723 : BitVec 32 := Scalar.extui v722
  let c0_i32_422 : BitVec 32 := 0#32
  let v724 : BitVec 1 := Scalar.cmpi .slt v720 c0_i32_422
  let v725 : BitVec 32 := Scalar.extui v724
  let v726 : BitVec 32 := Scalar.subi v723 v725
  let c2_i32_420 : BitVec 32 := 2#32
  let c0_i32_423 : BitVec 32 := 0#32
  let v727 : BitVec 1 := Scalar.cmpi .sgt c2_i32_420 c0_i32_423
  let v728 : BitVec 32 := Scalar.extui v727
  let c0_i32_424 : BitVec 32 := 0#32
  let v729 : BitVec 1 := Scalar.cmpi .slt c2_i32_420 c0_i32_424
  let v730 : BitVec 32 := Scalar.extui v729
  let v731 : BitVec 32 := Scalar.subi v728 v730
  let v732 : BitVec 1 := Scalar.cmpi .ne v726 v731
  let v733 : BitVec 32 := Scalar.remsi v720 c2_i32_420
  let c0_i32_425 : BitVec 32 := 0#32
  let v734 : BitVec 1 := Scalar.cmpi .ne v733 c0_i32_425
  let v735 : BitVec 1 := Scalar.andi v732 v734
  let v721 : BitVec 32 := Scalar.divsi v720 c2_i32_420
  let c1_i32_426 : BitVec 32 := 1#32
  let v736 : BitVec 32 := Scalar.subi v721 c1_i32_426
  let v737 : BitVec 32 := Scalar.select v735 v736 v721
  let v738 : BitVec 32 := Scalar.subi v737 c0_i32_427
  let c1_i32_428 : BitVec 32 := 1#32
  let v740 : BitVec 32 := Scalar.divsi v738 c1_i32_428
  let v741 : BitVec 32 := Scalar.muli v740 c1_i32_428
  let v742 : BitVec 32 := Scalar.addi c0_i32_427 v741
  let c1_i32_429 : BitVec 32 := 1#32
  ⟨c0_i32_427, v742, c1_i32_429⟩
def k0_mult17 (i : grid0.Coords) (k0_t1 : Fin (k0_t1_loop i).trips) : BitVec 32 :=
  let c2_i32_508 : BitVec 32 := 2#32
  let c0_i32_427 : BitVec 32 := 0#32
  let c1_i32_429 : BitVec 32 := 1#32
  let arg27 : BitVec 32 := Scf.iv c0_i32_427 c1_i32_429 k0_t1
  let v972 : BitVec 32 := Scalar.muli c2_i32_508 arg27
  let c2_i32_509 : BitVec 32 := 2#32
  let v973 : BitVec 32 := Scalar.addi v972 c2_i32_509
  let c0_i32_510 : BitVec 32 := 0#32
  let v974 : BitVec 1 := Scalar.cmpi .eq v973 c0_i32_510
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_511 : BitVec 32 := 1#32
  let v975 : BitVec 32 := Scalar.subi v973 c1_i32_511
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v976 : BitVec 32 := Scalar.subi v975 v509
  let c0_i32_512 : BitVec 32 := 0#32
  let v977 : BitVec 32 := Scalar.maxsi v976 c0_i32_512
  let v978 : BitVec 32 := Scalar.select v974 v17 v977
  let c256_i32_513 : BitVec 32 := 256#32
  let v979 : BitVec 32 := Scalar.muli v978 c256_i32_513
  v979
def k0_off6 (i : grid0.Coords) (k0_t1 : Fin (k0_t1_loop i).trips) (c2_i32_509 : BitVec 32) : Fin 2 → Nat :=
  let c2_i32_508 : BitVec 32 := 2#32
  let c0_i32_427 : BitVec 32 := 0#32
  let c1_i32_429 : BitVec 32 := 1#32
  let arg27 : BitVec 32 := Scf.iv c0_i32_427 c1_i32_429 k0_t1
  let v972 : BitVec 32 := Scalar.muli c2_i32_508 arg27
  let v973 : BitVec 32 := Scalar.addi v972 c2_i32_509
  let c0_i32_510 : BitVec 32 := 0#32
  let v974 : BitVec 1 := Scalar.cmpi .eq v973 c0_i32_510
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_511 : BitVec 32 := 1#32
  let v975 : BitVec 32 := Scalar.subi v973 c1_i32_511
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v976 : BitVec 32 := Scalar.subi v975 v509
  let c0_i32_512 : BitVec 32 := 0#32
  let v977 : BitVec 32 := Scalar.maxsi v976 c0_i32_512
  let v978 : BitVec 32 := Scalar.select v974 v17 v977
  let c256_i32_513 : BitVec 32 := 256#32
  let v979 : BitVec 32 := Scalar.muli v978 c256_i32_513
  let v980 : BitVec 32 := v979
  let v983 : Index := Scalar.indexCast v980
  let c0_517 : Index := 0#32
  ![v983.toNat, 0]
def k0_mult18 (i : grid0.Coords) (k0_t1 : Fin (k0_t1_loop i).trips) : BitVec 32 :=
  let c2_i32_508 : BitVec 32 := 2#32
  let c0_i32_427 : BitVec 32 := 0#32
  let c1_i32_429 : BitVec 32 := 1#32
  let arg27 : BitVec 32 := Scf.iv c0_i32_427 c1_i32_429 k0_t1
  let v972 : BitVec 32 := Scalar.muli c2_i32_508 arg27
  let c2_i32_509 : BitVec 32 := 2#32
  let v973 : BitVec 32 := Scalar.addi v972 c2_i32_509
  let c0_i32_510 : BitVec 32 := 0#32
  let v974 : BitVec 1 := Scalar.cmpi .eq v973 c0_i32_510
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_511 : BitVec 32 := 1#32
  let v975 : BitVec 32 := Scalar.subi v973 c1_i32_511
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v976 : BitVec 32 := Scalar.subi v975 v509
  let c0_i32_512 : BitVec 32 := 0#32
  let v977 : BitVec 32 := Scalar.maxsi v976 c0_i32_512
  let v978 : BitVec 32 := Scalar.select v974 v17 v977
  let c256_i32_524 : BitVec 32 := 256#32
  let v991 : BitVec 32 := Scalar.muli v978 c256_i32_524
  v991
def k0_mult19 (i : grid0.Coords) (k0_t1 : Fin (k0_t1_loop i).trips) : BitVec 32 :=
  let c2_i32_508 : BitVec 32 := 2#32
  let c0_i32_427 : BitVec 32 := 0#32
  let c1_i32_429 : BitVec 32 := 1#32
  let arg27 : BitVec 32 := Scf.iv c0_i32_427 c1_i32_429 k0_t1
  let v972 : BitVec 32 := Scalar.muli c2_i32_508 arg27
  let c3_i32_551 : BitVec 32 := 3#32
  let v1027 : BitVec 32 := Scalar.addi v972 c3_i32_551
  let c0_i32_552 : BitVec 32 := 0#32
  let v1028 : BitVec 1 := Scalar.cmpi .eq v1027 c0_i32_552
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_553 : BitVec 32 := 1#32
  let v1029 : BitVec 32 := Scalar.subi v1027 c1_i32_553
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v1030 : BitVec 32 := Scalar.subi v1029 v509
  let c0_i32_554 : BitVec 32 := 0#32
  let v1031 : BitVec 32 := Scalar.maxsi v1030 c0_i32_554
  let v1032 : BitVec 32 := Scalar.select v1028 v17 v1031
  let c256_i32_555 : BitVec 32 := 256#32
  let v1033 : BitVec 32 := Scalar.muli v1032 c256_i32_555
  v1033
def k0_mult20 (i : grid0.Coords) (k0_t1 : Fin (k0_t1_loop i).trips) : BitVec 32 :=
  let c2_i32_508 : BitVec 32 := 2#32
  let c0_i32_427 : BitVec 32 := 0#32
  let c1_i32_429 : BitVec 32 := 1#32
  let arg27 : BitVec 32 := Scf.iv c0_i32_427 c1_i32_429 k0_t1
  let v972 : BitVec 32 := Scalar.muli c2_i32_508 arg27
  let c3_i32_551 : BitVec 32 := 3#32
  let v1027 : BitVec 32 := Scalar.addi v972 c3_i32_551
  let c0_i32_552 : BitVec 32 := 0#32
  let v1028 : BitVec 1 := Scalar.cmpi .eq v1027 c0_i32_552
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_553 : BitVec 32 := 1#32
  let v1029 : BitVec 32 := Scalar.subi v1027 c1_i32_553
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v1030 : BitVec 32 := Scalar.subi v1029 v509
  let c0_i32_554 : BitVec 32 := 0#32
  let v1031 : BitVec 32 := Scalar.maxsi v1030 c0_i32_554
  let v1032 : BitVec 32 := Scalar.select v1028 v17 v1031
  let c256_i32_566 : BitVec 32 := 256#32
  let v1045 : BitVec 32 := Scalar.muli v1032 c256_i32_566
  v1045
def k0_mult21 (i : grid0.Coords) (k0_t1 : Fin (k0_t1_loop i).trips) : BitVec 32 :=
  let c2_i32_508 : BitVec 32 := 2#32
  let c0_i32_427 : BitVec 32 := 0#32
  let c1_i32_429 : BitVec 32 := 1#32
  let arg27 : BitVec 32 := Scf.iv c0_i32_427 c1_i32_429 k0_t1
  let v972 : BitVec 32 := Scalar.muli c2_i32_508 arg27
  let c0_i32_577 : BitVec 32 := 0#32
  let v1057 : BitVec 1 := Scalar.cmpi .eq v972 c0_i32_577
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_578 : BitVec 32 := 1#32
  let v1058 : BitVec 32 := Scalar.subi v972 c1_i32_578
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v1059 : BitVec 32 := Scalar.subi v1058 v509
  let c0_i32_579 : BitVec 32 := 0#32
  let v1060 : BitVec 32 := Scalar.maxsi v1059 c0_i32_579
  let v1061 : BitVec 32 := Scalar.select v1057 v17 v1060
  let c256_i32_580 : BitVec 32 := 256#32
  let v1064 : BitVec 32 := Scalar.muli v1061 c256_i32_580
  v1064
def k0_off7 (i : grid0.Coords) (k0_t1 : Fin (k0_t1_loop i).trips) : Fin 2 → Nat :=
  let c0_584 : Index := 0#32
  let c2_i32_508 : BitVec 32 := 2#32
  let c0_i32_427 : BitVec 32 := 0#32
  let c1_i32_429 : BitVec 32 := 1#32
  let arg27 : BitVec 32 := Scf.iv c0_i32_427 c1_i32_429 k0_t1
  let v972 : BitVec 32 := Scalar.muli c2_i32_508 arg27
  let c0_i32_577 : BitVec 32 := 0#32
  let v1057 : BitVec 1 := Scalar.cmpi .eq v972 c0_i32_577
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_578 : BitVec 32 := 1#32
  let v1058 : BitVec 32 := Scalar.subi v972 c1_i32_578
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v1059 : BitVec 32 := Scalar.subi v1058 v509
  let c0_i32_579 : BitVec 32 := 0#32
  let v1060 : BitVec 32 := Scalar.maxsi v1059 c0_i32_579
  let v1061 : BitVec 32 := Scalar.select v1057 v17 v1060
  let c256_i32_580 : BitVec 32 := 256#32
  let v1064 : BitVec 32 := Scalar.muli v1061 c256_i32_580
  let v1065 : BitVec 32 := v1064
  let v1068 : Index := Scalar.indexCast v1065
  ![0, v1068.toNat]
def k0_mult22 (i : grid0.Coords) (k0_t1 : Fin (k0_t1_loop i).trips) : BitVec 32 :=
  let c2_i32_508 : BitVec 32 := 2#32
  let c0_i32_427 : BitVec 32 := 0#32
  let c1_i32_429 : BitVec 32 := 1#32
  let arg27 : BitVec 32 := Scf.iv c0_i32_427 c1_i32_429 k0_t1
  let v972 : BitVec 32 := Scalar.muli c2_i32_508 arg27
  let c0_i32_577 : BitVec 32 := 0#32
  let v1057 : BitVec 1 := Scalar.cmpi .eq v972 c0_i32_577
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_578 : BitVec 32 := 1#32
  let v1058 : BitVec 32 := Scalar.subi v972 c1_i32_578
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v1059 : BitVec 32 := Scalar.subi v1058 v509
  let c0_i32_579 : BitVec 32 := 0#32
  let v1060 : BitVec 32 := Scalar.maxsi v1059 c0_i32_579
  let v1061 : BitVec 32 := Scalar.select v1057 v17 v1060
  let c256_i32_590 : BitVec 32 := 256#32
  let v1076 : BitVec 32 := Scalar.muli v1061 c256_i32_590
  v1076
def k0_mult23 (i : grid0.Coords) (k0_t1 : Fin (k0_t1_loop i).trips) : BitVec 32 :=
  let c2_i32_508 : BitVec 32 := 2#32
  let c0_i32_427 : BitVec 32 := 0#32
  let c1_i32_429 : BitVec 32 := 1#32
  let arg27 : BitVec 32 := Scf.iv c0_i32_427 c1_i32_429 k0_t1
  let v972 : BitVec 32 := Scalar.muli c2_i32_508 arg27
  let c1_i32_616 : BitVec 32 := 1#32
  let v1110 : BitVec 32 := Scalar.addi v972 c1_i32_616
  let c0_i32_617 : BitVec 32 := 0#32
  let v1111 : BitVec 1 := Scalar.cmpi .eq v1110 c0_i32_617
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_618 : BitVec 32 := 1#32
  let v1112 : BitVec 32 := Scalar.subi v1110 c1_i32_618
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v1113 : BitVec 32 := Scalar.subi v1112 v509
  let c0_i32_619 : BitVec 32 := 0#32
  let v1114 : BitVec 32 := Scalar.maxsi v1113 c0_i32_619
  let v1115 : BitVec 32 := Scalar.select v1111 v17 v1114
  let c256_i32_620 : BitVec 32 := 256#32
  let v1118 : BitVec 32 := Scalar.muli v1115 c256_i32_620
  v1118
def k0_off8 (i : grid0.Coords) (k0_t1 : Fin (k0_t1_loop i).trips) : Fin 2 → Nat :=
  let c0_624 : Index := 0#32
  let c2_i32_508 : BitVec 32 := 2#32
  let c0_i32_427 : BitVec 32 := 0#32
  let c1_i32_429 : BitVec 32 := 1#32
  let arg27 : BitVec 32 := Scf.iv c0_i32_427 c1_i32_429 k0_t1
  let v972 : BitVec 32 := Scalar.muli c2_i32_508 arg27
  let c1_i32_616 : BitVec 32 := 1#32
  let v1110 : BitVec 32 := Scalar.addi v972 c1_i32_616
  let c0_i32_617 : BitVec 32 := 0#32
  let v1111 : BitVec 1 := Scalar.cmpi .eq v1110 c0_i32_617
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_618 : BitVec 32 := 1#32
  let v1112 : BitVec 32 := Scalar.subi v1110 c1_i32_618
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v1113 : BitVec 32 := Scalar.subi v1112 v509
  let c0_i32_619 : BitVec 32 := 0#32
  let v1114 : BitVec 32 := Scalar.maxsi v1113 c0_i32_619
  let v1115 : BitVec 32 := Scalar.select v1111 v17 v1114
  let c256_i32_620 : BitVec 32 := 256#32
  let v1118 : BitVec 32 := Scalar.muli v1115 c256_i32_620
  let v1119 : BitVec 32 := v1118
  let v1122 : Index := Scalar.indexCast v1119
  ![0, v1122.toNat]
def k0_mult24 (i : grid0.Coords) (k0_t1 : Fin (k0_t1_loop i).trips) : BitVec 32 :=
  let c2_i32_508 : BitVec 32 := 2#32
  let c0_i32_427 : BitVec 32 := 0#32
  let c1_i32_429 : BitVec 32 := 1#32
  let arg27 : BitVec 32 := Scf.iv c0_i32_427 c1_i32_429 k0_t1
  let v972 : BitVec 32 := Scalar.muli c2_i32_508 arg27
  let c1_i32_616 : BitVec 32 := 1#32
  let v1110 : BitVec 32 := Scalar.addi v972 c1_i32_616
  let c0_i32_617 : BitVec 32 := 0#32
  let v1111 : BitVec 1 := Scalar.cmpi .eq v1110 c0_i32_617
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_618 : BitVec 32 := 1#32
  let v1112 : BitVec 32 := Scalar.subi v1110 c1_i32_618
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v1113 : BitVec 32 := Scalar.subi v1112 v509
  let c0_i32_619 : BitVec 32 := 0#32
  let v1114 : BitVec 32 := Scalar.maxsi v1113 c0_i32_619
  let v1115 : BitVec 32 := Scalar.select v1111 v17 v1114
  let c256_i32_630 : BitVec 32 := 256#32
  let v1130 : BitVec 32 := Scalar.muli v1115 c256_i32_630
  v1130
@[reducible] def k0_t2_loop (i : grid0.Coords) : Scf.Loop 32 :=
  let c0_i32_427 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_419 : BitVec 32 := 2#32
  let v720 : BitVec 32 := Scalar.subi v511 c2_i32_419
  let c0_i32_421 : BitVec 32 := 0#32
  let v722 : BitVec 1 := Scalar.cmpi .sgt v720 c0_i32_421
  let v723 : BitVec 32 := Scalar.extui v722
  let c0_i32_422 : BitVec 32 := 0#32
  let v724 : BitVec 1 := Scalar.cmpi .slt v720 c0_i32_422
  let v725 : BitVec 32 := Scalar.extui v724
  let v726 : BitVec 32 := Scalar.subi v723 v725
  let c2_i32_420 : BitVec 32 := 2#32
  let c0_i32_423 : BitVec 32 := 0#32
  let v727 : BitVec 1 := Scalar.cmpi .sgt c2_i32_420 c0_i32_423
  let v728 : BitVec 32 := Scalar.extui v727
  let c0_i32_424 : BitVec 32 := 0#32
  let v729 : BitVec 1 := Scalar.cmpi .slt c2_i32_420 c0_i32_424
  let v730 : BitVec 32 := Scalar.extui v729
  let v731 : BitVec 32 := Scalar.subi v728 v730
  let v732 : BitVec 1 := Scalar.cmpi .ne v726 v731
  let v733 : BitVec 32 := Scalar.remsi v720 c2_i32_420
  let c0_i32_425 : BitVec 32 := 0#32
  let v734 : BitVec 1 := Scalar.cmpi .ne v733 c0_i32_425
  let v735 : BitVec 1 := Scalar.andi v732 v734
  let v721 : BitVec 32 := Scalar.divsi v720 c2_i32_420
  let c1_i32_426 : BitVec 32 := 1#32
  let v736 : BitVec 32 := Scalar.subi v721 c1_i32_426
  let v737 : BitVec 32 := Scalar.select v735 v736 v721
  let v738 : BitVec 32 := Scalar.subi v737 c0_i32_427
  let c1_i32_428 : BitVec 32 := 1#32
  let v740 : BitVec 32 := Scalar.divsi v738 c1_i32_428
  let v741 : BitVec 32 := Scalar.muli v740 c1_i32_428
  let v742 : BitVec 32 := Scalar.addi c0_i32_427 v741
  let v739 : BitVec 32 := Scalar.addi c0_i32_427 v738
  let c1_i32_430 : BitVec 32 := 1#32
  ⟨v742, v739, c1_i32_430⟩
def k0_mult25 (i : grid0.Coords) (k0_t2 : Fin (k0_t2_loop i).trips) : BitVec 32 :=
  let c2_i32_508 : BitVec 32 := 2#32
  let c0_i32_427 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_419 : BitVec 32 := 2#32
  let v720 : BitVec 32 := Scalar.subi v511 c2_i32_419
  let c0_i32_421 : BitVec 32 := 0#32
  let v722 : BitVec 1 := Scalar.cmpi .sgt v720 c0_i32_421
  let v723 : BitVec 32 := Scalar.extui v722
  let c0_i32_422 : BitVec 32 := 0#32
  let v724 : BitVec 1 := Scalar.cmpi .slt v720 c0_i32_422
  let v725 : BitVec 32 := Scalar.extui v724
  let v726 : BitVec 32 := Scalar.subi v723 v725
  let c2_i32_420 : BitVec 32 := 2#32
  let c0_i32_423 : BitVec 32 := 0#32
  let v727 : BitVec 1 := Scalar.cmpi .sgt c2_i32_420 c0_i32_423
  let v728 : BitVec 32 := Scalar.extui v727
  let c0_i32_424 : BitVec 32 := 0#32
  let v729 : BitVec 1 := Scalar.cmpi .slt c2_i32_420 c0_i32_424
  let v730 : BitVec 32 := Scalar.extui v729
  let v731 : BitVec 32 := Scalar.subi v728 v730
  let v732 : BitVec 1 := Scalar.cmpi .ne v726 v731
  let v733 : BitVec 32 := Scalar.remsi v720 c2_i32_420
  let c0_i32_425 : BitVec 32 := 0#32
  let v734 : BitVec 1 := Scalar.cmpi .ne v733 c0_i32_425
  let v735 : BitVec 1 := Scalar.andi v732 v734
  let v721 : BitVec 32 := Scalar.divsi v720 c2_i32_420
  let c1_i32_426 : BitVec 32 := 1#32
  let v736 : BitVec 32 := Scalar.subi v721 c1_i32_426
  let v737 : BitVec 32 := Scalar.select v735 v736 v721
  let v738 : BitVec 32 := Scalar.subi v737 c0_i32_427
  let c1_i32_428 : BitVec 32 := 1#32
  let v740 : BitVec 32 := Scalar.divsi v738 c1_i32_428
  let v741 : BitVec 32 := Scalar.muli v740 c1_i32_428
  let v742 : BitVec 32 := Scalar.addi c0_i32_427 v741
  let c1_i32_430 : BitVec 32 := 1#32
  let arg27 : BitVec 32 := Scf.iv v742 c1_i32_430 k0_t2
  let v972 : BitVec 32 := Scalar.muli c2_i32_508 arg27
  let c2_i32_509 : BitVec 32 := 2#32
  let v973 : BitVec 32 := Scalar.addi v972 c2_i32_509
  let c0_i32_510 : BitVec 32 := 0#32
  let v974 : BitVec 1 := Scalar.cmpi .eq v973 c0_i32_510
  let c1_i32_511 : BitVec 32 := 1#32
  let v975 : BitVec 32 := Scalar.subi v973 c1_i32_511
  let v976 : BitVec 32 := Scalar.subi v975 v509
  let c0_i32_512 : BitVec 32 := 0#32
  let v977 : BitVec 32 := Scalar.maxsi v976 c0_i32_512
  let v978 : BitVec 32 := Scalar.select v974 v17 v977
  let c256_i32_513 : BitVec 32 := 256#32
  let v979 : BitVec 32 := Scalar.muli v978 c256_i32_513
  v979
def k0_off9 (i : grid0.Coords) (k0_t2 : Fin (k0_t2_loop i).trips) (c2_i32_509 : BitVec 32) : Fin 2 → Nat :=
  let c2_i32_508 : BitVec 32 := 2#32
  let c0_i32_427 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_419 : BitVec 32 := 2#32
  let v720 : BitVec 32 := Scalar.subi v511 c2_i32_419
  let c0_i32_421 : BitVec 32 := 0#32
  let v722 : BitVec 1 := Scalar.cmpi .sgt v720 c0_i32_421
  let v723 : BitVec 32 := Scalar.extui v722
  let c0_i32_422 : BitVec 32 := 0#32
  let v724 : BitVec 1 := Scalar.cmpi .slt v720 c0_i32_422
  let v725 : BitVec 32 := Scalar.extui v724
  let v726 : BitVec 32 := Scalar.subi v723 v725
  let c2_i32_420 : BitVec 32 := 2#32
  let c0_i32_423 : BitVec 32 := 0#32
  let v727 : BitVec 1 := Scalar.cmpi .sgt c2_i32_420 c0_i32_423
  let v728 : BitVec 32 := Scalar.extui v727
  let c0_i32_424 : BitVec 32 := 0#32
  let v729 : BitVec 1 := Scalar.cmpi .slt c2_i32_420 c0_i32_424
  let v730 : BitVec 32 := Scalar.extui v729
  let v731 : BitVec 32 := Scalar.subi v728 v730
  let v732 : BitVec 1 := Scalar.cmpi .ne v726 v731
  let v733 : BitVec 32 := Scalar.remsi v720 c2_i32_420
  let c0_i32_425 : BitVec 32 := 0#32
  let v734 : BitVec 1 := Scalar.cmpi .ne v733 c0_i32_425
  let v735 : BitVec 1 := Scalar.andi v732 v734
  let v721 : BitVec 32 := Scalar.divsi v720 c2_i32_420
  let c1_i32_426 : BitVec 32 := 1#32
  let v736 : BitVec 32 := Scalar.subi v721 c1_i32_426
  let v737 : BitVec 32 := Scalar.select v735 v736 v721
  let v738 : BitVec 32 := Scalar.subi v737 c0_i32_427
  let c1_i32_428 : BitVec 32 := 1#32
  let v740 : BitVec 32 := Scalar.divsi v738 c1_i32_428
  let v741 : BitVec 32 := Scalar.muli v740 c1_i32_428
  let v742 : BitVec 32 := Scalar.addi c0_i32_427 v741
  let c1_i32_430 : BitVec 32 := 1#32
  let arg27 : BitVec 32 := Scf.iv v742 c1_i32_430 k0_t2
  let v972 : BitVec 32 := Scalar.muli c2_i32_508 arg27
  let v973 : BitVec 32 := Scalar.addi v972 c2_i32_509
  let c0_i32_510 : BitVec 32 := 0#32
  let v974 : BitVec 1 := Scalar.cmpi .eq v973 c0_i32_510
  let c1_i32_511 : BitVec 32 := 1#32
  let v975 : BitVec 32 := Scalar.subi v973 c1_i32_511
  let v976 : BitVec 32 := Scalar.subi v975 v509
  let c0_i32_512 : BitVec 32 := 0#32
  let v977 : BitVec 32 := Scalar.maxsi v976 c0_i32_512
  let v978 : BitVec 32 := Scalar.select v974 v17 v977
  let c256_i32_513 : BitVec 32 := 256#32
  let v979 : BitVec 32 := Scalar.muli v978 c256_i32_513
  let v980 : BitVec 32 := v979
  let v983 : Index := Scalar.indexCast v980
  let c0_517 : Index := 0#32
  ![v983.toNat, 0]
def k0_mult26 (i : grid0.Coords) (k0_t2 : Fin (k0_t2_loop i).trips) : BitVec 32 :=
  let c2_i32_508 : BitVec 32 := 2#32
  let c0_i32_427 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_419 : BitVec 32 := 2#32
  let v720 : BitVec 32 := Scalar.subi v511 c2_i32_419
  let c0_i32_421 : BitVec 32 := 0#32
  let v722 : BitVec 1 := Scalar.cmpi .sgt v720 c0_i32_421
  let v723 : BitVec 32 := Scalar.extui v722
  let c0_i32_422 : BitVec 32 := 0#32
  let v724 : BitVec 1 := Scalar.cmpi .slt v720 c0_i32_422
  let v725 : BitVec 32 := Scalar.extui v724
  let v726 : BitVec 32 := Scalar.subi v723 v725
  let c2_i32_420 : BitVec 32 := 2#32
  let c0_i32_423 : BitVec 32 := 0#32
  let v727 : BitVec 1 := Scalar.cmpi .sgt c2_i32_420 c0_i32_423
  let v728 : BitVec 32 := Scalar.extui v727
  let c0_i32_424 : BitVec 32 := 0#32
  let v729 : BitVec 1 := Scalar.cmpi .slt c2_i32_420 c0_i32_424
  let v730 : BitVec 32 := Scalar.extui v729
  let v731 : BitVec 32 := Scalar.subi v728 v730
  let v732 : BitVec 1 := Scalar.cmpi .ne v726 v731
  let v733 : BitVec 32 := Scalar.remsi v720 c2_i32_420
  let c0_i32_425 : BitVec 32 := 0#32
  let v734 : BitVec 1 := Scalar.cmpi .ne v733 c0_i32_425
  let v735 : BitVec 1 := Scalar.andi v732 v734
  let v721 : BitVec 32 := Scalar.divsi v720 c2_i32_420
  let c1_i32_426 : BitVec 32 := 1#32
  let v736 : BitVec 32 := Scalar.subi v721 c1_i32_426
  let v737 : BitVec 32 := Scalar.select v735 v736 v721
  let v738 : BitVec 32 := Scalar.subi v737 c0_i32_427
  let c1_i32_428 : BitVec 32 := 1#32
  let v740 : BitVec 32 := Scalar.divsi v738 c1_i32_428
  let v741 : BitVec 32 := Scalar.muli v740 c1_i32_428
  let v742 : BitVec 32 := Scalar.addi c0_i32_427 v741
  let c1_i32_430 : BitVec 32 := 1#32
  let arg27 : BitVec 32 := Scf.iv v742 c1_i32_430 k0_t2
  let v972 : BitVec 32 := Scalar.muli c2_i32_508 arg27
  let c2_i32_509 : BitVec 32 := 2#32
  let v973 : BitVec 32 := Scalar.addi v972 c2_i32_509
  let c0_i32_510 : BitVec 32 := 0#32
  let v974 : BitVec 1 := Scalar.cmpi .eq v973 c0_i32_510
  let c1_i32_511 : BitVec 32 := 1#32
  let v975 : BitVec 32 := Scalar.subi v973 c1_i32_511
  let v976 : BitVec 32 := Scalar.subi v975 v509
  let c0_i32_512 : BitVec 32 := 0#32
  let v977 : BitVec 32 := Scalar.maxsi v976 c0_i32_512
  let v978 : BitVec 32 := Scalar.select v974 v17 v977
  let c256_i32_524 : BitVec 32 := 256#32
  let v991 : BitVec 32 := Scalar.muli v978 c256_i32_524
  v991
def k0_mult27 (i : grid0.Coords) (k0_t2 : Fin (k0_t2_loop i).trips) : BitVec 32 :=
  let c2_i32_508 : BitVec 32 := 2#32
  let c0_i32_427 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_419 : BitVec 32 := 2#32
  let v720 : BitVec 32 := Scalar.subi v511 c2_i32_419
  let c0_i32_421 : BitVec 32 := 0#32
  let v722 : BitVec 1 := Scalar.cmpi .sgt v720 c0_i32_421
  let v723 : BitVec 32 := Scalar.extui v722
  let c0_i32_422 : BitVec 32 := 0#32
  let v724 : BitVec 1 := Scalar.cmpi .slt v720 c0_i32_422
  let v725 : BitVec 32 := Scalar.extui v724
  let v726 : BitVec 32 := Scalar.subi v723 v725
  let c2_i32_420 : BitVec 32 := 2#32
  let c0_i32_423 : BitVec 32 := 0#32
  let v727 : BitVec 1 := Scalar.cmpi .sgt c2_i32_420 c0_i32_423
  let v728 : BitVec 32 := Scalar.extui v727
  let c0_i32_424 : BitVec 32 := 0#32
  let v729 : BitVec 1 := Scalar.cmpi .slt c2_i32_420 c0_i32_424
  let v730 : BitVec 32 := Scalar.extui v729
  let v731 : BitVec 32 := Scalar.subi v728 v730
  let v732 : BitVec 1 := Scalar.cmpi .ne v726 v731
  let v733 : BitVec 32 := Scalar.remsi v720 c2_i32_420
  let c0_i32_425 : BitVec 32 := 0#32
  let v734 : BitVec 1 := Scalar.cmpi .ne v733 c0_i32_425
  let v735 : BitVec 1 := Scalar.andi v732 v734
  let v721 : BitVec 32 := Scalar.divsi v720 c2_i32_420
  let c1_i32_426 : BitVec 32 := 1#32
  let v736 : BitVec 32 := Scalar.subi v721 c1_i32_426
  let v737 : BitVec 32 := Scalar.select v735 v736 v721
  let v738 : BitVec 32 := Scalar.subi v737 c0_i32_427
  let c1_i32_428 : BitVec 32 := 1#32
  let v740 : BitVec 32 := Scalar.divsi v738 c1_i32_428
  let v741 : BitVec 32 := Scalar.muli v740 c1_i32_428
  let v742 : BitVec 32 := Scalar.addi c0_i32_427 v741
  let c1_i32_430 : BitVec 32 := 1#32
  let arg27 : BitVec 32 := Scf.iv v742 c1_i32_430 k0_t2
  let v972 : BitVec 32 := Scalar.muli c2_i32_508 arg27
  let c3_i32_551 : BitVec 32 := 3#32
  let v1027 : BitVec 32 := Scalar.addi v972 c3_i32_551
  let c0_i32_552 : BitVec 32 := 0#32
  let v1028 : BitVec 1 := Scalar.cmpi .eq v1027 c0_i32_552
  let c1_i32_553 : BitVec 32 := 1#32
  let v1029 : BitVec 32 := Scalar.subi v1027 c1_i32_553
  let v1030 : BitVec 32 := Scalar.subi v1029 v509
  let c0_i32_554 : BitVec 32 := 0#32
  let v1031 : BitVec 32 := Scalar.maxsi v1030 c0_i32_554
  let v1032 : BitVec 32 := Scalar.select v1028 v17 v1031
  let c256_i32_555 : BitVec 32 := 256#32
  let v1033 : BitVec 32 := Scalar.muli v1032 c256_i32_555
  v1033
def k0_mult28 (i : grid0.Coords) (k0_t2 : Fin (k0_t2_loop i).trips) : BitVec 32 :=
  let c2_i32_508 : BitVec 32 := 2#32
  let c0_i32_427 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_419 : BitVec 32 := 2#32
  let v720 : BitVec 32 := Scalar.subi v511 c2_i32_419
  let c0_i32_421 : BitVec 32 := 0#32
  let v722 : BitVec 1 := Scalar.cmpi .sgt v720 c0_i32_421
  let v723 : BitVec 32 := Scalar.extui v722
  let c0_i32_422 : BitVec 32 := 0#32
  let v724 : BitVec 1 := Scalar.cmpi .slt v720 c0_i32_422
  let v725 : BitVec 32 := Scalar.extui v724
  let v726 : BitVec 32 := Scalar.subi v723 v725
  let c2_i32_420 : BitVec 32 := 2#32
  let c0_i32_423 : BitVec 32 := 0#32
  let v727 : BitVec 1 := Scalar.cmpi .sgt c2_i32_420 c0_i32_423
  let v728 : BitVec 32 := Scalar.extui v727
  let c0_i32_424 : BitVec 32 := 0#32
  let v729 : BitVec 1 := Scalar.cmpi .slt c2_i32_420 c0_i32_424
  let v730 : BitVec 32 := Scalar.extui v729
  let v731 : BitVec 32 := Scalar.subi v728 v730
  let v732 : BitVec 1 := Scalar.cmpi .ne v726 v731
  let v733 : BitVec 32 := Scalar.remsi v720 c2_i32_420
  let c0_i32_425 : BitVec 32 := 0#32
  let v734 : BitVec 1 := Scalar.cmpi .ne v733 c0_i32_425
  let v735 : BitVec 1 := Scalar.andi v732 v734
  let v721 : BitVec 32 := Scalar.divsi v720 c2_i32_420
  let c1_i32_426 : BitVec 32 := 1#32
  let v736 : BitVec 32 := Scalar.subi v721 c1_i32_426
  let v737 : BitVec 32 := Scalar.select v735 v736 v721
  let v738 : BitVec 32 := Scalar.subi v737 c0_i32_427
  let c1_i32_428 : BitVec 32 := 1#32
  let v740 : BitVec 32 := Scalar.divsi v738 c1_i32_428
  let v741 : BitVec 32 := Scalar.muli v740 c1_i32_428
  let v742 : BitVec 32 := Scalar.addi c0_i32_427 v741
  let c1_i32_430 : BitVec 32 := 1#32
  let arg27 : BitVec 32 := Scf.iv v742 c1_i32_430 k0_t2
  let v972 : BitVec 32 := Scalar.muli c2_i32_508 arg27
  let c3_i32_551 : BitVec 32 := 3#32
  let v1027 : BitVec 32 := Scalar.addi v972 c3_i32_551
  let c0_i32_552 : BitVec 32 := 0#32
  let v1028 : BitVec 1 := Scalar.cmpi .eq v1027 c0_i32_552
  let c1_i32_553 : BitVec 32 := 1#32
  let v1029 : BitVec 32 := Scalar.subi v1027 c1_i32_553
  let v1030 : BitVec 32 := Scalar.subi v1029 v509
  let c0_i32_554 : BitVec 32 := 0#32
  let v1031 : BitVec 32 := Scalar.maxsi v1030 c0_i32_554
  let v1032 : BitVec 32 := Scalar.select v1028 v17 v1031
  let c256_i32_566 : BitVec 32 := 256#32
  let v1045 : BitVec 32 := Scalar.muli v1032 c256_i32_566
  v1045
def k0_mult29 (i : grid0.Coords) (k0_t2 : Fin (k0_t2_loop i).trips) : BitVec 32 :=
  let c2_i32_508 : BitVec 32 := 2#32
  let c0_i32_427 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_419 : BitVec 32 := 2#32
  let v720 : BitVec 32 := Scalar.subi v511 c2_i32_419
  let c0_i32_421 : BitVec 32 := 0#32
  let v722 : BitVec 1 := Scalar.cmpi .sgt v720 c0_i32_421
  let v723 : BitVec 32 := Scalar.extui v722
  let c0_i32_422 : BitVec 32 := 0#32
  let v724 : BitVec 1 := Scalar.cmpi .slt v720 c0_i32_422
  let v725 : BitVec 32 := Scalar.extui v724
  let v726 : BitVec 32 := Scalar.subi v723 v725
  let c2_i32_420 : BitVec 32 := 2#32
  let c0_i32_423 : BitVec 32 := 0#32
  let v727 : BitVec 1 := Scalar.cmpi .sgt c2_i32_420 c0_i32_423
  let v728 : BitVec 32 := Scalar.extui v727
  let c0_i32_424 : BitVec 32 := 0#32
  let v729 : BitVec 1 := Scalar.cmpi .slt c2_i32_420 c0_i32_424
  let v730 : BitVec 32 := Scalar.extui v729
  let v731 : BitVec 32 := Scalar.subi v728 v730
  let v732 : BitVec 1 := Scalar.cmpi .ne v726 v731
  let v733 : BitVec 32 := Scalar.remsi v720 c2_i32_420
  let c0_i32_425 : BitVec 32 := 0#32
  let v734 : BitVec 1 := Scalar.cmpi .ne v733 c0_i32_425
  let v735 : BitVec 1 := Scalar.andi v732 v734
  let v721 : BitVec 32 := Scalar.divsi v720 c2_i32_420
  let c1_i32_426 : BitVec 32 := 1#32
  let v736 : BitVec 32 := Scalar.subi v721 c1_i32_426
  let v737 : BitVec 32 := Scalar.select v735 v736 v721
  let v738 : BitVec 32 := Scalar.subi v737 c0_i32_427
  let c1_i32_428 : BitVec 32 := 1#32
  let v740 : BitVec 32 := Scalar.divsi v738 c1_i32_428
  let v741 : BitVec 32 := Scalar.muli v740 c1_i32_428
  let v742 : BitVec 32 := Scalar.addi c0_i32_427 v741
  let c1_i32_430 : BitVec 32 := 1#32
  let arg27 : BitVec 32 := Scf.iv v742 c1_i32_430 k0_t2
  let v972 : BitVec 32 := Scalar.muli c2_i32_508 arg27
  let c0_i32_577 : BitVec 32 := 0#32
  let v1057 : BitVec 1 := Scalar.cmpi .eq v972 c0_i32_577
  let c1_i32_578 : BitVec 32 := 1#32
  let v1058 : BitVec 32 := Scalar.subi v972 c1_i32_578
  let v1059 : BitVec 32 := Scalar.subi v1058 v509
  let c0_i32_579 : BitVec 32 := 0#32
  let v1060 : BitVec 32 := Scalar.maxsi v1059 c0_i32_579
  let v1061 : BitVec 32 := Scalar.select v1057 v17 v1060
  let c256_i32_580 : BitVec 32 := 256#32
  let v1064 : BitVec 32 := Scalar.muli v1061 c256_i32_580
  v1064
def k0_off10 (i : grid0.Coords) (k0_t2 : Fin (k0_t2_loop i).trips) : Fin 2 → Nat :=
  let c0_584 : Index := 0#32
  let c2_i32_508 : BitVec 32 := 2#32
  let c0_i32_427 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_419 : BitVec 32 := 2#32
  let v720 : BitVec 32 := Scalar.subi v511 c2_i32_419
  let c0_i32_421 : BitVec 32 := 0#32
  let v722 : BitVec 1 := Scalar.cmpi .sgt v720 c0_i32_421
  let v723 : BitVec 32 := Scalar.extui v722
  let c0_i32_422 : BitVec 32 := 0#32
  let v724 : BitVec 1 := Scalar.cmpi .slt v720 c0_i32_422
  let v725 : BitVec 32 := Scalar.extui v724
  let v726 : BitVec 32 := Scalar.subi v723 v725
  let c2_i32_420 : BitVec 32 := 2#32
  let c0_i32_423 : BitVec 32 := 0#32
  let v727 : BitVec 1 := Scalar.cmpi .sgt c2_i32_420 c0_i32_423
  let v728 : BitVec 32 := Scalar.extui v727
  let c0_i32_424 : BitVec 32 := 0#32
  let v729 : BitVec 1 := Scalar.cmpi .slt c2_i32_420 c0_i32_424
  let v730 : BitVec 32 := Scalar.extui v729
  let v731 : BitVec 32 := Scalar.subi v728 v730
  let v732 : BitVec 1 := Scalar.cmpi .ne v726 v731
  let v733 : BitVec 32 := Scalar.remsi v720 c2_i32_420
  let c0_i32_425 : BitVec 32 := 0#32
  let v734 : BitVec 1 := Scalar.cmpi .ne v733 c0_i32_425
  let v735 : BitVec 1 := Scalar.andi v732 v734
  let v721 : BitVec 32 := Scalar.divsi v720 c2_i32_420
  let c1_i32_426 : BitVec 32 := 1#32
  let v736 : BitVec 32 := Scalar.subi v721 c1_i32_426
  let v737 : BitVec 32 := Scalar.select v735 v736 v721
  let v738 : BitVec 32 := Scalar.subi v737 c0_i32_427
  let c1_i32_428 : BitVec 32 := 1#32
  let v740 : BitVec 32 := Scalar.divsi v738 c1_i32_428
  let v741 : BitVec 32 := Scalar.muli v740 c1_i32_428
  let v742 : BitVec 32 := Scalar.addi c0_i32_427 v741
  let c1_i32_430 : BitVec 32 := 1#32
  let arg27 : BitVec 32 := Scf.iv v742 c1_i32_430 k0_t2
  let v972 : BitVec 32 := Scalar.muli c2_i32_508 arg27
  let c0_i32_577 : BitVec 32 := 0#32
  let v1057 : BitVec 1 := Scalar.cmpi .eq v972 c0_i32_577
  let c1_i32_578 : BitVec 32 := 1#32
  let v1058 : BitVec 32 := Scalar.subi v972 c1_i32_578
  let v1059 : BitVec 32 := Scalar.subi v1058 v509
  let c0_i32_579 : BitVec 32 := 0#32
  let v1060 : BitVec 32 := Scalar.maxsi v1059 c0_i32_579
  let v1061 : BitVec 32 := Scalar.select v1057 v17 v1060
  let c256_i32_580 : BitVec 32 := 256#32
  let v1064 : BitVec 32 := Scalar.muli v1061 c256_i32_580
  let v1065 : BitVec 32 := v1064
  let v1068 : Index := Scalar.indexCast v1065
  ![0, v1068.toNat]
def k0_mult30 (i : grid0.Coords) (k0_t2 : Fin (k0_t2_loop i).trips) : BitVec 32 :=
  let c2_i32_508 : BitVec 32 := 2#32
  let c0_i32_427 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_419 : BitVec 32 := 2#32
  let v720 : BitVec 32 := Scalar.subi v511 c2_i32_419
  let c0_i32_421 : BitVec 32 := 0#32
  let v722 : BitVec 1 := Scalar.cmpi .sgt v720 c0_i32_421
  let v723 : BitVec 32 := Scalar.extui v722
  let c0_i32_422 : BitVec 32 := 0#32
  let v724 : BitVec 1 := Scalar.cmpi .slt v720 c0_i32_422
  let v725 : BitVec 32 := Scalar.extui v724
  let v726 : BitVec 32 := Scalar.subi v723 v725
  let c2_i32_420 : BitVec 32 := 2#32
  let c0_i32_423 : BitVec 32 := 0#32
  let v727 : BitVec 1 := Scalar.cmpi .sgt c2_i32_420 c0_i32_423
  let v728 : BitVec 32 := Scalar.extui v727
  let c0_i32_424 : BitVec 32 := 0#32
  let v729 : BitVec 1 := Scalar.cmpi .slt c2_i32_420 c0_i32_424
  let v730 : BitVec 32 := Scalar.extui v729
  let v731 : BitVec 32 := Scalar.subi v728 v730
  let v732 : BitVec 1 := Scalar.cmpi .ne v726 v731
  let v733 : BitVec 32 := Scalar.remsi v720 c2_i32_420
  let c0_i32_425 : BitVec 32 := 0#32
  let v734 : BitVec 1 := Scalar.cmpi .ne v733 c0_i32_425
  let v735 : BitVec 1 := Scalar.andi v732 v734
  let v721 : BitVec 32 := Scalar.divsi v720 c2_i32_420
  let c1_i32_426 : BitVec 32 := 1#32
  let v736 : BitVec 32 := Scalar.subi v721 c1_i32_426
  let v737 : BitVec 32 := Scalar.select v735 v736 v721
  let v738 : BitVec 32 := Scalar.subi v737 c0_i32_427
  let c1_i32_428 : BitVec 32 := 1#32
  let v740 : BitVec 32 := Scalar.divsi v738 c1_i32_428
  let v741 : BitVec 32 := Scalar.muli v740 c1_i32_428
  let v742 : BitVec 32 := Scalar.addi c0_i32_427 v741
  let c1_i32_430 : BitVec 32 := 1#32
  let arg27 : BitVec 32 := Scf.iv v742 c1_i32_430 k0_t2
  let v972 : BitVec 32 := Scalar.muli c2_i32_508 arg27
  let c0_i32_577 : BitVec 32 := 0#32
  let v1057 : BitVec 1 := Scalar.cmpi .eq v972 c0_i32_577
  let c1_i32_578 : BitVec 32 := 1#32
  let v1058 : BitVec 32 := Scalar.subi v972 c1_i32_578
  let v1059 : BitVec 32 := Scalar.subi v1058 v509
  let c0_i32_579 : BitVec 32 := 0#32
  let v1060 : BitVec 32 := Scalar.maxsi v1059 c0_i32_579
  let v1061 : BitVec 32 := Scalar.select v1057 v17 v1060
  let c256_i32_590 : BitVec 32 := 256#32
  let v1076 : BitVec 32 := Scalar.muli v1061 c256_i32_590
  v1076
def k0_mult31 (i : grid0.Coords) (k0_t2 : Fin (k0_t2_loop i).trips) : BitVec 32 :=
  let c2_i32_508 : BitVec 32 := 2#32
  let c0_i32_427 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_419 : BitVec 32 := 2#32
  let v720 : BitVec 32 := Scalar.subi v511 c2_i32_419
  let c0_i32_421 : BitVec 32 := 0#32
  let v722 : BitVec 1 := Scalar.cmpi .sgt v720 c0_i32_421
  let v723 : BitVec 32 := Scalar.extui v722
  let c0_i32_422 : BitVec 32 := 0#32
  let v724 : BitVec 1 := Scalar.cmpi .slt v720 c0_i32_422
  let v725 : BitVec 32 := Scalar.extui v724
  let v726 : BitVec 32 := Scalar.subi v723 v725
  let c2_i32_420 : BitVec 32 := 2#32
  let c0_i32_423 : BitVec 32 := 0#32
  let v727 : BitVec 1 := Scalar.cmpi .sgt c2_i32_420 c0_i32_423
  let v728 : BitVec 32 := Scalar.extui v727
  let c0_i32_424 : BitVec 32 := 0#32
  let v729 : BitVec 1 := Scalar.cmpi .slt c2_i32_420 c0_i32_424
  let v730 : BitVec 32 := Scalar.extui v729
  let v731 : BitVec 32 := Scalar.subi v728 v730
  let v732 : BitVec 1 := Scalar.cmpi .ne v726 v731
  let v733 : BitVec 32 := Scalar.remsi v720 c2_i32_420
  let c0_i32_425 : BitVec 32 := 0#32
  let v734 : BitVec 1 := Scalar.cmpi .ne v733 c0_i32_425
  let v735 : BitVec 1 := Scalar.andi v732 v734
  let v721 : BitVec 32 := Scalar.divsi v720 c2_i32_420
  let c1_i32_426 : BitVec 32 := 1#32
  let v736 : BitVec 32 := Scalar.subi v721 c1_i32_426
  let v737 : BitVec 32 := Scalar.select v735 v736 v721
  let v738 : BitVec 32 := Scalar.subi v737 c0_i32_427
  let c1_i32_428 : BitVec 32 := 1#32
  let v740 : BitVec 32 := Scalar.divsi v738 c1_i32_428
  let v741 : BitVec 32 := Scalar.muli v740 c1_i32_428
  let v742 : BitVec 32 := Scalar.addi c0_i32_427 v741
  let c1_i32_430 : BitVec 32 := 1#32
  let arg27 : BitVec 32 := Scf.iv v742 c1_i32_430 k0_t2
  let v972 : BitVec 32 := Scalar.muli c2_i32_508 arg27
  let c1_i32_616 : BitVec 32 := 1#32
  let v1110 : BitVec 32 := Scalar.addi v972 c1_i32_616
  let c0_i32_617 : BitVec 32 := 0#32
  let v1111 : BitVec 1 := Scalar.cmpi .eq v1110 c0_i32_617
  let c1_i32_618 : BitVec 32 := 1#32
  let v1112 : BitVec 32 := Scalar.subi v1110 c1_i32_618
  let v1113 : BitVec 32 := Scalar.subi v1112 v509
  let c0_i32_619 : BitVec 32 := 0#32
  let v1114 : BitVec 32 := Scalar.maxsi v1113 c0_i32_619
  let v1115 : BitVec 32 := Scalar.select v1111 v17 v1114
  let c256_i32_620 : BitVec 32 := 256#32
  let v1118 : BitVec 32 := Scalar.muli v1115 c256_i32_620
  v1118
def k0_off11 (i : grid0.Coords) (k0_t2 : Fin (k0_t2_loop i).trips) : Fin 2 → Nat :=
  let c0_624 : Index := 0#32
  let c2_i32_508 : BitVec 32 := 2#32
  let c0_i32_427 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_419 : BitVec 32 := 2#32
  let v720 : BitVec 32 := Scalar.subi v511 c2_i32_419
  let c0_i32_421 : BitVec 32 := 0#32
  let v722 : BitVec 1 := Scalar.cmpi .sgt v720 c0_i32_421
  let v723 : BitVec 32 := Scalar.extui v722
  let c0_i32_422 : BitVec 32 := 0#32
  let v724 : BitVec 1 := Scalar.cmpi .slt v720 c0_i32_422
  let v725 : BitVec 32 := Scalar.extui v724
  let v726 : BitVec 32 := Scalar.subi v723 v725
  let c2_i32_420 : BitVec 32 := 2#32
  let c0_i32_423 : BitVec 32 := 0#32
  let v727 : BitVec 1 := Scalar.cmpi .sgt c2_i32_420 c0_i32_423
  let v728 : BitVec 32 := Scalar.extui v727
  let c0_i32_424 : BitVec 32 := 0#32
  let v729 : BitVec 1 := Scalar.cmpi .slt c2_i32_420 c0_i32_424
  let v730 : BitVec 32 := Scalar.extui v729
  let v731 : BitVec 32 := Scalar.subi v728 v730
  let v732 : BitVec 1 := Scalar.cmpi .ne v726 v731
  let v733 : BitVec 32 := Scalar.remsi v720 c2_i32_420
  let c0_i32_425 : BitVec 32 := 0#32
  let v734 : BitVec 1 := Scalar.cmpi .ne v733 c0_i32_425
  let v735 : BitVec 1 := Scalar.andi v732 v734
  let v721 : BitVec 32 := Scalar.divsi v720 c2_i32_420
  let c1_i32_426 : BitVec 32 := 1#32
  let v736 : BitVec 32 := Scalar.subi v721 c1_i32_426
  let v737 : BitVec 32 := Scalar.select v735 v736 v721
  let v738 : BitVec 32 := Scalar.subi v737 c0_i32_427
  let c1_i32_428 : BitVec 32 := 1#32
  let v740 : BitVec 32 := Scalar.divsi v738 c1_i32_428
  let v741 : BitVec 32 := Scalar.muli v740 c1_i32_428
  let v742 : BitVec 32 := Scalar.addi c0_i32_427 v741
  let c1_i32_430 : BitVec 32 := 1#32
  let arg27 : BitVec 32 := Scf.iv v742 c1_i32_430 k0_t2
  let v972 : BitVec 32 := Scalar.muli c2_i32_508 arg27
  let c1_i32_616 : BitVec 32 := 1#32
  let v1110 : BitVec 32 := Scalar.addi v972 c1_i32_616
  let c0_i32_617 : BitVec 32 := 0#32
  let v1111 : BitVec 1 := Scalar.cmpi .eq v1110 c0_i32_617
  let c1_i32_618 : BitVec 32 := 1#32
  let v1112 : BitVec 32 := Scalar.subi v1110 c1_i32_618
  let v1113 : BitVec 32 := Scalar.subi v1112 v509
  let c0_i32_619 : BitVec 32 := 0#32
  let v1114 : BitVec 32 := Scalar.maxsi v1113 c0_i32_619
  let v1115 : BitVec 32 := Scalar.select v1111 v17 v1114
  let c256_i32_620 : BitVec 32 := 256#32
  let v1118 : BitVec 32 := Scalar.muli v1115 c256_i32_620
  let v1119 : BitVec 32 := v1118
  let v1122 : Index := Scalar.indexCast v1119
  ![0, v1122.toNat]
def k0_mult32 (i : grid0.Coords) (k0_t2 : Fin (k0_t2_loop i).trips) : BitVec 32 :=
  let c2_i32_508 : BitVec 32 := 2#32
  let c0_i32_427 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_419 : BitVec 32 := 2#32
  let v720 : BitVec 32 := Scalar.subi v511 c2_i32_419
  let c0_i32_421 : BitVec 32 := 0#32
  let v722 : BitVec 1 := Scalar.cmpi .sgt v720 c0_i32_421
  let v723 : BitVec 32 := Scalar.extui v722
  let c0_i32_422 : BitVec 32 := 0#32
  let v724 : BitVec 1 := Scalar.cmpi .slt v720 c0_i32_422
  let v725 : BitVec 32 := Scalar.extui v724
  let v726 : BitVec 32 := Scalar.subi v723 v725
  let c2_i32_420 : BitVec 32 := 2#32
  let c0_i32_423 : BitVec 32 := 0#32
  let v727 : BitVec 1 := Scalar.cmpi .sgt c2_i32_420 c0_i32_423
  let v728 : BitVec 32 := Scalar.extui v727
  let c0_i32_424 : BitVec 32 := 0#32
  let v729 : BitVec 1 := Scalar.cmpi .slt c2_i32_420 c0_i32_424
  let v730 : BitVec 32 := Scalar.extui v729
  let v731 : BitVec 32 := Scalar.subi v728 v730
  let v732 : BitVec 1 := Scalar.cmpi .ne v726 v731
  let v733 : BitVec 32 := Scalar.remsi v720 c2_i32_420
  let c0_i32_425 : BitVec 32 := 0#32
  let v734 : BitVec 1 := Scalar.cmpi .ne v733 c0_i32_425
  let v735 : BitVec 1 := Scalar.andi v732 v734
  let v721 : BitVec 32 := Scalar.divsi v720 c2_i32_420
  let c1_i32_426 : BitVec 32 := 1#32
  let v736 : BitVec 32 := Scalar.subi v721 c1_i32_426
  let v737 : BitVec 32 := Scalar.select v735 v736 v721
  let v738 : BitVec 32 := Scalar.subi v737 c0_i32_427
  let c1_i32_428 : BitVec 32 := 1#32
  let v740 : BitVec 32 := Scalar.divsi v738 c1_i32_428
  let v741 : BitVec 32 := Scalar.muli v740 c1_i32_428
  let v742 : BitVec 32 := Scalar.addi c0_i32_427 v741
  let c1_i32_430 : BitVec 32 := 1#32
  let arg27 : BitVec 32 := Scf.iv v742 c1_i32_430 k0_t2
  let v972 : BitVec 32 := Scalar.muli c2_i32_508 arg27
  let c1_i32_616 : BitVec 32 := 1#32
  let v1110 : BitVec 32 := Scalar.addi v972 c1_i32_616
  let c0_i32_617 : BitVec 32 := 0#32
  let v1111 : BitVec 1 := Scalar.cmpi .eq v1110 c0_i32_617
  let c1_i32_618 : BitVec 32 := 1#32
  let v1112 : BitVec 32 := Scalar.subi v1110 c1_i32_618
  let v1113 : BitVec 32 := Scalar.subi v1112 v509
  let c0_i32_619 : BitVec 32 := 0#32
  let v1114 : BitVec 32 := Scalar.maxsi v1113 c0_i32_619
  let v1115 : BitVec 32 := Scalar.select v1111 v17 v1114
  let c256_i32_630 : BitVec 32 := 256#32
  let v1130 : BitVec 32 := Scalar.muli v1115 c256_i32_630
  v1130
def k0_mult33 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_447 : BitVec 32 := 2#32
  let v769 : BitVec 32 := Scalar.subi v511 c2_i32_447
  let c0_i32_448 : BitVec 32 := 0#32
  let v770 : BitVec 1 := Scalar.cmpi .eq v769 c0_i32_448
  let c1_i32_449 : BitVec 32 := 1#32
  let v771 : BitVec 32 := Scalar.subi v769 c1_i32_449
  let v772 : BitVec 32 := Scalar.subi v771 v509
  let c0_i32_450 : BitVec 32 := 0#32
  let v773 : BitVec 32 := Scalar.maxsi v772 c0_i32_450
  let v774 : BitVec 32 := Scalar.select v770 v17 v773
  let c256_i32_451 : BitVec 32 := 256#32
  let v777 : BitVec 32 := Scalar.muli v774 c256_i32_451
  v777
def k0_off12 (i : grid0.Coords) (c2_i32_447 : BitVec 32) : Fin 2 → Nat :=
  let c0_455 : Index := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let v769 : BitVec 32 := Scalar.subi v511 c2_i32_447
  let c0_i32_448 : BitVec 32 := 0#32
  let v770 : BitVec 1 := Scalar.cmpi .eq v769 c0_i32_448
  let c1_i32_449 : BitVec 32 := 1#32
  let v771 : BitVec 32 := Scalar.subi v769 c1_i32_449
  let v772 : BitVec 32 := Scalar.subi v771 v509
  let c0_i32_450 : BitVec 32 := 0#32
  let v773 : BitVec 32 := Scalar.maxsi v772 c0_i32_450
  let v774 : BitVec 32 := Scalar.select v770 v17 v773
  let c256_i32_451 : BitVec 32 := 256#32
  let v777 : BitVec 32 := Scalar.muli v774 c256_i32_451
  let v778 : BitVec 32 := v777
  let v781 : Index := Scalar.indexCast v778
  ![0, v781.toNat]
def k0_mult34 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c2_i32_447 : BitVec 32 := 2#32
  let v769 : BitVec 32 := Scalar.subi v511 c2_i32_447
  let c0_i32_448 : BitVec 32 := 0#32
  let v770 : BitVec 1 := Scalar.cmpi .eq v769 c0_i32_448
  let c1_i32_449 : BitVec 32 := 1#32
  let v771 : BitVec 32 := Scalar.subi v769 c1_i32_449
  let v772 : BitVec 32 := Scalar.subi v771 v509
  let c0_i32_450 : BitVec 32 := 0#32
  let v773 : BitVec 32 := Scalar.maxsi v772 c0_i32_450
  let v774 : BitVec 32 := Scalar.select v770 v17 v773
  let c256_i32_461 : BitVec 32 := 256#32
  let v789 : BitVec 32 := Scalar.muli v774 c256_i32_461
  v789
def k0_mult35 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c1_i32_471 : BitVec 32 := 1#32
  let v799 : BitVec 32 := Scalar.subi v511 c1_i32_471
  let c0_i32_472 : BitVec 32 := 0#32
  let v800 : BitVec 1 := Scalar.cmpi .eq v799 c0_i32_472
  let c1_i32_473 : BitVec 32 := 1#32
  let v801 : BitVec 32 := Scalar.subi v799 c1_i32_473
  let v802 : BitVec 32 := Scalar.subi v801 v509
  let c0_i32_474 : BitVec 32 := 0#32
  let v803 : BitVec 32 := Scalar.maxsi v802 c0_i32_474
  let v804 : BitVec 32 := Scalar.select v800 v17 v803
  let c256_i32_475 : BitVec 32 := 256#32
  let v807 : BitVec 32 := Scalar.muli v804 c256_i32_475
  v807
def k0_mult36 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_252 : BitVec 32 := 1#32
  let v510 : BitVec 32 := Scalar.addi v17 c1_i32_252
  let c1_i32_251 : BitVec 32 := 1#32
  let c2_i32_245 : BitVec 32 := 2#32
  let c0_i32_246 : BitVec 32 := 0#32
  let v499 : BitVec 1 := Scalar.cmpi .eq c2_i32_245 c0_i32_246
  let c1_i32_247 : BitVec 32 := 1#32
  let v500 : BitVec 32 := Scalar.select v499 c1_i32_247 c2_i32_245
  let v501 : BitVec 32 := Scalar.remsi v17 v500
  let c0_i32_249 : BitVec 32 := 0#32
  let v503 : BitVec 1 := Scalar.cmpi .slt v501 c0_i32_249
  let c0_i32_250 : BitVec 32 := 0#32
  let v504 : BitVec 1 := Scalar.cmpi .slt v500 c0_i32_250
  let v505 : BitVec 1 := Scalar.xori v503 v504
  let c0_i32_248 : BitVec 32 := 0#32
  let v502 : BitVec 1 := Scalar.cmpi .ne v501 c0_i32_248
  let v506 : BitVec 1 := Scalar.andi v505 v502
  let v507 : BitVec 32 := Scalar.addi v501 v500
  let v508 : BitVec 32 := Scalar.select v506 v507 v501
  let v509 : BitVec 32 := Scalar.subi c1_i32_251 v508
  let v511 : BitVec 32 := Scalar.addi v510 v509
  let c1_i32_471 : BitVec 32 := 1#32
  let v799 : BitVec 32 := Scalar.subi v511 c1_i32_471
  let c0_i32_472 : BitVec 32 := 0#32
  let v800 : BitVec 1 := Scalar.cmpi .eq v799 c0_i32_472
  let c1_i32_473 : BitVec 32 := 1#32
  let v801 : BitVec 32 := Scalar.subi v799 c1_i32_473
  let v802 : BitVec 32 := Scalar.subi v801 v509
  let c0_i32_474 : BitVec 32 := 0#32
  let v803 : BitVec 32 := Scalar.maxsi v802 c0_i32_474
  let v804 : BitVec 32 := Scalar.select v800 v17 v803
  let c256_i32_485 : BitVec 32 := 256#32
  let v819 : BitVec 32 := Scalar.muli v804 c256_i32_485
  v819
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![arg0.toNat, c0_i32.toNat, c8_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![arg0.toNat, c8_i32.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c9_i32 : BitVec 32 := 9#32
  let c0_i32_0 : BitVec 32 := 0#32
  ![arg0.toNat, c0_i32.toNat, c9_i32.toNat]

def cc0_transform_8 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let c0_i32_0 : BitVec 32 := 0#32
  ![arg0.toNat, c9_i32.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4096x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "mask" => some ⊥
  | "mask_tenth" => some ⊥
  | "q_scale" => some (((1 / 8) * (Real.log 2)⁻¹ : ℝ) : EReal)
  | _ => none
-- ==== Ffn.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S512x1024 : Shape := ⟨2, ![512, 1024]⟩
abbrev S1x1024 : Shape := ⟨2, ![1, 1024]⟩
abbrev S1x5632 : Shape := ⟨2, ![1, 5632]⟩
abbrev S512x512 : Shape := ⟨2, ![512, 512]⟩
abbrev S11x2x16x256 : Shape := ⟨4, ![11, 2, 16, 256]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x1x16x256 : Shape := ⟨4, ![1, 1, 16, 256]⟩
abbrev S16x256 : Shape := ⟨2, ![16, 256]⟩
abbrev S1024x256 : Shape := ⟨2, ![1024, 256]⟩
abbrev S256x256 : Shape := ⟨2, ![256, 256]⟩
abbrev S272x256 : Shape := ⟨2, ![272, 256]⟩
abbrev S1x256 : Shape := ⟨2, ![1, 256]⟩

abbrev nBuf : Space → Nat
  | .hbm => 22
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S1x1024, .f32⟩
  | .hbm, ⟨16, _⟩ => ⟨S1x1024, .f32⟩
  | .hbm, ⟨17, _⟩ => ⟨S1024x5632, .bf16⟩
  | .hbm, ⟨18, _⟩ => ⟨S1x5632, .f32⟩
  | .hbm, ⟨19, _⟩ => ⟨S2816x1024, .bf16⟩
  | .hbm, ⟨20, _⟩ => ⟨S1x1024, .f32⟩
  | .hbm, ⟨21, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .f32⟩
  | .local _ .vmem, ⟨19, _⟩ => ⟨S11x2x16x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnReferenceIdeal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S32768x2816 : Shape := ⟨2, ![32768, 2816]⟩

abbrev nBuf : Space → Nat
  | .hbm => 118
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S32768x512, .f32⟩
  | .hbm, ⟨12, _⟩ => ⟨S32768x512, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S32768x5632, .f32⟩
  | .hbm, ⟨49, _⟩ => ⟨S8x4096x5632, .f32⟩
  | .hbm, ⟨50, _⟩ => ⟨S_, .i32⟩
  | .hbm, ⟨51, _⟩ => ⟨S_, .f32⟩
  | .hbm, ⟨52, _⟩ => ⟨S8x4098x5632, .f32⟩
  | .hbm, ⟨53, _⟩ => ⟨S1x5632, .f32⟩
  | .hbm, ⟨54, _⟩ => ⟨S5632, .f32⟩
  | .hbm, ⟨55, _⟩ => ⟨S8x4096x5632, .f32⟩
  | .hbm, ⟨56, _⟩ => ⟨S1x1x5632, .f32⟩
  | .hbm, ⟨57, _⟩ => ⟨S8x4096x5632, .f32⟩
  | .hbm, ⟨58, _⟩ => ⟨S8x4096x5632, .f32⟩
  | .hbm, ⟨59, _⟩ => ⟨S_, .f32⟩
  | .hbm, ⟨60, _⟩ => ⟨S8x4096x5632, .f32⟩
  | .hbm, ⟨61, _⟩ => ⟨S8x4096x5632, .f32⟩
  | .hbm, ⟨62, _⟩ => ⟨S1x5632, .f32⟩
  | .hbm, ⟨63, _⟩ => ⟨S5632, .f32⟩
  | .hbm, ⟨64, _⟩ => ⟨S8x4096x5632, .f32⟩
  | .hbm, ⟨65, _⟩ => ⟨S1x1x5632, .f32⟩
  | .hbm, ⟨66, _⟩ => ⟨S8x4096x5632, .f32⟩
  | .hbm, ⟨67, _⟩ => ⟨S8x4096x5632, .f32⟩
  | .hbm, ⟨68, _⟩ => ⟨S8x4096x5632, .f32⟩
  | .hbm, ⟨69, _⟩ => ⟨S1x5632, .f32⟩
  | .hbm, ⟨70, _⟩ => ⟨S5632, .f32⟩
  | .hbm, ⟨71, _⟩ => ⟨S8x4096x5632, .f32⟩
  | .hbm, ⟨72, _⟩ => ⟨S1x1x5632, .f32⟩
  | .hbm, ⟨73, _⟩ => ⟨S8x4096x5632, .f32⟩
  | .hbm, ⟨74, _⟩ => ⟨S8x4096x5632, .f32⟩
  | .hbm, ⟨75, _⟩ => ⟨S8x4096x5632, .f32⟩
  | .hbm, ⟨76, _⟩ => ⟨S1x1x5632, .f32⟩
  | .hbm, ⟨77, _⟩ => ⟨S8x4096x5632, .f32⟩
  | .hbm, ⟨78, _⟩ => ⟨S8x4096x5632, .f32⟩
  | .hbm, ⟨79, _⟩ => ⟨S32768x5632, .f32⟩
  | .hbm, ⟨80, _⟩ => ⟨S32768x2816, .f32⟩
  | .hbm, ⟨81, _⟩ => ⟨S32768x2816, .f32⟩
  | .hbm, ⟨82, _⟩ => ⟨S_, .f32⟩
  | .hbm, ⟨83, _⟩ => ⟨S32768x2816, .f32⟩
  | .hbm, ⟨84, _⟩ => ⟨S32768x2816, .f32⟩
  | .hbm, ⟨85, _⟩ => ⟨S32768x2816, .f32⟩
  | .hbm, ⟨86, _⟩ => ⟨S32768x2816, .f32⟩
  | .hbm, ⟨87, _⟩ => ⟨S_, .f32⟩
  | .hbm, ⟨88, _⟩ => ⟨S32768x2816, .f32⟩
  | .hbm, ⟨89, _⟩ => ⟨S32768x2816, .f32⟩
  | .hbm, ⟨90, _⟩ => ⟨S32768x2816, .f32⟩
  | .hbm, ⟨91, _⟩ => ⟨S_, .f32⟩
  | .hbm, ⟨92, _⟩ => ⟨S32768x2816, .f32⟩
  | .hbm, ⟨93, _⟩ => ⟨S32768x2816, .f32⟩
  | .hbm, ⟨94, _⟩ => ⟨S32768x2816, .f32⟩
  | .hbm, ⟨95, _⟩ => ⟨S_, .f32⟩
  | .hbm, ⟨96, _⟩ => ⟨S32768x2816, .f32⟩
  | .hbm, ⟨97, _⟩ => ⟨S32768x2816, .f32⟩
  | .hbm, ⟨98, _⟩ => ⟨S32768x2816, .f32⟩
  | .hbm, ⟨99, _⟩ => ⟨S32768x2816, .f32⟩
  | .hbm, ⟨100, _⟩ => ⟨S32768x1024, .f32⟩
  | .hbm, ⟨101, _⟩ => ⟨S32768x1024, .f32⟩
  | .hbm, ⟨102, _⟩ => ⟨S_, .f32⟩
  | .hbm, ⟨103, _⟩ => ⟨S32768, .f32⟩
  | .hbm, ⟨104, _⟩ => ⟨S32768x1, .f32⟩
  | .hbm, ⟨105, _⟩ => ⟨S_, .f32⟩
  | .hbm, ⟨106, _⟩ => ⟨S32768x1, .f32⟩
  | .hbm, ⟨107, _⟩ => ⟨S32768x1, .f32⟩
  | .hbm, ⟨108, _⟩ => ⟨S_, .f32⟩
  | .hbm, ⟨109, _⟩ => ⟨S32768x1, .f32⟩
  | .hbm, ⟨110, _⟩ => ⟨S32768x1, .f32⟩
  | .hbm, ⟨111, _⟩ => ⟨S32768x1, .f32⟩
  | .hbm, ⟨112, _⟩ => ⟨S32768x1024, .f32⟩
  | .hbm, ⟨113, _⟩ => ⟨S32768x1024, .f32⟩
  | .hbm, ⟨114, _⟩ => ⟨S1x1024, .f32⟩
  | .hbm, ⟨115, _⟩ => ⟨S32768x1024, .f32⟩
  | .hbm, ⟨116, _⟩ => ⟨S32768x1024, .f32⟩
  | .hbm, ⟨117, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_6 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_7 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_8 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_10 : Ref sig .tc := ⟨.hbm, 102, rfl⟩
abbrev main_v78 : Ref sig .tc := ⟨.hbm, 103, rfl⟩
abbrev main_v79 : Ref sig .tc := ⟨.hbm, 104, rfl⟩
abbrev main_cst_11 : Ref sig .tc := ⟨.hbm, 105, rfl⟩
abbrev main_v80 : Ref sig .tc := ⟨.hbm, 106, rfl⟩
abbrev main_v81 : Ref sig .tc := ⟨.hbm, 107, rfl⟩
abbrev main_cst_12 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩

abbrev nD : Nat := 1
abbrev τ : Topo := Topo.v7x

variable {F : FTy → Type} [FloatOps F]
-- ==== Proj.lean ====
abbrev S32768x1024 : Shape := ⟨2, ![32768, 1024]⟩
abbrev S1024 : Shape := ⟨1, ![1024]⟩
abbrev S1024x1280 : Shape := ⟨2, ![1024, 1280]⟩
abbrev S1024x896 : Shape := ⟨2, ![1024, 896]⟩
abbrev S1280x1024 : Shape := ⟨2, ![1280, 1024]⟩
abbrev S1x1024 : Shape := ⟨2, ![1, 1024]⟩
abbrev S32768x1280 : Shape := ⟨2, ![32768, 1280]⟩
abbrev S32768x896 : Shape := ⟨2, ![32768, 896]⟩
abbrev S8x1280x4096 : Shape := ⟨3, ![8, 1280, 4096]⟩
abbrev S512x1024 : Shape := ⟨2, ![512, 1024]⟩
abbrev S512x1280 : Shape := ⟨2, ![512, 1280]⟩
abbrev S512x896 : Shape := ⟨2, ![512, 896]⟩
abbrev S1x1280x512 : Shape := ⟨3, ![1, 1280, 512]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S1024x384 : Shape := ⟨2, ![1024, 384]⟩
abbrev S512x384 : Shape := ⟨2, ![512, 384]⟩
abbrev S1x512x512 : Shape := ⟨3, ![1, 512, 512]⟩
abbrev S256x1024 : Shape := ⟨2, ![256, 1024]⟩
abbrev S256x512 : Shape := ⟨2, ![256, 512]⟩
abbrev S1x256x512 : Shape := ⟨3, ![1, 256, 512]⟩

abbrev nBuf : Space → Nat
  | .hbm => 13
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1280, .f32⟩
  | .hbm, ⟨3, _⟩ => ⟨S1024x896, .f32⟩
  | .hbm, ⟨4, _⟩ => ⟨S1024x1280, .f32⟩
  | .hbm, ⟨5, _⟩ => ⟨S1024x1280, .bf16⟩
  | .hbm, ⟨6, _⟩ => ⟨S1024x896, .bf16⟩
  | .hbm, ⟨7, _⟩ => ⟨S1280x1024, .f32⟩
  | .hbm, ⟨8, _⟩ => ⟨S1280x1024, .bf16⟩
  | .hbm, ⟨9, _⟩ => ⟨S1x1024, .f32⟩
  | .hbm, ⟨10, _⟩ => ⟨S32768x1280, .bf16⟩
  | .hbm, ⟨11, _⟩ => ⟨S32768x896, .f32⟩
  | .hbm, ⟨12, _⟩ => ⟨S8x1280x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1280, .bf16⟩
  | .local _ .vmem, ⟨4, _⟩ => ⟨S1024x896, .bf16⟩
  | .local _ .vmem, ⟨5, _⟩ => ⟨S1280x1024, .bf16⟩
  | .local _ .vmem, ⟨6, _⟩ => ⟨S512x1280, .bf16⟩
  | .local _ .vmem, ⟨7, _⟩ => ⟨S512x1280, .bf16⟩
  | .local _ .vmem, ⟨8, _⟩ => ⟨S512x896, .f32⟩
  | .local _ .vmem, ⟨9, _⟩ => ⟨S512x896, .f32⟩
  | .local _ .vmem, ⟨10, _⟩ => ⟨S1x1280x512, .bf16⟩
  | .local _ .vmem, ⟨11, _⟩ => ⟨S1x1280x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1280x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjReferenceIdeal.lean ====
abbrev S32768x1024 : Shape := ⟨2, ![32768, 1024]⟩
abbrev S1024 : Shape := ⟨1, ![1024]⟩
abbrev S1024x1280 : Shape := ⟨2, ![1024, 1280]⟩
abbrev S1024x896 : Shape := ⟨2, ![1024, 896]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1280 : Shape := ⟨2, ![32768, 1280]⟩
abbrev S8x4096x1280 : Shape := ⟨3, ![8, 4096, 1280]⟩
abbrev S32768x896 : Shape := ⟨2, ![32768, 896]⟩
abbrev S8x1280x4096 : Shape := ⟨3, ![8, 1280, 4096]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1280, .f32⟩
  | .hbm, ⟨3, _⟩ => ⟨S1024x896, .f32⟩
  | .hbm, ⟨4, _⟩ => ⟨S1024x1280, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x1280, .f32⟩
  | .hbm, ⟨22, _⟩ => ⟨S8x4096x1280, .f32⟩
  | .hbm, ⟨23, _⟩ => ⟨S32768x1280, .f32⟩
  | .hbm, ⟨24, _⟩ => ⟨S32768x1280, .bf16⟩
  | .hbm, ⟨25, _⟩ => ⟨S32768x896, .f32⟩
  | .hbm, ⟨26, _⟩ => ⟨S8x1280x4096, .f32⟩
  | .hbm, ⟨27, _⟩ => ⟨S8x1280x4096, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Sgu.lean ====
abbrev S8x4096x1024 : Shape := ⟨3, ![8, 4096, 1024]⟩
abbrev S1024 : Shape := ⟨1, ![1024]⟩
abbrev S1024x512 : Shape := ⟨2, ![1024, 512]⟩
abbrev S512 : Shape := ⟨1, ![512]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S1x1024 : Shape := ⟨2, ![1, 1024]⟩
abbrev S1x512 : Shape := ⟨2, ![1, 512]⟩
abbrev S8x4096x512 : Shape := ⟨3, ![8, 4096, 512]⟩
abbrev S1x1024x1024 : Shape := ⟨3, ![1, 1024, 1024]⟩
abbrev S1x1024x512 : Shape := ⟨3, ![1, 1024, 512]⟩
abbrev S128x128 : Shape := ⟨2, ![128, 128]⟩
abbrev S1x128x128 : Shape := ⟨3, ![1, 128, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S128x64 : Shape := ⟨2, ![128, 64]⟩
abbrev S1x128x64 : Shape := ⟨3, ![1, 128, 64]⟩

abbrev nBuf : Space → Nat
  | .hbm => 17
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S512, .f32⟩
  | .hbm, ⟨5, _⟩ => ⟨S512, .f32⟩
  | .hbm, ⟨6, _⟩ => ⟨S8x128x128, .f32⟩
  | .hbm, ⟨7, _⟩ => ⟨S8x128, .f32⟩
  | .hbm, ⟨8, _⟩ => ⟨S1024x512, .bf16⟩
  | .hbm, ⟨9, _⟩ => ⟨S1024x512, .bf16⟩
  | .hbm, ⟨10, _⟩ => ⟨S128x8, .f32⟩
  | .hbm, ⟨11, _⟩ => ⟨S128x8x64, .f32⟩
  | .hbm, ⟨12, _⟩ => ⟨S128x512, .f32⟩
  | .hbm, ⟨13, _⟩ => ⟨S1x1024, .f32⟩
  | .hbm, ⟨14, _⟩ => ⟨S1x512, .f32⟩
  | .hbm, ⟨15, _⟩ => ⟨S1x512, .f32⟩
  | .hbm, ⟨16, _⟩ => ⟨S8x4096x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x512, .f32⟩
  | .local _ .vmem, ⟨6, _⟩ => ⟨S1x512, .f32⟩
  | .local _ .vmem, ⟨7, _⟩ => ⟨S8x128x128, .f32⟩
  | .local _ .vmem, ⟨8, _⟩ => ⟨S128x512, .f32⟩
  | .local _ .vmem, ⟨9, _⟩ => ⟨S1x1024x512, .bf16⟩
  | .local _ .vmem, ⟨10, _⟩ => ⟨S1x1024x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SguReferenceIdeal.lean ====
abbrev S8x4096x1024 : Shape := ⟨3, ![8, 4096, 1024]⟩
abbrev S1024 : Shape := ⟨1, ![1024]⟩
abbrev S1024x512 : Shape := ⟨2, ![1024, 512]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x512 : Shape := ⟨3, ![8, 4096, 512]⟩
abbrev S1x1x512 : Shape := ⟨3, ![1, 1, 512]⟩
abbrev S8x32x128x8x64 : Shape := ⟨5, ![8, 32, 128, 8, 64]⟩
abbrev S128x128 : Shape := ⟨2, ![128, 128]⟩
abbrev S1x128x128 : Shape := ⟨3, ![1, 128, 128]⟩
abbrev S8x8x32x64x128 : Shape := ⟨5, ![8, 8, 32, 64, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 112
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S512, .f32⟩
  | .hbm, ⟨5, _⟩ => ⟨S512, .f32⟩
  | .hbm, ⟨6, _⟩ => ⟨S8x128x128, .f32⟩
  | .hbm, ⟨7, _⟩ => ⟨S8x128, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x4096x512, .f32⟩
  | .hbm, ⟨25, _⟩ => ⟨S_, .f32⟩
  | .hbm, ⟨26, _⟩ => ⟨S8x4096x512, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S_, .f32⟩
  | .hbm, ⟨31, _⟩ => ⟨S8x4096x512, .f32⟩
  | .hbm, ⟨32, _⟩ => ⟨S8x4096x512, .f32⟩
  | .hbm, ⟨33, _⟩ => ⟨S8x4096x512, .f32⟩
  | .hbm, ⟨34, _⟩ => ⟨S_, .f32⟩
  | .hbm, ⟨35, _⟩ => ⟨S8x4096x512, .f32⟩
  | .hbm, ⟨36, _⟩ => ⟨S8x4096x512, .f32⟩
  | .hbm, ⟨37, _⟩ => ⟨S8x4096x512, .f32⟩
  | .hbm, ⟨38, _⟩ => ⟨S_, .f32⟩
  | .hbm, ⟨39, _⟩ => ⟨S8x4096x512, .f32⟩
  | .hbm, ⟨40, _⟩ => ⟨S8x4096x512, .f32⟩
  | .hbm, ⟨41, _⟩ => ⟨S8x4096x512, .f32⟩
  | .hbm, ⟨42, _⟩ => ⟨S8x4096x512, .f32⟩
  | .hbm, ⟨43, _⟩ => ⟨S_, .f32⟩
  | .hbm, ⟨44, _⟩ => ⟨S8x4096x512, .f32⟩
  | .hbm, ⟨45, _⟩ => ⟨S8x4096x512, .f32⟩
  | .hbm, ⟨46, _⟩ => ⟨S8x4096x512, .f32⟩
  | .hbm, ⟨47, _⟩ => ⟨S8x4096x512, .f32⟩
  | .hbm, ⟨48, _⟩ => ⟨S_, .f32⟩
  | .hbm, ⟨49, _⟩ => ⟨S8x4096x512, .f32⟩
  | .hbm, ⟨50, _⟩ => ⟨S8x4096x512, .f32⟩
  | .hbm, ⟨51, _⟩ => ⟨S8x4096x512, .f32⟩
  | .hbm, ⟨52, _⟩ => ⟨S_, .f32⟩
  | .hbm, ⟨53, _⟩ => ⟨S8x4096x512, .f32⟩
  | .hbm, ⟨54, _⟩ => ⟨S8x4096x512, .f32⟩
  | .hbm, ⟨55, _⟩ => ⟨S8x4096x512, .f32⟩
  | .hbm, ⟨56, _⟩ => ⟨S_, .f32⟩
  | .hbm, ⟨57, _⟩ => ⟨S8x4096x512, .f32⟩
  | .hbm, ⟨58, _⟩ => ⟨S8x4096x512, .f32⟩
  | .hbm, ⟨59, _⟩ => ⟨S8x4096x512, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x512, .f32⟩
  | .hbm, ⟨67, _⟩ => ⟨S8x4096x512, .f32⟩
  | .hbm, ⟨68, _⟩ => ⟨S8x4096x512, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S8x4096x1, .f32⟩
  | .hbm, ⟨79, _⟩ => ⟨S8x4096x512, .f32⟩
  | .hbm, ⟨80, _⟩ => ⟨S8x4096x512, .f32⟩
  | .hbm, ⟨81, _⟩ => ⟨S1x1x512, .f32⟩
  | .hbm, ⟨82, _⟩ => ⟨S8x4096x512, .f32⟩
  | .hbm, ⟨83, _⟩ => ⟨S8x4096x512, .f32⟩
  | .hbm, ⟨84, _⟩ => ⟨S1x1x512, .f32⟩
  | .hbm, ⟨85, _⟩ => ⟨S8x4096x512, .f32⟩
  | .hbm, ⟨86, _⟩ => ⟨S8x4096x512, .f32⟩
  | .hbm, ⟨87, _⟩ => ⟨S8x32x128x8x64, .f32⟩
  | .hbm, ⟨88, _⟩ => ⟨S_, .f32⟩
  | .hbm, ⟨89, _⟩ => ⟨S128x128, .f32⟩
  | .hbm, ⟨90, _⟩ => ⟨S128x128, .i32⟩
  | .hbm, ⟨91, _⟩ => ⟨S_, .i32⟩
  | .hbm, ⟨92, _⟩ => ⟨S128x128, .i32⟩
  | .hbm, ⟨93, _⟩ => ⟨S128x128, .i32⟩
  | .hbm, ⟨94, _⟩ => ⟨S128x128, .i32⟩
  | .hbm, ⟨95, _⟩ => ⟨S128x128, .i1⟩
  | .hbm, ⟨96, _⟩ => ⟨S_, .f32⟩
  | .hbm, ⟨97, _⟩ => ⟨S128x128, .f32⟩
  | .hbm, ⟨98, _⟩ => ⟨S128x128, .f32⟩
  | .hbm, ⟨99, _⟩ => ⟨S1x128x128, .f32⟩
  | .hbm, ⟨100, _⟩ => ⟨S8x128x128, .f32⟩
  | .hbm, ⟨101, _⟩ => ⟨S8x128x128, .f32⟩
  | .hbm, ⟨102, _⟩ => ⟨S8x8x32x64x128, .f32⟩
  | .hbm, ⟨103, _⟩ => ⟨S8x32x128x8x64, .f32⟩
  | .hbm, ⟨104, _⟩ => ⟨S128x8, .f32⟩
  | .hbm, ⟨105, _⟩ => ⟨S128x8x1, .f32⟩
  | .hbm, ⟨106, _⟩ => ⟨S1x1x128x8x1, .f32⟩
  | .hbm, ⟨107, _⟩ => ⟨S8x32x128x8x64, .f32⟩
  | .hbm, ⟨108, _⟩ => ⟨S8x32x128x8x64, .f32⟩
  | .hbm, ⟨109, _⟩ => ⟨S8x4096x512, .f32⟩
  | .hbm, ⟨110, _⟩ => ⟨S8x4096x512, .f32⟩
  | .hbm, ⟨111, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_cst_14 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_call0_v0 : Ref sig .tc := ⟨.hbm, 90, rfl⟩
abbrev main_call0_c : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_cst : Ref sig .tc := ⟨.hbm, 96, rfl⟩
abbrev main_call0_v5 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩

abbrev nD : Nat := 1
abbrev τ : Topo := Topo.v7x

variable {F : FTy → Type} [FloatOps F]
-- ==== Proof.IdealMarks.lean ====
module

public import proofs.«01_k».proof.Proof.Gen.KernelIdeal.Skeleton
public import Idealize.ShloMosaic.Lib.Tactic

@[expose] public section

set_option maxRecDepth 16384

noncomputable section

namespace Cert.KernelIdeal.Nsa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option synthInstance.maxSize 4096

/-- The ranks over the first 64 blocks, as the body writes them. -/
noncomputable def rankProg4 (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole) (v338 : IVec S8x256 32) (v364 : FVec F S64x256 .f32) (v390 : FVec F S64x256 .f32) :
    Prog (TpuEff nD τ sig (Elt F) Λ₀ .tc) (FVec F S64x256 .f32 × FVec F S64x256 .f32) := do
  let ⟨v978, v979, v980, v981, v982, v983, v984, v985, v986, v987, v988, v989, v990, v991, v992, v993, v4398, v4402, v4407, v4411, v4415, v4419, v4423, v4433, v4437, v4441, v4442, v4446, v4450, v4454, v4458, v4462, v4472⟩ ← k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390
  let ⟨v4476, v4480, v4485, v4489, v4493, v4497, v4501, v4511, v4515, v4519, v4520, v4524, v4528, v4531⟩ ← k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v978 v979 v980 v984 v985 v986 v987 v988 v989 v990 v991 v992 v993 v4398 v4402 v4407 v4411 v4415 v4419 v4423 v4433 v4437 v4441 v4442 v4446 v4450
  let ⟨v4532, v4536, v4540, v4550, v4554, v4558, v4559, v4563, v4567, v4571, v4575, v4579, v4589⟩ ← k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v390 v981 v982 v983 v984 v985 v986 v987 v988 v989 v990 v991 v4454 v4458 v4462 v4472 v4476 v4480 v4485 v4489 v4493 v4497 v4501 v4511 v4520 v4531
  let ⟨v4593, v4597, v4602, v4606, v4610, v4614, v4618, v4628, v4632, v4636, v4637, v4641, v4645, v4648⟩ ← k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v978 v979 v980 v981 v982 v983 v984 v985 v986 v987 v988 v992 v993 v4515 v4519 v4524 v4528 v4532 v4536 v4540 v4550 v4554 v4558 v4559 v4563 v4567
  let ⟨v4649, v4653, v4657, v4667, v4671, v4675, v4676, v4680, v4684, v4688, v4692, v4696, v4706⟩ ← k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v978 v979 v980 v981 v982 v983 v989 v990 v991 v992 v993 v4571 v4575 v4579 v4589 v4593 v4597 v4602 v4606 v4610 v4614 v4618 v4628 v4637 v4648
  let ⟨v4710, v4714, v4719, v4723, v4727, v4731, v4735, v4745, v4749, v4753, v4754, v4758, v4762, v4765⟩ ← k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v978 v979 v980 v984 v985 v986 v987 v988 v989 v990 v991 v992 v993 v4632 v4636 v4641 v4645 v4649 v4653 v4657 v4667 v4671 v4675 v4676 v4680 v4684
  let ⟨v4766, v4770, v4774, v4778, v4788, v4792, v4793, v4797, v4801, v4805, v4809, v4813, v4817, v4819, v4822, v4823⟩ ← k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v390 v981 v982 v983 v984 v985 v986 v987 v988 v989 v990 v991 v992 v4688 v4692 v4696 v4706 v4710 v4714 v4719 v4723 v4727 v4731 v4735 v4745 v4754 v4765
  let ⟨v4827, v4831, v4836, v4840, v4844, v4848, v4852, v4856, v4866, v4870, v4871, v4875, v4879, v4882⟩ ← k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v978 v979 v980 v981 v982 v983 v984 v985 v986 v987 v988 v992 v993 v4749 v4753 v4758 v4762 v4766 v4770 v4774 v4778 v4788 v4792 v4793 v4797 v4801 v4819 v4822 v4823
  let ⟨v4883, v4887, v4891, v4895, v4905, v4909, v4910, v4914, v4918, v4922, v4926, v4930, v4934, v4936, v4939, v4940⟩ ← k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v978 v979 v980 v981 v982 v983 v984 v989 v990 v991 v992 v993 v4805 v4809 v4813 v4817 v4827 v4831 v4836 v4840 v4844 v4848 v4852 v4856 v4871 v4882
  let ⟨v4944, v4948, v4953, v4957, v4961, v4965, v4969, v4973, v4983, v4987, v4988, v4992, v4996, v4999⟩ ← k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v978 v979 v980 v984 v985 v986 v987 v988 v989 v990 v991 v992 v993 v4866 v4870 v4875 v4879 v4883 v4887 v4891 v4895 v4905 v4909 v4910 v4914 v4918 v4936 v4939 v4940
  let ⟨v5000, v5004, v5008, v5012, v5022, v5026, v5027, v5031, v5035, v5039, v5043, v5047, v5051, v5053, v5056, v5057⟩ ← k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v390 v981 v982 v983 v984 v985 v986 v987 v988 v989 v990 v991 v992 v4922 v4926 v4930 v4934 v4944 v4948 v4953 v4957 v4961 v4965 v4969 v4973 v4988 v4999
  let ⟨v5061, v5065, v5070, v5074, v5078, v5082, v5086, v5090, v5100, v5104, v5105, v5109, v5113, v5116⟩ ← k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v978 v979 v980 v981 v982 v983 v984 v985 v986 v987 v988 v992 v993 v4983 v4987 v4992 v4996 v5000 v5004 v5008 v5012 v5022 v5026 v5027 v5031 v5035 v5053 v5056 v5057
  let ⟨v5117, v5121, v5125, v5129, v5139, v5143, v5144, v5148, v5152, v5156, v5160, v5164, v5168, v5170, v5173, v5174⟩ ← k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v978 v979 v980 v981 v982 v983 v984 v989 v990 v991 v992 v993 v5039 v5043 v5047 v5051 v5061 v5065 v5070 v5074 v5078 v5082 v5086 v5090 v5105 v5116
  let ⟨v5178, v5182, v5187, v5191, v5195, v5199, v5203, v5207, v5217, v5221, v5222, v5226, v5230, v5233⟩ ← k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v978 v979 v980 v984 v985 v986 v987 v988 v989 v990 v991 v992 v993 v5100 v5104 v5109 v5113 v5117 v5121 v5125 v5129 v5139 v5143 v5144 v5148 v5152 v5170 v5173 v5174
  let ⟨v5234, v5238, v5242, v5246, v5256, v5260, v5261, v5265, v5269, v5273, v5277, v5281, v5285, v5287, v5290, v5291⟩ ← k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v390 v981 v982 v983 v984 v985 v986 v987 v988 v989 v990 v991 v992 v5156 v5160 v5164 v5168 v5178 v5182 v5187 v5191 v5195 v5199 v5203 v5207 v5222 v5233
  let ⟨v5295, v5299, v5304, v5308, v5312, v5316, v5320, v5324, v5334, v5338, v5339, v5343, v5347, v5350⟩ ← k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v978 v979 v980 v981 v982 v983 v984 v985 v986 v987 v988 v992 v993 v5217 v5221 v5226 v5230 v5234 v5238 v5242 v5246 v5256 v5260 v5261 v5265 v5269 v5287 v5290 v5291
  let ⟨v5351, v5355, v5359, v5363, v5373, v5377, v5378, v5382, v5386, v5390, v5394, v5398, v5402, v5406, v5408⟩ ← k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v978 v979 v980 v981 v982 v983 v984 v989 v990 v991 v992 v993 v5273 v5277 v5281 v5285 v5295 v5299 v5304 v5308 v5312 v5316 v5320 v5324 v5334 v5339 v5350
  let ⟨v5416, v5421, v5425, v5429, v5433, v5437, v5441, v5445, v5455, v5456, v5460, v5464, v5467⟩ ← k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v978 v979 v980 v985 v986 v987 v988 v989 v990 v991 v992 v993 v5338 v5343 v5347 v5351 v5355 v5359 v5363 v5373 v5377 v5378 v5382 v5386 v5408
  let ⟨v5468, v5472, v5476, v5480, v5484, v5494, v5495, v5499, v5503, v5507, v5511, v5515, v5519, v5523, v5525⟩ ← k0_part81 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v390 v981 v982 v983 v984 v985 v986 v987 v988 v989 v990 v991 v992 v5390 v5394 v5398 v5402 v5406 v5416 v5421 v5425 v5429 v5433 v5437 v5441 v5445 v5456 v5467
  let ⟨v5533, v5538, v5542, v5546, v5550, v5554, v5558, v5562, v5572, v5573, v5577, v5581, v5584⟩ ← k0_part82 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v978 v979 v980 v981 v982 v983 v984 v985 v986 v987 v988 v993 v5455 v5460 v5464 v5468 v5472 v5476 v5480 v5484 v5494 v5495 v5499 v5503 v5525
  let ⟨v5585, v5589, v5593, v5597, v5601, v5611, v5612, v5616, v5620, v5624, v5628, v5632, v5636, v5640, v5642⟩ ← k0_part83 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v978 v979 v980 v981 v982 v983 v984 v989 v990 v991 v992 v993 v5507 v5511 v5515 v5519 v5523 v5533 v5538 v5542 v5546 v5550 v5554 v5558 v5562 v5573 v5584
  let ⟨v5650, v5655, v5659, v5663, v5667, v5671, v5675, v5679, v5689, v5690, v5694, v5698, v5701⟩ ← k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v978 v979 v980 v985 v986 v987 v988 v989 v990 v991 v992 v993 v5572 v5577 v5581 v5585 v5589 v5593 v5597 v5601 v5611 v5612 v5616 v5620 v5642
  let ⟨v5702, v5706, v5710, v5714, v5718, v5728, v5729, v5733, v5737, v5741, v5745, v5749, v5753, v5757, v5759⟩ ← k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v390 v981 v982 v983 v984 v985 v986 v987 v988 v989 v990 v991 v992 v5624 v5628 v5632 v5636 v5640 v5650 v5655 v5659 v5663 v5667 v5671 v5675 v5679 v5690 v5701
  let ⟨v5767, v5772, v5776, v5780, v5784, v5788, v5792, v5796, v5806, v5807, v5811, v5815, v5818⟩ ← k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v978 v979 v980 v981 v982 v983 v984 v985 v986 v987 v988 v993 v5689 v5694 v5698 v5702 v5706 v5710 v5714 v5718 v5728 v5729 v5733 v5737 v5759
  let ⟨v5819, v5823, v5827, v5831, v5835, v5845, v5846, v5850, v5854, v5858, v5862, v5866, v5870, v5874, v5876⟩ ← k0_part87 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v978 v979 v980 v981 v982 v983 v984 v989 v990 v991 v992 v993 v5741 v5745 v5749 v5753 v5757 v5767 v5772 v5776 v5780 v5784 v5788 v5792 v5796 v5807 v5818
  let ⟨v5884, v5889, v5893, v5897, v5901, v5905, v5909, v5913, v5923, v5924, v5928, v5932, v5935⟩ ← k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v978 v979 v980 v985 v986 v987 v988 v989 v990 v991 v992 v993 v5806 v5811 v5815 v5819 v5823 v5827 v5831 v5835 v5845 v5846 v5850 v5854 v5876
  let ⟨v5936, v5940, v5944, v5948, v5952, v5962, v5963, v5967, v5971, v5975, v5979, v5983, v5987, v5991, v5993⟩ ← k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v390 v981 v982 v983 v984 v985 v986 v987 v988 v989 v990 v991 v992 v5858 v5862 v5866 v5870 v5874 v5884 v5889 v5893 v5897 v5901 v5905 v5909 v5913 v5924 v5935
  pure (k0_pay2498 (F := F) v5928 v5932 v5936 v5940 v5944 v5948 v5952 v5962, k0_pay2499 v993 v5923 v5963 v5967 v5971 v5975 v5979 v5983 v5987 v5991 v5993)

/-- The two groups' marks of the blocks of rank below sixteen among the first 64, with the fact that the statements
return them. -/
noncomputable def mark4 (v338 : IVec S8x256 32) (v364 : FVec F S64x256 .f32) (v390 : FVec F S64x256 .f32) :
    { r : FVec F S64x256 .f32 × FVec F S64x256 .f32 //
      ∀ (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole), rankProg4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 = .ret r } := by
  refine ⟨?_, fun i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 => ?run⟩
  case run =>
    unfold rankProg4
    simp only [k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    exact rfl

/-- The ranks over the first 48 blocks, as the body writes them. -/
noncomputable def rankProg3 (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole) (v338 : IVec S8x256 32) (v364 : FVec F S64x256 .f32) (v390 : FVec F S64x256 .f32) :
    Prog (TpuEff nD τ sig (Elt F) Λ₀ .tc) (FVec F S64x256 .f32 × FVec F S64x256 .f32) := do
  let ⟨v3985, v3988, v3989, v3990⟩ ← k0_part143 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390
  pure (v3985, k0_pay2500 v3988 v3989 v3990)

/-- The two groups' marks of the blocks of rank below sixteen among the first 48, with the fact that the statements
return them. -/
noncomputable def mark3 (v338 : IVec S8x256 32) (v364 : FVec F S64x256 .f32) (v390 : FVec F S64x256 .f32) :
    { r : FVec F S64x256 .f32 × FVec F S64x256 .f32 //
      ∀ (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole), rankProg3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 = .ret r } := by
  refine ⟨?_, fun i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 => ?run⟩
  case run =>
    unfold rankProg3
    simp only [k0_part143_eq_skeleton]
    exact rfl

/-- The ranks over the first 32 blocks, as the body writes them. -/
noncomputable def rankProg2 (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole) (v338 : IVec S8x256 32) (v364 : FVec F S64x256 .f32) (v390 : FVec F S64x256 .f32) :
    Prog (TpuEff nD τ sig (Elt F) Λ₀ .tc) (FVec F S64x256 .f32 × FVec F S64x256 .f32) := do
  let ⟨v975, v976, v977, v978, v979, v980, v981, v982, v988, v989, v990, v1001, v1005, v1009, v1013, v1014, v1024⟩ ← k0_part144 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390
  let ⟨v1047, v1051, v1055, v1059, v1070, v1074, v1078, v1082⟩ ← k0_part145 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v988 v989 v990 v1001 v1005 v1009 v1013 v1014 v1024
  let ⟨v1097, v1101, v1105, v1116, v1120, v1124, v1128, v1129, v1139⟩ ← k0_part146 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1047 v1051 v1055 v1059 v1070 v1074 v1078 v1082
  let ⟨v1162, v1166, v1170, v1174, v1185, v1189, v1193, v1197⟩ ← k0_part147 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1097 v1101 v1105 v1116 v1120 v1124 v1128 v1129 v1139
  let ⟨v1212, v1216, v1220, v1231, v1235, v1239, v1243, v1244, v1254⟩ ← k0_part148 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1162 v1166 v1170 v1174 v1185 v1189 v1193 v1197
  let ⟨v1277, v1281, v1285, v1289, v1300, v1304, v1308, v1312⟩ ← k0_part149 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1212 v1216 v1220 v1231 v1235 v1239 v1243 v1244 v1254
  let ⟨v1327, v1331, v1335, v1346, v1350, v1354, v1358, v1359, v1363, v1365, v1368, v1369⟩ ← k0_part150 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1277 v1281 v1285 v1289 v1300 v1304 v1308 v1312
  let ⟨v1386, v1396, v1400, v1404, v1409, v1419, v1423, v1427⟩ ← k0_part151 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1327 v1331 v1335 v1346 v1350 v1354 v1358 v1359 v1363 v1365 v1368 v1369
  let ⟨v1442, v1446, v1450, v1455, v1465, v1469, v1473, v1474, v1478, v1480, v1483, v1484⟩ ← k0_part152 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1386 v1396 v1400 v1404 v1409 v1419 v1423 v1427
  let ⟨v1501, v1511, v1515, v1519, v1524, v1534, v1538, v1542⟩ ← k0_part153 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1442 v1446 v1450 v1455 v1465 v1469 v1473 v1474 v1478 v1480 v1483 v1484
  let ⟨v1557, v1561, v1565, v1570, v1580, v1584, v1588, v1589, v1593, v1595, v1598, v1599⟩ ← k0_part154 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1501 v1511 v1515 v1519 v1524 v1534 v1538 v1542
  let ⟨v1616, v1626, v1630, v1634, v1639, v1649, v1653, v1657⟩ ← k0_part155 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1557 v1561 v1565 v1570 v1580 v1584 v1588 v1589 v1593 v1595 v1598 v1599
  let ⟨v1672, v1676, v1680, v1685, v1695, v1699, v1703, v1704, v1708, v1710, v1713, v1714⟩ ← k0_part156 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1616 v1626 v1630 v1634 v1639 v1649 v1653 v1657
  let ⟨v1731, v1735, v1745, v1749, v1754, v1758, v1768, v1772⟩ ← k0_part157 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1672 v1676 v1680 v1685 v1695 v1699 v1703 v1704 v1708 v1710 v1713 v1714
  let ⟨v1791, v1795, v1800, v1804, v1814, v1818, v1819, v1823, v1827, v1829⟩ ← k0_part158 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1731 v1735 v1745 v1749 v1754 v1758 v1768 v1772
  let ⟨v1846, v1850, v1860, v1864, v1869, v1873, v1883, v1887⟩ ← k0_part159 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1791 v1795 v1800 v1804 v1814 v1818 v1819 v1823 v1827 v1829
  let ⟨v1906, v1910, v1915, v1919, v1929, v1933, v1934, v1938, v1942, v1944⟩ ← k0_part160 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1846 v1850 v1860 v1864 v1869 v1873 v1883 v1887
  let ⟨v1961, v1965, v1975, v1979, v1984, v1988, v1998, v2002⟩ ← k0_part161 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1906 v1910 v1915 v1919 v1929 v1933 v1934 v1938 v1942 v1944
  let ⟨v2021, v2025, v2030, v2034, v2044, v2048, v2049, v2053, v2057, v2059⟩ ← k0_part162 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v1961 v1965 v1975 v1979 v1984 v1988 v1998 v2002
  let ⟨v2076, v2080, v2090, v2094, v2099, v2103, v2107, v2117⟩ ← k0_part163 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v2021 v2025 v2030 v2034 v2044 v2048 v2049 v2053 v2057 v2059
  let ⟨v2130, v2140, v2145, v2149, v2153, v2163, v2164, v2168, v2172, v2175⟩ ← k0_part164 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v2076 v2080 v2090 v2094 v2099 v2103 v2107 v2117
  let ⟨v2191, v2195, v2199, v2209, v2214, v2218, v2222, v2232⟩ ← k0_part165 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v2130 v2140 v2145 v2149 v2153 v2163 v2164 v2168 v2172 v2175
  let ⟨v2245, v2255, v2260, v2264, v2268, v2278, v2279, v2283, v2287, v2290⟩ ← k0_part166 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v2191 v2195 v2199 v2209 v2214 v2218 v2222 v2232
  let ⟨v2306, v2310, v2314, v2324, v2329, v2333, v2337, v2347⟩ ← k0_part167 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v2245 v2255 v2260 v2264 v2268 v2278 v2279 v2283 v2287 v2290
  let ⟨v2360, v2370, v2375, v2379, v2383, v2393, v2394, v2398, v2402, v2405⟩ ← k0_part168 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v2306 v2310 v2314 v2324 v2329 v2333 v2337 v2347
  let ⟨v2421, v2425, v2429, v2439, v2444, v2448, v2452, v2462⟩ ← k0_part169 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v975 v976 v977 v978 v979 v980 v981 v982 v2360 v2370 v2375 v2379 v2383 v2393 v2394 v2398 v2402 v2405
  pure (k0_pay2501 (F := F) v2421 v2425 v2429 v2439, k0_pay2502 (F := F) v2444 v2448 v2452 v2462)

/-- The two groups' marks of the blocks of rank below sixteen among the first 32, with the fact that the statements
return them. -/
noncomputable def mark2 (v338 : IVec S8x256 32) (v364 : FVec F S64x256 .f32) (v390 : FVec F S64x256 .f32) :
    { r : FVec F S64x256 .f32 × FVec F S64x256 .f32 //
      ∀ (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole), rankProg2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 = .ret r } := by
  refine ⟨?_, fun i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 => ?run⟩
  case run =>
    unfold rankProg2
    simp only [k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton]
    exact rfl

/-- The ranks over the first 16 blocks, as the body writes them. -/
noncomputable def rankProg1 (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole) (v338 : IVec S8x256 32) (v364 : FVec F S64x256 .f32) (v390 : FVec F S64x256 .f32) :
    Prog (TpuEff nD τ sig (Elt F) Λ₀ .tc) (FVec F S64x256 .f32 × FVec F S64x256 .f32) := do
  let ⟨v972, v973, v974, v975, v1005, v1009, v1020, v1024⟩ ← k0_part170 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390
  let ⟨v1054, v1065, v1069, v1070, v1080⟩ ← k0_part171 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v972 v973 v974 v975 v1005 v1009 v1020 v1024
  let ⟨v1110, v1114, v1125, v1129, v1130, v1132, v1135, v1136⟩ ← k0_part172 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v972 v973 v974 v975 v1054 v1065 v1069 v1070 v1080
  let ⟨v1170, v1174, v1185, v1189, v1190, v1192⟩ ← k0_part173 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v972 v973 v974 v975 v1110 v1114 v1125 v1129 v1130 v1132 v1135 v1136
  let ⟨v1224, v1234, v1239, v1249⟩ ← k0_part174 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v972 v973 v974 v975 v1170 v1174 v1185 v1189 v1190 v1192
  let ⟨v1279, v1284, v1294, v1299, v1301, v1304, v1305⟩ ← k0_part175 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v972 v973 v974 v975 v1224 v1234 v1239 v1249
  let ⟨v1339, v1344, v1354, v1355, v1359, v1361⟩ ← k0_part176 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v972 v973 v974 v975 v1279 v1284 v1294 v1299 v1301 v1304 v1305
  let ⟨v1389, v1399, v1404, v1414, v1415, v1418⟩ ← k0_part177 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v972 v973 v974 v975 v1339 v1344 v1354 v1355 v1359 v1361
  let ⟨v1467, v1470⟩ ← k0_part178 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 v972 v973 v974 v975 v1389 v1399 v1404 v1414 v1415 v1418
  pure (v1467, k0_pay2503 (F := F) v1470)

/-- The two groups' marks of the blocks of rank below sixteen among the first 16, with the fact that the statements
return them. -/
noncomputable def mark1 (v338 : IVec S8x256 32) (v364 : FVec F S64x256 .f32) (v390 : FVec F S64x256 .f32) :
    { r : FVec F S64x256 .f32 × FVec F S64x256 .f32 //
      ∀ (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole), rankProg1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v338 v364 v390 = .ret r } := by
  refine ⟨?_, fun i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 => ?run⟩
  case run =>
    unfold rankProg1
    simp only [k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton]
    exact rfl

end Cert.KernelIdeal.Nsa
-- ==== Proof.IdealSwitch.lean ====
module

public import proofs.«01_k».proof.Proof.IdealMarks
public import Idealize.ShloMosaic.Lib.Tactic

@[expose] public section

set_option maxRecDepth 16384

noncomputable section

namespace Cert.KernelIdeal.Nsa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option synthInstance.maxSize 4096

/-- The marks of the branch that the word `w` chooses. -/
noncomputable def marks (w : BitVec 32) (v338 : IVec S8x256 32) (v364 : FVec F S64x256 .f32) (v390 : FVec F S64x256 .f32) : FVec F S64x256 .f32 × FVec F S64x256 .f32 :=
  if Scalar.cmpi .ne w 0#32 = 1#1 then
    if Scalar.cmpi .ne (Scalar.subi w 1#32) 0#32 = 1#1 then
      if Scalar.cmpi .ne (Scalar.subi (Scalar.subi w 1#32) 1#32) 0#32 = 1#1 then (mark4 v338 v364 v390).1
      else (mark3 v338 v364 v390).1
    else (mark2 v338 v364 v390).1
  else (mark1 v338 v364 v390).1

/-- What part 200 does with the marks: the queries of the selected attention. -/
noncomputable def markTail (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole) (v26 : FVec F S256x256 .f32) (v329 : IVec S64x256 1) (v338 : IVec S8x256 32) (v364 : FVec F S64x256 .f32) (v390 : FVec F S64x256 .f32) (v434 : FVec F S64x256 .f32 × FVec F S64x256 .f32) :
    Prog (TpuEff nD τ sig (Elt F) Λ₀ .tc) (Σ' (v440 : IVec S64x256 1) (v443 : FVec F S64x256 .f32) (v449 : FVec F S256x256 .f32) (v455 : FVec F S256x256 .f32) (v461 : FVec F S256x256 .f32) (v462 : FVec F S64x256 .f32) (v464 : FVec F S128x256 .f32), FVec F S128x256 .f32) := do
  let v445 : Vec F S128x256 .f32 ← Prog.lift (.load arg14 (Rect.unit (s := S128x256) ![0, 0] S128x256.size inb_S128x256_S128x256_0_0).toLoadRect (View.loadsAt_vmem h_S128x256))
  let v451 : Vec F S128x256 .f32 ← Prog.lift (.load arg14 (Rect.unit (s := S128x256) ![0, 0] S128x256.size inb_S128x256_S128x256_0_0).toLoadRect (View.loadsAt_vmem h_S128x256))
  let v457 : Vec F S128x256 .f32 ← Prog.lift (.load arg14 (Rect.unit (s := S128x256) ![0, 0] S128x256.size inb_S128x256_S128x256_0_0).toLoadRect (View.loadsAt_vmem h_S128x256))
  let v463 : Vec F S128x256 .f32 ← Prog.lift (.load arg14 (Rect.unit (s := S128x256) ![0, 0] S128x256.size inb_S128x256_S128x256_0_0).toLoadRect (View.loadsAt_vmem h_S128x256))
  pure ⟨k0_pay2504 v329 v434.2, k0_pay2505 v329 v434.1, k0_pay2506 v26 v329 v434.1 v445, k0_pay2507 v26 v329 v434.1 v451, k0_pay2508 v26 v329 v434.1 v457, k0_pay2509 v26, k0_pay2510 v463, k0_pay2511 (F := F)⟩

/-- Part 200 with the choice among the four rankings as a value. -/
noncomputable def markProg (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole) (v26 : FVec F S256x256 .f32) (v329 : IVec S64x256 1) (v338 : IVec S8x256 32) (v364 : FVec F S64x256 .f32) (v390 : FVec F S64x256 .f32) (v413 : BitVec 32) (v424 : BitVec 1) (v426 : BitVec 1) :
    Prog (TpuEff nD τ sig (Elt F) Λ₀ .tc) (Σ' (v440 : IVec S64x256 1) (v443 : FVec F S64x256 .f32) (v449 : FVec F S256x256 .f32) (v455 : FVec F S256x256 .f32) (v461 : FVec F S256x256 .f32) (v462 : FVec F S64x256 .f32) (v464 : FVec F S128x256 .f32), FVec F S128x256 .f32) :=
  let v427 : BitVec 1 := Scalar.andi v424 v426
  let v428 : BitVec 32 := Scalar.subi v413 1#32
  let v429 : BitVec 32 := Scalar.select v427 v428 v413
  let v430 : BitVec 32 := Scalar.subi v429 1#32
  let v431 : BitVec 32 := Scalar.maxsi v430 0#32
  let v432 : BitVec 32 := Scalar.minsi v431 3#32
  let v433 : BitVec 1 := Scalar.cmpi .ne v432 0#32
  markTail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v26 v329 v338 v364 v390
    (marks v432 v338 v364 v390)

theorem dite_tail {α : Type} {β : Type 1} {c2 c3 c4 : Prop} [Decidable c2] [Decidable c3] [Decidable c4] (K : α → β) {r4 r3 r2 r1 : α}
    {X4 X3 X2 X1 : β} (e4 : X4 = K r4) (e3 : X3 = K r3) (e2 : X2 = K r2) (e1 : X1 = K r1) :
    (if _h2 : c2 then (if _h3 : c3 then (if _h4 : c4 then X4 else X3) else X2) else X1)
      = K (if c2 then (if c3 then (if c4 then r4 else r3) else r2) else r1) := by
  split
  · split
    · split
      · exact e4
      · exact e3
    · exact e2
  · exact e1

set_option maxHeartbeats 1000000 in
/-- Part 200 is its form with the choice as a value. -/
theorem part200_eq : k0_part200 (F := F) = markProg (F := F) := by
  rw [k0_part200_eq_skeleton]
  funext i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v26 v329 v338 v364 v390 v413 v424
  funext v426
  exact dite_tail (fun v434 => markTail (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v26 v329 v338 v364 v390 v434)
    (r4 := (mark4 v338 v364 v390).1) (r3 := (mark3 v338 v364 v390).1) (r2 := (mark2 v338 v364 v390).1)
    (r1 := (mark1 v338 v364 v390).1) rfl rfl rfl rfl

end Cert.KernelIdeal.Nsa
-- ==== Proof.IdealProgs.lean ====
module

public import proofs.«01_k».proof.Proof.Gen.KernelIdeal.Frame
public import proofs.«01_k».proof.Proof.Gen.KernelIdeal.Loops
public import proofs.«01_k».proof.Proof.IdealSwitch
public import Idealize.ShloMosaic.Lib.Tactic

@[expose] public section

set_option maxRecDepth 16384

noncomputable section

namespace Cert.KernelIdeal.Nsa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option synthInstance.maxSize 4096

local notation "𝕄" => MT nD τ sig Unit (Elt F) ℕ (UR sig nD τ) ℕ

/-- The contents of the buffer that memref `M` views on core `c`. -/
abbrev Bf (c : Dev nD) {sp : Space} {S : Shape} {e : EltTy} (M : Memref sig .tc sp S e) : Type :=
  Buf (Elt F) (M.view.loc (c : Thread nD τ))

/-- The elements that memref `M` views on core `c`, held at the contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- Group 0's rows of a scratch buffer of both groups. -/
abbrev rowK0 (M : Memref sig .tc .vmem S2x4096x256 .bf16) : Memref sig .tc .vmem S4096x256 .bf16 :=
  (M.slice (Rect.unit (s := S2x4096x256) ![0, 0, 0] S1x4096x256.size inb_S2x4096x256_S1x4096x256_0_0_0) (fun _ => rfl)).squeeze S4096x256 squeezes_S1x4096x256_S4096x256

/-- Group 0's rows of a scratch buffer of both groups. -/
abbrev rowV0 (M : Memref sig .tc .vmem S2x80x4096 .bf16) : Memref sig .tc .vmem S80x4096 .bf16 :=
  (M.slice (Rect.unit (s := S2x80x4096) ![0, 0, 0] S1x80x4096.size inb_S2x80x4096_S1x80x4096_0_0_0) (fun _ => rfl)).squeeze S80x4096 squeezes_S1x80x4096_S80x4096

/-- Group 1's rows of a scratch buffer of both groups. -/
abbrev rowK1 (M : Memref sig .tc .vmem S2x4096x256 .bf16) : Memref sig .tc .vmem S4096x256 .bf16 :=
  (M.slice (Rect.unit (s := S2x4096x256) ![1, 0, 0] S1x4096x256.size inb_S2x4096x256_S1x4096x256_1_0_0) (fun _ => rfl)).squeeze S4096x256 squeezes_S1x4096x256_S4096x256

/-- Group 1's rows of a scratch buffer of both groups. -/
abbrev rowV1 (M : Memref sig .tc .vmem S2x80x4096 .bf16) : Memref sig .tc .vmem S80x4096 .bf16 :=
  (M.slice (Rect.unit (s := S2x80x4096) ![1, 0, 0] S1x80x4096.size inb_S2x80x4096_S1x80x4096_1_0_0) (fun _ => rfl)).squeeze S80x4096 squeezes_S1x80x4096_S80x4096

/-- The statements of a batch's first point: the keys and values copied into the scratch buffers, beside their
tables. -/
noncomputable def initProg (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole) : Prog (TpuEff nD τ sig (Elt F) Λ₀ .tc) PUnit := do
  k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
  let v1021 : FVec F S4096x64 .bf16 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
  let v1046 : FVec F S256x64 .bf16 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1021
  Prog.lift (.store arg20 (Rect.unit (s := S2x256x128) ![1, 0, 64] S1x256x64.size inb_S2x256x128_S1x256x64_1_0_64) (k0_pay2437 v1046) Finset.univ (View.stores_vmem h_S1x256x64 (harg20.storeExact_slice rfl _ packedbf16_S2x256x128_S1x256x64_1_0_64) (fun _ => rfl)) (.inl rfl))
  let v1050 : Vec F S1x64x4096 .bf16 ← Prog.lift (.load arg8 (Rect.unit (s := S1x128x4096) ![0, 64, 0] S1x64x4096.size inb_S1x128x4096_S1x64x4096_0_64_0).toLoadRect (View.loadsAt_vmem h_S1x64x4096))
  let v1052 : Vec F S1x64x4096 .bf16 ← Prog.lift (.load arg21 (Rect.unit (s := S2x80x4096) ![1, 0, 0] S1x64x4096.size inb_S2x80x4096_S1x64x4096_1_0_0).toLoadRect (View.loadsAt_vmem h_S1x64x4096))
  Prog.lift (.store arg21 (Rect.unit (s := S2x80x4096) ![1, 0, 0] S1x64x4096.size inb_S2x80x4096_S1x64x4096_1_0_0) (k0_pay2438 v1050) Finset.univ (View.stores_vmem h_S1x64x4096 (harg21.storeExact_slice rfl _ packedbf16_S2x80x4096_S1x64x4096_1_0_0) (fun _ => rfl)) (.inl rfl))
  let v1056 : Vec F S1x16x4096 .bf16 ← Prog.lift (.load arg21 (Rect.unit (s := S2x80x4096) ![1, 64, 0] S1x16x4096.size inb_S2x80x4096_S1x16x4096_1_64_0).toLoadRect (View.loadsAt_vmem h_S1x16x4096))
  Prog.lift (.store arg21 (Rect.unit (s := S2x80x4096) ![1, 64, 0] S1x16x4096.size inb_S2x80x4096_S1x16x4096_1_64_0) (k0_pay2439 (F := F)) Finset.univ (View.stores_vmem h_S1x16x4096 (harg21.storeExact_slice rfl _ packedbf16_S2x80x4096_S1x16x4096_1_64_0) (fun _ => rfl)) (.inl rfl))
  let v1059 : Vec F S1x64x4096 .bf16 ← Prog.lift (.load arg10 (Rect.unit (s := S1x128x4096) ![0, 64, 0] S1x64x4096.size inb_S1x128x4096_S1x64x4096_0_64_0).toLoadRect (View.loadsAt_vmem h_S1x64x4096))
  let v1061 : Vec F S1x64x4096 .bf16 ← Prog.lift (.load arg22 (Rect.unit (s := S2x80x4096) ![1, 0, 0] S1x64x4096.size inb_S2x80x4096_S1x64x4096_1_0_0).toLoadRect (View.loadsAt_vmem h_S1x64x4096))
  Prog.lift (.store arg22 (Rect.unit (s := S2x80x4096) ![1, 0, 0] S1x64x4096.size inb_S2x80x4096_S1x64x4096_1_0_0) (k0_pay2440 v1059) Finset.univ (View.stores_vmem h_S1x64x4096 (harg22.storeExact_slice rfl _ packedbf16_S2x80x4096_S1x64x4096_1_0_0) (fun _ => rfl)) (.inl rfl))
  let v1065 : Vec F S1x16x4096 .bf16 ← Prog.lift (.load arg22 (Rect.unit (s := S2x80x4096) ![1, 64, 0] S1x16x4096.size inb_S2x80x4096_S1x16x4096_1_64_0).toLoadRect (View.loadsAt_vmem h_S1x16x4096))
  Prog.lift (.store arg22 (Rect.unit (s := S2x80x4096) ![1, 64, 0] S1x16x4096.size inb_S2x80x4096_S1x16x4096_1_64_0) (k0_pay2441 (F := F)) Finset.univ (View.stores_vmem h_S1x16x4096 (harg22.storeExact_slice rfl _ packedbf16_S2x80x4096_S1x16x4096_1_64_0) (fun _ => rfl)) (.inl rfl))
  pure ⟨⟩

/-- The queries of the point's tile: the statements of part 189 after the copy. -/
noncomputable def headProg (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole) : Prog (TpuEff nD τ sig (Elt F) Λ₀ .tc) (Σ' (v0 : BitVec 32) (v17 : BitVec 32) (v26 : FVec F S256x256 .f32) (v32 : FVec F S256x256 .f32) (v33 : FVec F S1x1024 .f32) (v34 : FVec F S80x1024 .f32), FVec F S64x256 .f32) := do
  let arg1 : BitVec 32 := BitVec.ofNat 32 (i 1).val
  let v0 : BitVec 32 := Scalar.muli arg1 256#32
  let v1 : BitVec 32 := Scalar.divsi v0 256#32
  let v2 : BitVec 1 := Scalar.cmpi .sgt v0 0#32
  let v3 : BitVec 32 := Scalar.extui v2
  let v4 : BitVec 1 := Scalar.cmpi .slt v0 0#32
  let v5 : BitVec 32 := Scalar.extui v4
  let v6 : BitVec 32 := Scalar.subi v3 v5
  let v7 : BitVec 1 := Scalar.cmpi .sgt 256#32 0#32
  let v8 : BitVec 32 := Scalar.extui v7
  let v9 : BitVec 1 := Scalar.cmpi .slt 256#32 0#32
  let v10 : BitVec 32 := Scalar.extui v9
  let v11 : BitVec 32 := Scalar.subi v8 v10
  let v12 : BitVec 1 := Scalar.cmpi .ne v6 v11
  let v13 : BitVec 32 := Scalar.remsi v0 256#32
  let v14 : BitVec 1 := Scalar.cmpi .ne v13 0#32
  let v15 : BitVec 1 := Scalar.andi v12 v14
  let v16 : BitVec 32 := Scalar.subi v1 1#32
  let v17 : BitVec 32 := Scalar.select v15 v16 v1
  let v21 : Vec F S1x256x256 .bf16 ← Prog.lift (.load arg2 (Rect.unit (s := S1x256x512) ![0, 0, 0] S1x256x256.size inb_S1x256x512_S1x256x256_0_0_0).toLoadRect (View.loadsAt_vmem h_S1x256x256))
  let v27 : Vec F S1x256x256 .bf16 ← Prog.lift (.load arg2 (Rect.unit (s := S1x256x512) ![0, 0, 256] S1x256x256.size inb_S1x256x512_S1x256x256_0_0_256).toLoadRect (View.loadsAt_vmem h_S1x256x256))
  pure ⟨v0, v17, k0_pay2442 v21, k0_pay2443 v27, k0_pay2444 (F := F), k0_pay2445 (F := F), k0_pay2446 v21⟩

/-- The body after the copy: one tile of 256 query positions. -/
noncomputable def tileProg (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole) : Prog (TpuEff nD τ sig (Elt F) Λ₀ .tc) PUnit := do
  let ⟨v0, v17, v26, v32, v33, v34, v35⟩ : Σ' (v0 : BitVec 32) (v17 : BitVec 32) (v26 : FVec F S256x256 .f32) (v32 : FVec F S256x256 .f32) (v33 : FVec F S1x1024 .f32) (v34 : FVec F S80x1024 .f32), FVec F S64x256 .f32 ← headProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
  let ⟨v60, v66, v72, v73, v75, cst_34⟩ : Σ' (v60 : FVec F S128x1024 .bf16) (v66 : FVec F S128x256 .f32) (v72 : FVec F S128x256 .f32) (v73 : FVec F S64x256 .f32) (v75 : FVec F S64x256 .f32), F .f32 ← k0_part190_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v26 v32 v35
  let ⟨v86, v113, v114, v115, v116⟩ : Σ' (v86 : FVec F S128x1024 .bf16) (v113 : FVec F S256x1024 .bf16) (v114 : FVec F S64x256 .f32) (v115 : FVec F S64x256 .f32), Vec F S128x256 .f32 ← k0_part191_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v26 v32 v66 v72 v73 v75 cst_34
  let ⟨v140, v156, v158⟩ : Σ' (v140 : FVec F S256x1024 .bf16) (v156 : FVec F S256x1024 .f32), FVec F S256x128 .bf16 ← k0_part192_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 v32 v114 v115 v116
  let ⟨v160, v164, v166, v182, v190⟩ : Σ' (v160 : FVec F S256x1024 .f32) (v164 : FVec F S256x1024 .f32) (v166 : BitVec 32) (v182 : FVec F S1x1024 .f32), FVec F S256x1024 .f32 ← k0_part193_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v17 v60 v86 v113 v140 v156 v158
  let ⟨v195, v197, v213, v220, v221⟩ : Σ' (v195 : FVec F S1x1024 .f32) (v197 : BitVec 32) (v213 : FVec F S1x1024 .f32) (v220 : FVec F S256x1024 .f32), FVec F S256x1024 .f32 ← k0_part194_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v17 v113 v140 v190
  let ⟨v227, v229, v236, v249, v251⟩ : Σ' (v227 : FVec F S1x1024 .f32) (v229 : BitVec 32) (v236 : FVec F S256x1024 .f32) (v249 : FVec F S1x1024 .f32), BitVec 32 ← k0_part195_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v17 v113 v220 v221
  let ⟨v262, v269, v276, v282, v288, v289⟩ : Σ' (v262 : FVec F S1x1024 .f32) (v269 : FVec F S256x1024 .f32) (v276 : FVec F S256x1024 .f32) (v282 : FVec F S1x1024 .f32) (v288 : FVec F S1x1024 .f32), Vec F S1x1x64x256 .bf16 ← k0_part196_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v140 v160 v164 v236 v251
  let ⟨v294, v300, v301, v328, v329, v333, v334⟩ : Σ' (v294 : FVec F S64x1024 .f32) (v300 : FVec F S64x1024 .f32) (v301 : IVec S64x256 32) (v328 : IVec S64x256 32) (v329 : IVec S64x256 1) (v333 : IVec S64x256 1), IVec S64x256 32 ← k0_part197_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 v269 v276 v282 v288 v289
  let ⟨v337, v338, v364, v386⟩ : Σ' (v337 : IVec S64x256 1) (v338 : IVec S8x256 32) (v364 : FVec F S64x256 .f32), FVec F S64x256 .f32 ← k0_part198_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v269 v276 v282 v288 v301 v328 v329 v333 v334
  let ⟨v390, v413, v424, v426⟩ : Σ' (v390 : FVec F S64x256 .f32) (v413 : BitVec 32) (v424 : BitVec 1), BitVec 1 ← k0_part199_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 v329 v337 v386
  let ⟨v440, v443, v449, v455, v461, v462, v464, v465⟩ : Σ' (v440 : IVec S64x256 1) (v443 : FVec F S64x256 .f32) (v449 : FVec F S256x256 .f32) (v455 : FVec F S256x256 .f32) (v461 : FVec F S256x256 .f32) (v462 : FVec F S64x256 .f32) (v464 : FVec F S128x256 .f32), FVec F S128x256 .f32 ← markProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v26 v329 v338 v364 v390 v413 v424 v426
  let ⟨v469, v498, v500, v501, v502, v505⟩ : Σ' (v469 : FVec F S256x1024 .bf16) (v498 : FVec F S256x1024 .bf16) (v500 : BitVec 32) (v501 : BitVec 32) (v502 : BitVec 1), BitVec 1 ← k0_part201_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v17 v32 v440 v443 v449 v455 v461 v462 v464 v465
  let ⟨v509, v511, v527, v535, v538⟩ : Σ' (v509 : BitVec 32) (v511 : BitVec 32) (v527 : FVec F S1x1024 .f32) (v535 : FVec F S256x1024 .f32), FVec F S1x1x256x1024 .f32 ← k0_part202_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v17 v469 v498 v500 v501 v502 v505
  let ⟨v541, v552, v553, v564, v567, v569, v571⟩ : Σ' (v541 : FVec F S1x1024 .f32) (v552 : FVec F S1x1024 .f32) (v553 : FVec F S1x1024 .f32) (v564 : FVec F S1x1024 .f32) (v567 : BitVec 32) (v569 : F .f32), BitVec 32 ← k0_part203_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v17 v33 v509 v527 v535 v538
  let ⟨v583, v597, v599, v601, v603, v604⟩ : Σ' (v583 : FVec F S1x1024 .f32) (v597 : FVec F S1x1024 .f32) (v599 : FVec F S1x1024 .f32) (v601 : FVec F S1x1024 .f32) (v603 : FVec F S256x1024 .f32), FVec F S256x1024 .f32 ← k0_part204_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v182 v195 v213 v227 v249 v262 v469 v498 v567 v569 v571
  let ⟨v627, v632, v634, cst_352⟩ : Σ' (v627 : FVec F S80x1024 .f32) (v632 : FVec F S80x256 .bf16) (v634 : FVec F S256x1024 .bf16), FVec F S80x1024 .f32 ← k0_part205_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v166 v601 v603 v604
  let ⟨v635, v662⟩ : Σ' (v635 : FVec F S80x1024 .f32), FVec F S80x1024 .f32 ← k0_part206_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v197 v599 v601 v627 v632 v634 cst_352
  let ⟨v671, v694, v695⟩ : Σ' (v671 : FVec F S80x1024 .f32) (v694 : FVec F S80x256 .bf16), Vec F S1x1x256x1024 .bf16 ← k0_part207_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v229 v599 v601 v635
  let ⟨v713, v719, v721, v735, v736⟩ : Σ' (v713 : FVec F S64x1024 .f32) (v719 : FVec F S64x1024 .f32) (v721 : BitVec 32) (v735 : BitVec 1), BitVec 32 ← k0_part208_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v229 v511 v662 v671 v694 v695
  let ⟨v744_2, v744_3, v744_4, v744_5, v756, v768, v770, v771⟩ : Σ' (v744_2 : FVec F S1x1024 .f32) (v744_3 : FVec F S1x1024 .f32) (v744_4 : FVec F S80x1024 .f32) (v744_5 : FVec F S80x1024 .f32) (v756 : FVec F S1x1024 .f32) (v768 : FVec F S1x1024 .f32) (v770 : BitVec 1), BitVec 32 ← k0_part209_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v17 v34 v469 v498 v509 v511 v541 v552 v553 v564 v583 v597 v721 v735 v736
  let ⟨v798, v804, v806⟩ : Σ' (v798 : FVec F S80x1024 .f32) (v804 : BitVec 32), FVec F S80x1024 .f32 ← k0_part210_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v17 v509 v511 v744_2 v744_3 v744_4 v744_5 v756 v770 v771
  let ⟨v834, v840, v841⟩ : Σ' (v834 : FVec F S64x1024 .f32) (v840 : FVec F S64x1024 .f32), Vec F S1x256x128 .f32 ← k0_part211_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v768 v798 v804 v806
  let ⟨v853, v867, v881, v895, v896⟩ : Σ' (v853 : FVec F S128x256 .f32) (v867 : FVec F S64x256 .f32) (v881 : FVec F S64x256 .f32) (v895 : FVec F S64x256 .f32), FVec F S1x256 .f32 ← k0_part212_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v294 v713 v834 v841
  let ⟨v909, v923, v937, v951, v955, v956⟩ : Σ' (v909 : FVec F S64x256 .f32) (v923 : FVec F S64x256 .f32) (v937 : FVec F S64x256 .f32) (v951 : FVec F S64x256 .f32) (v955 : FVec F S64x256 .f32), FVec F S1x256 .f32 ← k0_part213_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v294 v300 v713 v719 v834 v840 v853 v896
  let v969 : Vec F S1x256x512 .bf16 ← Prog.lift (.load arg17 (Rect.unit (s := S1x256x512) ![0, 0, 0] S1x256x512.size inb_S1x256x512_S1x256x512_0_0_0).toLoadRect (View.loadsAt_vmem h_S1x256x512))
  Prog.lift (.store arg17 (Rect.unit (s := S1x256x512) ![0, 0, 0] S1x256x512.size inb_S1x256x512_S1x256x512_0_0_0) (k0_pay1 v719 v840 v853 v867 v881 v895 v909 v923 v937 v951 v955 v956) Finset.univ (View.stores_vmem h_S1x256x512 (harg17.storeExact_slice rfl _ packedbf16_S1x256x512_S1x256x512_0_0_0) (fun _ => rfl)) (.inl rfl))
  pure ⟨⟩

/-- The body is the copy, at a batch's first point, and then the tile. -/
theorem body_split (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole) :
    cc0_nsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
      = if Scalar.cmpi .ne (Scalar.extui (Scalar.cmpi .eq (BitVec.ofNat 32 (i 1).val) 0#32) : BitVec 32) 0#32 = 1#1 then
          initProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 >>= fun _ => tileProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
        else tileProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 := by
  rw [cc0_nsa_eq_skeleton]
  unfold cc0_nsa_skel
  rw [k0_part189_eq_skeleton]
  unfold k0_part189_skel
  split
  · rename_i h
    rw [dif_pos h]
    unfold tileProg
    rw [← part200_eq, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton]
    rfl
  · rename_i h
    rw [dif_neg h]
    unfold tileProg
    rw [← part200_eq, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton]
    rfl

end Cert.KernelIdeal.Nsa
-- ==== Proof.IdealInit.lean ====
module

public import proofs.«01_k».proof.Proof.IdealProgs
public import Idealize.ShloMosaic.Lib.Tactic

@[expose] public section

set_option maxRecDepth 16384

noncomputable section

namespace Cert.KernelIdeal.Nsa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option synthInstance.maxSize 4096

local notation "𝕄" => MT nD τ sig Unit (Elt F) ℕ (UR sig nD τ) ℕ

/-- The copy of a batch's first point: what it leaves in the five scratch buffers it fills. -/
noncomputable def initRun (c : Dev nD) (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f18 : Bf (F := F) c arg18) (f19 : Bf (F := F) c arg19) (f20 : Bf (F := F) c arg20) (f21 : Bf (F := F) c arg21) (f22 : Bf (F := F) c arg22) :
    { W : Bf (F := F) c arg18 × Bf (F := F) c arg19 × Bf (F := F) c arg20 × Bf (F := F) c arg21 × Bf (F := F) c arg22 //
      ∀ (E : Set ℕ) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg18 f18 ∗ pt c arg19 f19 ∗ pt c arg20 f20 ∗ pt c arg21 f21 ∗ pt c arg22 f22
          ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg18 W.1 ∗ pt c arg19 W.2.1 ∗ pt c arg20 W.2.2.1 ∗ pt c arg21 W.2.2.2.1 ∗ pt c arg22 W.2.2.2.2) -∗ Q ⟨⟩))
        ⊢ wp frame (wpE (defs₀ (F := F)) Variants.none c none) E (initProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) Q } := by
  refine ⟨⟨?_, ?_, ?_, ?_, ?_⟩, fun E Q => ?run⟩
  case run =>
    iintro ⟨H2, H3, H4, H5, H6, H7, H8, H9, H10, H11, H12, H13, H14, H15, H16, H18, H19, H20, H21, H22, Hk⟩
    unfold initProg
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H18]; · iexact H18
    isplitl [H19]; · iexact H19
    isplitl [H20]; · iexact H20
    isplitl [H21]; · iexact H21
    iexact H22

end Cert.KernelIdeal.Nsa
-- ==== Proof.IdealTile.lean ====
module

public import proofs.«01_k».proof.Proof.IdealProgs
public import Idealize.ShloMosaic.Lib.Tactic

@[expose] public section

set_option maxRecDepth 16384

noncomputable section

namespace Cert.KernelIdeal.Nsa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option synthInstance.maxSize 4096

local notation "𝕄" => MT nD τ sig Unit (Elt F) ℕ (UR sig nD τ) ℕ

/-- One tile, from the inputs at `f2 … f16` and the scratch buffers at `f18 … f26`: what it leaves in the output
block and in the score buffers, with the run that leaves it there and everything else as it was. -/
noncomputable def tileRun (c : Dev nD) (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) :
    { W : Bf (F := F) c arg17 × Bf (F := F) c arg23 × Bf (F := F) c arg24 × Bf (F := F) c arg25 × Bf (F := F) c arg26 //
      ∀ (E : Set ℕ) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c (rowK0 arg18) f18 ∗ pt c (rowK1 arg18) f18 ∗ pt c arg19 f19 ∗ pt c arg20 f20 ∗ pt c (rowV0 arg21) f21 ∗ pt c (rowV1 arg21) f21 ∗ pt c arg22 f22 ∗ pt c arg23 f23 ∗ pt c arg24 f24 ∗ pt c arg25 f25 ∗ pt c arg26 f26
          ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 W.1 ∗ pt c (rowK0 arg18) f18 ∗ pt c (rowK1 arg18) f18 ∗ pt c arg19 f19 ∗ pt c arg20 f20 ∗ pt c (rowV0 arg21) f21 ∗ pt c (rowV1 arg21) f21 ∗ pt c arg22 f22 ∗ pt c arg23 W.2.1 ∗ pt c arg24 W.2.2.1 ∗ pt c arg25 W.2.2.2.1 ∗ pt c arg26 W.2.2.2.2) -∗ Q ⟨⟩))
        ⊢ wp frame (wpE (defs₀ (F := F)) Variants.none c none) E (tileProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) Q } := by
  refine ⟨⟨?_, ?_, ?_, ?_, ?_⟩, fun E Q => ?run⟩
  case run =>
    iintro ⟨H2, H3, H4, H5, H6, H7, H8, H9, H10, H11, H12, H13, H14, H15, H16, H17, H18, H18b, H19, H20, H21, H21b, H22, H23, H24, H25, H26, Hk⟩
    unfold tileProg headProg markProg markTail
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H18b]; · iexact H18b
    isplitl [H19]; · iexact H19
    isplitl [H20]; · iexact H20
    isplitl [H21]; · iexact H21
    isplitl [H21b]; · iexact H21b
    isplitl [H22]; · iexact H22
    isplitl [H23]; · iexact H23
    isplitl [H24]; · iexact H24
    isplitl [H25]; · iexact H25
    iexact H26

end Cert.KernelIdeal.Nsa
-- ==== Proof.IdealFrame.lean ====
module

public import proofs.«01_k».proof.Proof.IdealInit
public import proofs.«01_k».proof.Proof.IdealTile

/-! # The frame: every run of the call ends, leaves its arguments as they were and every semaphore at zero -/

@[expose] public section

set_option maxRecDepth 16384

noncomputable section

namespace Cert.KernelIdeal.Nsa

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option synthInstance.maxSize 4096

local notation "𝕄" => MT nD τ sig Unit (Elt F) ℕ (UR sig nD τ) ℕ

/-- The elements that memref `M` views on core `c`, held at some contents. -/
def someAt (c : Dev nD) {sp : Space} {S : Shape} {e : EltTy} (M : Memref sig .tc sp S e) : sProp 𝕄 :=
  iprop(∃ f, pt (F := F) c M f)

theorem someAt_intro (c : Dev nD) {sp : Space} {S : Shape} {e : EltTy} (M : Memref sig .tc sp S e) (f : Bf (F := F) c M) :
    pt c M f ⊢ someAt (F := F) c M := by
  unfold someAt; iintro H; iexists f; iexact H

/-- A buffer held at contents that are named by what they read as is held at some contents. -/
theorem someAt_of_owns (c : Dev nD) {sp : Space} {S : Shape} {e : EltTy} (M : Memref sig .tc sp S e) :
    (iprop(∃ X, owns (c : Thread nD τ) M fullShare X) : sProp 𝕄) ⊢ someAt (F := F) c M := by
  unfold someAt owns; iintro ⟨%X, %f, -, H⟩; iexists f; iexact H

theorem owns_of_someAt (c : Dev nD) {sp : Space} {S : Shape} {e : EltTy} (M : Memref sig .tc sp S e) :
    someAt (F := F) c M ⊢ (iprop(∃ X, owns (c : Thread nD τ) M fullShare X) : sProp 𝕄) := by
  unfold someAt owns; iintro ⟨%f, H⟩; iexists M.view.read (Elt F) f; iexists f
  isplitr; · ipureintro; rfl
  iexact H

/-- A whole buffer held at some contents, both ways of writing it. -/
theorem someAt_whole (c : Dev nD) (r : Ref sig .tc) :
    (someAt (F := F) c (Memref.whole r) : sProp 𝕄)
      = iprop(∃ f : Buf (Elt F) ((c : Thread nD τ).loc r), ((c : Thread nD τ).loc r) ↦{fullShare} f) := by
  unfold someAt pt
  rw [show (Memref.whole r : Memref sig .tc _ _ _).view.set = Finset.univ from by rw [Memref.view_whole, View.set_whole]]

/-- Two slabs along the leading axis of three are disjoint and together everything. -/
theorem slabs {a b : ℕ} (h0 : ∀ x : Fin 3, (![0, 0, 0] : Fin 3 → ℕ) x + (![1, a, b] : Fin 3 → ℕ) x ≤ (⟨3, ![2, a, b]⟩ : Shape).size x)
    (h1 : ∀ x : Fin 3, (![1, 0, 0] : Fin 3 → ℕ) x + (![1, a, b] : Fin 3 → ℕ) x ≤ (⟨3, ![2, a, b]⟩ : Shape).size x) :
    Disjoint (Rect.unit (s := ⟨3, ![2, a, b]⟩) ![0, 0, 0] ![1, a, b] h0).set (Rect.unit (s := ⟨3, ![2, a, b]⟩) ![1, 0, 0] ![1, a, b] h1).set
    ∧ (Rect.unit (s := ⟨3, ![2, a, b]⟩) ![0, 0, 0] ![1, a, b] h0).set ∪ (Rect.unit (s := ⟨3, ![2, a, b]⟩) ![1, 0, 0] ![1, a, b] h1).set = Finset.univ := by
  constructor
  · rw [Finset.disjoint_left]
    intro i hi hi'
    have e1 := (Rect.mem_set_unit.mp hi) 0
    have e2 := (Rect.mem_set_unit.mp hi') 0
    simp at e1 e2; omega
  · ext i
    simp only [Finset.mem_union, Finset.mem_univ, iff_true, Rect.mem_set_unit]
    have i0 : (i 0).val < 2 := (i 0).isLt
    have i1 : (i 1).val < a := (i 1).isLt
    have i2 : (i 2).val < b := (i 2).isLt
    rcases Nat.lt_or_ge (i 0).val 1 with h | h
    · left; intro x; fin_cases x <;> simp <;> omega
    · right; intro x; fin_cases x <;> simp <;> omega

/-- The elements two disjoint parts of a view cover, held part by part. -/
theorem pt_parts (c : Dev nD) {sp : Space} {S : Shape} {e : EltTy} (M : Memref sig .tc sp S e) (f : Bf (F := F) c M)
    (A B : Rect S) (hd : Disjoint A.set B.set) (hc : A.set ∪ B.set = Finset.univ) :
    (pt c M f : sProp 𝕄) ⊣⊢ iprop((M.view.loc (c : Thread nD τ) ↦[A.set.map M.view.emb]{fullShare} f)
      ∗ (M.view.loc (c : Thread nD τ) ↦[B.set.map M.view.emb]{fullShare} f)) := by
  have h := pointsTo_union (Ix := Unit) (Name := ℕ) (U := UR sig nD τ) (Lvl := ℕ) (ℓ := M.view.loc (c : Thread nD τ)) (q := fullShare) (f := f)
    ((Finset.disjoint_map M.view.emb).2 hd)
  rw [← Finset.map_union, hc] at h
  exact h

/-- The two groups' key rows are the key buffer. -/
theorem rows_keys (c : Dev nD) (M : Memref sig .tc .vmem S2x4096x256 .bf16) (f : Bf (F := F) c M) :
    (pt c M f : sProp 𝕄) ⊣⊢ iprop(pt c (rowK0 M) f ∗ pt c (rowK1 M) f) := by
  have h := pt_parts (F := F) c M f (Rect.unit (s := S2x4096x256) ![0, 0, 0] S1x4096x256.size inb_S2x4096x256_S1x4096x256_0_0_0)
    (Rect.unit (s := S2x4096x256) ![1, 0, 0] S1x4096x256.size inb_S2x4096x256_S1x4096x256_1_0_0)
    (slabs (a := 4096) (b := 256) _ _).1 (slabs (a := 4096) (b := 256) _ _).2
  rw [← View.set_slice, ← View.set_slice] at h
  have e0 : (rowK0 M).view.set = (M.view.slice (Rect.unit (s := S2x4096x256) ![0, 0, 0] S1x4096x256.size inb_S2x4096x256_S1x4096x256_0_0_0)).set := View.set_reshape _ _
  have e1 : (rowK1 M).view.set = (M.view.slice (Rect.unit (s := S2x4096x256) ![1, 0, 0] S1x4096x256.size inb_S2x4096x256_S1x4096x256_1_0_0)).set := View.set_reshape _ _
  unfold pt at h ⊢
  rw [e0, e1]
  exact h

/-- The two groups' value rows are the value buffer. -/
theorem rows_values (c : Dev nD) (M : Memref sig .tc .vmem S2x80x4096 .bf16) (f : Bf (F := F) c M) :
    (pt c M f : sProp 𝕄) ⊣⊢ iprop(pt c (rowV0 M) f ∗ pt c (rowV1 M) f) := by
  have h := pt_parts (F := F) c M f (Rect.unit (s := S2x80x4096) ![0, 0, 0] S1x80x4096.size inb_S2x80x4096_S1x80x4096_0_0_0)
    (Rect.unit (s := S2x80x4096) ![1, 0, 0] S1x80x4096.size inb_S2x80x4096_S1x80x4096_1_0_0)
    (slabs (a := 80) (b := 4096) _ _).1 (slabs (a := 80) (b := 4096) _ _).2
  rw [← View.set_slice, ← View.set_slice] at h
  have e0 : (rowV0 M).view.set = (M.view.slice (Rect.unit (s := S2x80x4096) ![0, 0, 0] S1x80x4096.size inb_S2x80x4096_S1x80x4096_0_0_0)).set := View.set_reshape _ _
  have e1 : (rowV1 M).view.set = (M.view.slice (Rect.unit (s := S2x80x4096) ![1, 0, 0] S1x80x4096.size inb_S2x80x4096_S1x80x4096_1_0_0)).set := View.set_reshape _ _
  unfold pt at h ⊢
  rw [e0, e1]
  exact h

/-- The body at any grid point: from every buffer held, to every buffer held. -/
theorem body_run (c : Dev nD) (i : grid0.Coords) (arg2 : Memref sig .tc .vmem S1x256x512 .bf16) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x2x256x64 .bf16) (harg5 : arg5.IsWhole) (arg6 : Memref sig .tc .vmem S1x2x64x256 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S1x4096x128 .bf16) (harg9 : arg9.IsWhole) (arg10 : Memref sig .tc .vmem S1x128x4096 .bf16) (harg10 : arg10.IsWhole) (arg11 : Memref sig .tc .vmem S64x256 .f32) (harg11 : arg11.IsWhole) (arg12 : Memref sig .tc .vmem S4096x192 .bf16) (harg12 : arg12.IsWhole) (arg13 : Memref sig .tc .vmem S256x64 .bf16) (harg13 : arg13.IsWhole) (arg14 : Memref sig .tc .vmem S128x256 .f32) (harg14 : arg14.IsWhole) (arg15 : Memref sig .tc .vmem S64x256 .f32) (harg15 : arg15.IsWhole) (arg16 : Memref sig .tc .vmem S3x256x256 .f32) (harg16 : arg16.IsWhole) (arg17 : Memref sig .tc .vmem S1x256x512 .bf16) (harg17 : arg17.IsWhole) (arg18 : Memref sig .tc .vmem S2x4096x256 .bf16) (harg18 : arg18.IsWhole) (arg19 : Memref sig .tc .vmem S2x4096x256 .bf16) (harg19 : arg19.IsWhole) (arg20 : Memref sig .tc .vmem S2x256x128 .bf16) (harg20 : arg20.IsWhole) (arg21 : Memref sig .tc .vmem S2x80x4096 .bf16) (harg21 : arg21.IsWhole) (arg22 : Memref sig .tc .vmem S2x80x4096 .bf16) (harg22 : arg22.IsWhole) (arg23 : Memref sig .tc .vmem S2x2x256x1024 .f32) (harg23 : arg23.IsWhole) (arg24 : Memref sig .tc .vmem S2x2x256x1024 .bf16) (harg24 : arg24.IsWhole) (arg25 : Memref sig .tc .vmem S2x3x256x1024 .f32) (harg25 : arg25.IsWhole) (arg26 : Memref sig .tc .vmem S2x3x256x1024 .bf16) (harg26 : arg26.IsWhole)
    (E : Set ℕ) (Q : PUnit → sProp 𝕄) :
    iprop(someAt (F := F) c arg2 ∗ someAt (F := F) c arg3 ∗ someAt (F := F) c arg4 ∗ someAt (F := F) c arg5 ∗ someAt (F := F) c arg6 ∗ someAt (F := F) c arg7 ∗ someAt (F := F) c arg8 ∗ someAt (F := F) c arg9 ∗ someAt (F := F) c arg10 ∗ someAt (F := F) c arg11 ∗ someAt (F := F) c arg12 ∗ someAt (F := F) c arg13 ∗ someAt (F := F) c arg14 ∗ someAt (F := F) c arg15 ∗ someAt (F := F) c arg16 ∗ someAt (F := F) c arg17 ∗ someAt (F := F) c arg18 ∗ someAt (F := F) c arg19 ∗ someAt (F := F) c arg20 ∗ someAt (F := F) c arg21 ∗ someAt (F := F) c arg22 ∗ someAt (F := F) c arg23 ∗ someAt (F := F) c arg24 ∗ someAt (F := F) c arg25 ∗ someAt (F := F) c arg26
      ∗ (iprop(someAt (F := F) c arg2 ∗ someAt (F := F) c arg3 ∗ someAt (F := F) c arg4 ∗ someAt (F := F) c arg5 ∗ someAt (F := F) c arg6 ∗ someAt (F := F) c arg7 ∗ someAt (F := F) c arg8 ∗ someAt (F := F) c arg9 ∗ someAt (F := F) c arg10 ∗ someAt (F := F) c arg11 ∗ someAt (F := F) c arg12 ∗ someAt (F := F) c arg13 ∗ someAt (F := F) c arg14 ∗ someAt (F := F) c arg15 ∗ someAt (F := F) c arg16 ∗ someAt (F := F) c arg17 ∗ someAt (F := F) c arg18 ∗ someAt (F := F) c arg19 ∗ someAt (F := F) c arg20 ∗ someAt (F := F) c arg21 ∗ someAt (F := F) c arg22 ∗ someAt (F := F) c arg23 ∗ someAt (F := F) c arg24 ∗ someAt (F := F) c arg25 ∗ someAt (F := F) c arg26) -∗ Q ⟨⟩))
    ⊢ wp frame (wpE (defs₀ (F := F)) Variants.none c none) E (cc0_nsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) Q := by
  iintro ⟨H2, H3, H4, H5, H6, H7, H8, H9, H10, H11, H12, H13, H14, H15, H16, H17, H18, H19, H20, H21, H22, H23, H24, H25, H26, Hk⟩
  unfold someAt; icases H2 with ⟨%f2, H2⟩
  icases H3 with ⟨%f3, H3⟩
  icases H4 with ⟨%f4, H4⟩
  icases H5 with ⟨%f5, H5⟩
  icases H6 with ⟨%f6, H6⟩
  icases H7 with ⟨%f7, H7⟩
  icases H8 with ⟨%f8, H8⟩
  icases H9 with ⟨%f9, H9⟩
  icases H10 with ⟨%f10, H10⟩
  icases H11 with ⟨%f11, H11⟩
  icases H12 with ⟨%f12, H12⟩
  icases H13 with ⟨%f13, H13⟩
  icases H14 with ⟨%f14, H14⟩
  icases H15 with ⟨%f15, H15⟩
  icases H16 with ⟨%f16, H16⟩
  icases H17 with ⟨%f17, H17⟩
  icases H18 with ⟨%f18, H18⟩
  icases H19 with ⟨%f19, H19⟩
  icases H20 with ⟨%f20, H20⟩
  icases H21 with ⟨%f21, H21⟩
  icases H22 with ⟨%f22, H22⟩
  icases H23 with ⟨%f23, H23⟩
  icases H24 with ⟨%f24, H24⟩
  icases H25 with ⟨%f25, H25⟩
  icases H26 with ⟨%f26, H26⟩
  rw [body_split]
  split
  · rw [wp_bind]
    iapply (initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f2 f3 f4 f5 f6 f7 f8 f9 f10 f11 f12 f13 f14 f15 f16 f18 f19 f20 f21 f22).2 E _
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H18]; · iexact H18
    isplitl [H19]; · iexact H19
    isplitl [H20]; · iexact H20
    isplitl [H21]; · iexact H21
    isplitl [H22]; · iexact H22
    iintro ⟨H2, H3, H4, H5, H6, H7, H8, H9, H10, H11, H12, H13, H14, H15, H16, H18, H19, H20, H21, H22⟩
    ihave H18p := ((rows_keys c arg18 ((initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f2 f3 f4 f5 f6 f7 f8 f9 f10 f11 f12 f13 f14 f15 f16 f18 f19 f20 f21 f22).1.1)).1) $$ H18
    icases H18p with ⟨H18, H18b⟩
    ihave H21p := ((rows_values c arg21 ((initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f2 f3 f4 f5 f6 f7 f8 f9 f10 f11 f12 f13 f14 f15 f16 f18 f19 f20 f21 f22).1.2.2.2.1)).1) $$ H21
    icases H21p with ⟨H21, H21b⟩
    iapply (tileRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f2 f3 f4 f5 f6 f7 f8 f9 f10 f11 f12 f13 f14 f15 f16 f17 ((initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f2 f3 f4 f5 f6 f7 f8 f9 f10 f11 f12 f13 f14 f15 f16 f18 f19 f20 f21 f22).1.1) ((initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f2 f3 f4 f5 f6 f7 f8 f9 f10 f11 f12 f13 f14 f15 f16 f18 f19 f20 f21 f22).1.2.1) ((initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f2 f3 f4 f5 f6 f7 f8 f9 f10 f11 f12 f13 f14 f15 f16 f18 f19 f20 f21 f22).1.2.2.1) ((initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f2 f3 f4 f5 f6 f7 f8 f9 f10 f11 f12 f13 f14 f15 f16 f18 f19 f20 f21 f22).1.2.2.2.1) ((initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f2 f3 f4 f5 f6 f7 f8 f9 f10 f11 f12 f13 f14 f15 f16 f18 f19 f20 f21 f22).1.2.2.2.2) f23 f24 f25 f26).2 E Q
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H18b]; · iexact H18b
    isplitl [H19]; · iexact H19
    isplitl [H20]; · iexact H20
    isplitl [H21]; · iexact H21
    isplitl [H21b]; · iexact H21b
    isplitl [H22]; · iexact H22
    isplitl [H23]; · iexact H23
    isplitl [H24]; · iexact H24
    isplitl [H25]; · iexact H25
    isplitl [H26]; · iexact H26
    iintro ⟨H2, H3, H4, H5, H6, H7, H8, H9, H10, H11, H12, H13, H14, H15, H16, H17, H18, H18b, H19, H20, H21, H21b, H22, H23, H24, H25, H26⟩
    ihave H18q := ((rows_keys c arg18 ((initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f2 f3 f4 f5 f6 f7 f8 f9 f10 f11 f12 f13 f14 f15 f16 f18 f19 f20 f21 f22).1.1)).2) $$ [H18 H18b]
    · isplitl [H18]; · iexact H18
      iexact H18b
    ihave H21q := ((rows_values c arg21 ((initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f2 f3 f4 f5 f6 f7 f8 f9 f10 f11 f12 f13 f14 f15 f16 f18 f19 f20 f21 f22).1.2.2.2.1)).2) $$ [H21 H21b]
    · isplitl [H21]; · iexact H21
      iexact H21b
    iapply Hk
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18q]; · iexists _; iexact H18q
    isplitl [H19]; · iexists _; iexact H19
    isplitl [H20]; · iexists _; iexact H20
    isplitl [H21q]; · iexists _; iexact H21q
    isplitl [H22]; · iexists _; iexact H22
    isplitl [H23]; · iexists _; iexact H23
    isplitl [H24]; · iexists _; iexact H24
    isplitl [H25]; · iexists _; iexact H25
    iexists _; iexact H26
  · skip
    ihave H18p := ((rows_keys c arg18 f18).1) $$ H18
    icases H18p with ⟨H18, H18b⟩
    ihave H21p := ((rows_values c arg21 f21).1) $$ H21
    icases H21p with ⟨H21, H21b⟩
    iapply (tileRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f2 f3 f4 f5 f6 f7 f8 f9 f10 f11 f12 f13 f14 f15 f16 f17 f18 f19 f20 f21 f22 f23 f24 f25 f26).2 E Q
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H18b]; · iexact H18b
    isplitl [H19]; · iexact H19
    isplitl [H20]; · iexact H20
    isplitl [H21]; · iexact H21
    isplitl [H21b]; · iexact H21b
    isplitl [H22]; · iexact H22
    isplitl [H23]; · iexact H23
    isplitl [H24]; · iexact H24
    isplitl [H25]; · iexact H25
    isplitl [H26]; · iexact H26
    iintro ⟨H2, H3, H4, H5, H6, H7, H8, H9, H10, H11, H12, H13, H14, H15, H16, H17, H18, H18b, H19, H20, H21, H21b, H22, H23, H24, H25, H26⟩
    ihave H18q := ((rows_keys c arg18 f18).2) $$ [H18 H18b]
    · isplitl [H18]; · iexact H18
      iexact H18b
    ihave H21q := ((rows_values c arg21 f21).2) $$ [H21 H21b]
    · isplitl [H21]; · iexact H21
      iexact H21b
    iapply Hk
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18q]; · iexists _; iexact H18q
    isplitl [H19]; · iexists _; iexact H19
    isplitl [H20]; · iexists _; iexact H20
    isplitl [H21q]; · iexists _; iexact H21q
    isplitl [H22]; · iexists _; iexact H22
    isplitl [H23]; · iexists _; iexact H23
    isplitl [H24]; · iexists _; iexact H24
    isplitl [H25]; · iexists _; iexact H25
    iexists _; iexact H26

/-- The body at grid point `t`: from every buffer held, to every buffer held. -/
theorem body_at (c : Dev nD) (t : Fin cfg0.N) (E : Set ℕ) (Q : PUnit → sProp 𝕄) :
    iprop(someAt (F := F) c (win0_0.stage (cfg0.slots t 0)) ∗ someAt (F := F) c (win0_1.stage (cfg0.slots t 1)) ∗ someAt (F := F) c (win0_2.stage (cfg0.slots t 2)) ∗ someAt (F := F) c (win0_3.stage (cfg0.slots t 3)) ∗ someAt (F := F) c (win0_4.stage (cfg0.slots t 4)) ∗ someAt (F := F) c (win0_5.stage (cfg0.slots t 5)) ∗ someAt (F := F) c (win0_6.stage (cfg0.slots t 6)) ∗ someAt (F := F) c (win0_7.stage (cfg0.slots t 7)) ∗ someAt (F := F) c (win0_8.stage (cfg0.slots t 8)) ∗ someAt (F := F) c (win0_9.stage (cfg0.slots t 9)) ∗ someAt (F := F) c (win0_10.stage (cfg0.slots t 10)) ∗ someAt (F := F) c (win0_11.stage (cfg0.slots t 11)) ∗ someAt (F := F) c (win0_12.stage (cfg0.slots t 12)) ∗ someAt (F := F) c (win0_13.stage (cfg0.slots t 13)) ∗ someAt (F := F) c (win0_14.stage (cfg0.slots t 14)) ∗ someAt (F := F) c (win0_15.stage (cfg0.slots t 15)) ∗ someAt (F := F) c (Memref.whole cc0_scratch0) ∗ someAt (F := F) c (Memref.whole cc0_scratch1) ∗ someAt (F := F) c (Memref.whole cc0_scratch2) ∗ someAt (F := F) c (Memref.whole cc0_scratch3) ∗ someAt (F := F) c (Memref.whole cc0_scratch4) ∗ someAt (F := F) c (Memref.whole cc0_scratch5) ∗ someAt (F := F) c (Memref.whole cc0_scratch6) ∗ someAt (F := F) c (Memref.whole cc0_scratch7) ∗ someAt (F := F) c (Memref.whole cc0_scratch8)
      ∗ (iprop(someAt (F := F) c (win0_0.stage (cfg0.slots t 0)) ∗ someAt (F := F) c (win0_1.stage (cfg0.slots t 1)) ∗ someAt (F := F) c (win0_2.stage (cfg0.slots t 2)) ∗ someAt (F := F) c (win0_3.stage (cfg0.slots t 3)) ∗ someAt (F := F) c (win0_4.stage (cfg0.slots t 4)) ∗ someAt (F := F) c (win0_5.stage (cfg0.slots t 5)) ∗ someAt (F := F) c (win0_6.stage (cfg0.slots t 6)) ∗ someAt (F := F) c (win0_7.stage (cfg0.slots t 7)) ∗ someAt (F := F) c (win0_8.stage (cfg0.slots t 8)) ∗ someAt (F := F) c (win0_9.stage (cfg0.slots t 9)) ∗ someAt (F := F) c (win0_10.stage (cfg0.slots t 10)) ∗ someAt (F := F) c (win0_11.stage (cfg0.slots t 11)) ∗ someAt (F := F) c (win0_12.stage (cfg0.slots t 12)) ∗ someAt (F := F) c (win0_13.stage (cfg0.slots t 13)) ∗ someAt (F := F) c (win0_14.stage (cfg0.slots t 14)) ∗ someAt (F := F) c (win0_15.stage (cfg0.slots t 15)) ∗ someAt (F := F) c (Memref.whole cc0_scratch0) ∗ someAt (F := F) c (Memref.whole cc0_scratch1) ∗ someAt (F := F) c (Memref.whole cc0_scratch2) ∗ someAt (F := F) c (Memref.whole cc0_scratch3) ∗ someAt (F := F) c (Memref.whole cc0_scratch4) ∗ someAt (F := F) c (Memref.whole cc0_scratch5) ∗ someAt (F := F) c (Memref.whole cc0_scratch6) ∗ someAt (F := F) c (Memref.whole cc0_scratch7) ∗ someAt (F := F) c (Memref.whole cc0_scratch8)) -∗ Q ⟨⟩))
    ⊢ wp frame (wpE (defs₀ (F := F)) Variants.none c none) E (bodyAt0 (F := F) t) Q :=
  body_run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) E Q

/-! ## The run -/

variable (m : (ℓ : Loc nD τ sig) → Buf (Elt F) ℓ) (ρ : Dev nD → PrngReg)

/-- The proof data of the one pipeline: the arrays as the region finds them, the scratch buffers held at some contents. -/
def dats : (p : Fin 1) → (c : Dev nD) → Dat τ (Elt F) Unit ℕ (UR sig nD τ) ℕ (cfgs p) c
  | 0 => fun c => { A := fun w => V m c (Pipeline.arrRef spec0 w)
                    after := Dat.unnamed
                    Φ := fun _ => Pipeline.ΦA spec0 c
                    q := shareOf spec0
                    owed := fun _ => 0 }
  | ⟨_ + 1, h⟩ => absurd h (Nat.not_lt.2 (Nat.le_add_left _ _))

/-- The body's obligation at every point, no buffer's contents named. -/
theorem body_obligation (c : Dev nD) : BodyObligationLoose (dats m 0 c) (defs₀ (F := F)) Variants.none () Set.univ (fun _ => true) := fun t => by
  rw [bigSep_W0]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  simp only [← someAt_whole]
  change _ ⊢ wp frame _ _ (bodyAt0 t) _
  iintro ⟨⟨⟨H18, H19, H20, H21, H22, H23, H24, H25, H26⟩, Hp⟩, Ho, H2, H3, H4, H5, H6, H7, H8, H9, H10, H11, H12, H13, H14, H15, H16, H17⟩
  ihave G2 := (someAt_of_owns (F := F) c _) $$ H2
  ihave G3 := (someAt_of_owns (F := F) c _) $$ H3
  ihave G4 := (someAt_of_owns (F := F) c _) $$ H4
  ihave G5 := (someAt_of_owns (F := F) c _) $$ H5
  ihave G6 := (someAt_of_owns (F := F) c _) $$ H6
  ihave G7 := (someAt_of_owns (F := F) c _) $$ H7
  ihave G8 := (someAt_of_owns (F := F) c _) $$ H8
  ihave G9 := (someAt_of_owns (F := F) c _) $$ H9
  ihave G10 := (someAt_of_owns (F := F) c _) $$ H10
  ihave G11 := (someAt_of_owns (F := F) c _) $$ H11
  ihave G12 := (someAt_of_owns (F := F) c _) $$ H12
  ihave G13 := (someAt_of_owns (F := F) c _) $$ H13
  ihave G14 := (someAt_of_owns (F := F) c _) $$ H14
  ihave G15 := (someAt_of_owns (F := F) c _) $$ H15
  ihave G16 := (someAt_of_owns (F := F) c _) $$ H16
  ihave G17 := (someAt_of_owns (F := F) c _) $$ H17
  iapply (body_at (F := F) c t Set.univ _)
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iintro ⟨H2, H3, H4, H5, H6, H7, H8, H9, H10, H11, H12, H13, H14, H15, H16, H17, H18, H19, H20, H21, H22, H23, H24, H25, H26⟩
  isplitl [H18 H19 H20 H21 H22 H23 H24 H25 H26 Hp]
  · isplitr [Hp]
    · isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      iexact H26
    · iexact Hp
  isplitl [Ho]; · iexact Ho
  isplitl [H2]; · iapply (owns_of_someAt (F := F) c _); iexact H2
  isplitl [H3]; · iapply (owns_of_someAt (F := F) c _); iexact H3
  isplitl [H4]; · iapply (owns_of_someAt (F := F) c _); iexact H4
  isplitl [H5]; · iapply (owns_of_someAt (F := F) c _); iexact H5
  isplitl [H6]; · iapply (owns_of_someAt (F := F) c _); iexact H6
  isplitl [H7]; · iapply (owns_of_someAt (F := F) c _); iexact H7
  isplitl [H8]; · iapply (owns_of_someAt (F := F) c _); iexact H8
  isplitl [H9]; · iapply (owns_of_someAt (F := F) c _); iexact H9
  isplitl [H10]; · iapply (owns_of_someAt (F := F) c _); iexact H10
  isplitl [H11]; · iapply (owns_of_someAt (F := F) c _); iexact H11
  isplitl [H12]; · iapply (owns_of_someAt (F := F) c _); iexact H12
  isplitl [H13]; · iapply (owns_of_someAt (F := F) c _); iexact H13
  isplitl [H14]; · iapply (owns_of_someAt (F := F) c _); iexact H14
  isplitl [H15]; · iapply (owns_of_someAt (F := F) c _); iexact H15
  isplitl [H16]; · iapply (owns_of_someAt (F := F) c _); iexact H16
  iapply (owns_of_someAt (F := F) c _); iexact H17

/-- The run to the region's post: every window's array as the region leaves it, every semaphore at zero. -/
theorem run_post :
    θ_run defs (onTc (τ := τ) (main (F := F))) (s₀ m ρ)
      (fun r => RDat.FramePost (cfgs 0) (fun c => (dats m 0 c).toRForget (fun _ => true)) (V m) r ∧ r.2.sem = fun _ => 0) :=
  Pipeline.θ_run_frame_forget_shared cfgs (dats m) 0 launch₀0 (defs₀ (F := F)) Variants.none (fun _ => true) m ρ main
    (fun c => body_obligation m c) (fun _ _ _ => rfl) (fun _ _ => rfl) (V m) (hmain m Variants.none) (fun _ _ => rfl) (fun _ _ => rfl) _ (fun _ h => h)

set_option maxHeartbeats 1000000 in
/-- THE FRAME: the program ends, with every argument as it was and every semaphore at zero. -/
theorem run_quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  refine (θ_run defs _ _).mono (fun r hr => ?_) (run_post (F := F) m ρ)
  obtain ⟨h, hs⟩ := hr
  refine ⟨fun c => ⟨(h.arr_in c 7 rfl).trans (V_main_arg0 m c), (h.arr_in c 1 rfl).trans (V_main_arg1 m c),
    (h.arr_in c 8 rfl).trans (V_main_arg2 m c), (h.arr_in c 2 rfl).trans (V_main_arg3 m c),
    (h.arr_in c 3 rfl).trans (V_main_arg4 m c), (h.arr_in c 4 rfl).trans (V_main_arg5 m c)⟩, hs⟩

end Cert.KernelIdeal.Nsa

end
-- ==== Proof.FfnTile.lean ====
/- One tile of the mixer-and-feed-forward call as functions of its blocks: what a group of 256 rows computes, chunk by
   chunk of 256 hidden columns, from the call's input blocks and the rows carried from before. -/
module

public import proofs.«01_k».proof.Proof.Gen.FfnIdeal.Value
public import Idealize.ShloMosaic.Lib.WholeRead

@[expose] public section

noncomputable section

namespace Cert.FfnIdeal.Tile

open Idealize.ShloMosaic Idealize.ShloMosaic.TcCoe
open Cert.FfnIdeal Facts₀ Facts

variable {F : FTy → Type} [FloatOps F]

/-- The rows scaled by the reciprocal of their root mean square and by the gain `g`. -/
def rmsRows (x : FVec F S256x1024 .f32) (g : FVec F S1x1024 .f32) : FVec F S256x1024 .f32 :=
  mulf (mulf x (broadcastTo S256x1024 (rsqrt (addf (divf
      (shapeCast S256x1 (multiReduction .add [1] S256 (mulf x x) 0x00000000#32 reduces_S256x1024_S256 (.inl rfl) rfl) shapeCasts_S256_S256x1)
      (broadcast S256x1 (Scalar.ofBits .f32 0x44800000#32 : F .f32))) (broadcast S256x1 (Scalar.ofBits .f32 0x358637BD#32 : F .f32)))) broadcasts_S256x1_S256x1024))
    (broadcastTo S256x1024 g broadcasts_S1x1024_S256x1024)

/-- The residual rows: the input plus the normalized output projection of the two mixer halves. -/
def mixRows (h : Vec F S256x1024 .f32) (a b : Vec F S256x512 .bf16) (wa wb : Vec F S512x1024 .bf16) (g : Vec F S1x1024 .f32) : FVec F S256x1024 .f32 :=
  addf h (rmsRows (addf
    (matmul dot_S256x512_S512x1024_S256x1024_1_0_0_1_n_n none a (shapeCast S512x1024 wa shapeCasts_S512x1024_S512x1024) (constant S256x1024 .f32 0x00000000#32))
    (matmul dot_S256x512_S512x1024_S256x1024_1_0_0_1_n_n none b (shapeCast S512x1024 wb shapeCasts_S512x1024_S512x1024) (constant S256x1024 .f32 0x00000000#32)))
    (shapeCast S1x1024 g shapeCasts_S1x1024_S1x1024))

/-- The normalized residual rows, as the up projection reads them. -/
def normRows (x : FVec F S256x1024 .f32) (g : Vec F S1x1024 .f32) : FVec F S256x1024 .bf16 :=
  shapeCast S256x1024 (truncf .bf16 (rmsRows x (shapeCast S1x1024 g shapeCasts_S1x1024_S1x1024)) bitsLt_bf16_f32) shapeCasts_S256x1024_S256x1024

/-- A block of hidden columns: the sixteen rows before, then the rows' up projection. -/
def upRows (t : Vec F S1x1x16x256 .f32) (xn : Vec F S256x1024 .bf16) (w : Vec F S1024x256 .bf16) : FVec F S272x256 .f32 :=
  concatenate S272x256 0 [⟨S16x256, shapeCast S16x256 t shapeCasts_S1x1x16x256_S16x256⟩,
    ⟨S256x256, matmul dot_S256x1024_S1024x256_S256x256_1_0_0_1_n_n none xn (shapeCast S1024x256 w shapeCasts_S1024x256_S1024x256) (constant S256x256 .f32 0x00000000#32)⟩]
    concatenates_S16x256_S256x256_S272x256_d0

/-- The last sixteen rows of a block, which the rows after it start from. -/
def lastRows (u : FVec F S272x256 .f32) : FVec F S1x1x16x256 .f32 :=
  shapeCast S1x1x16x256 (extractStridedSlice S16x256 ![256, 0] u slices_S272x256_o256_0_S16x256) shapeCasts_S16x256_S1x1x16x256

/-- The three-tap causal convolution down the rows of a block, the sixteen rows before dropped. -/
def convRows (u : FVec F S272x256 .f32) (w2 w1 w0 b : Vec F S1x256 .f32) : FVec F S256x256 .f32 :=
  extractStridedSlice S256x256 ![16, 0]
    (addf (addf (addf (mulf (broadcastTo S272x256 w2 broadcasts_S1x256_S272x256) u)
      (mulf (broadcastTo S272x256 w1 broadcasts_S1x256_S272x256) (dynamicRotate 0 1#32 none u rotates_S272x256_d0)))
      (mulf (broadcastTo S272x256 w0 broadcasts_S1x256_S272x256) (dynamicRotate 0 2#32 none u rotates_S272x256_d0)))
      (broadcastTo S272x256 (shapeCast S1x256 b shapeCasts_S1x256_S1x256) broadcasts_S1x256_S272x256))
    slices_S272x256_o16_0_S256x256

/-- The gated activation: the tanh form of gelu of `y`, times `z`. -/
def gateRows (y z : FVec F S256x256 .f32) : FVec F S256x256 .bf16 :=
  truncf .bf16 (mulf (mulf (mulf (broadcast S256x256 (Scalar.ofBits .f32 0x3F000000#32 : F .f32)) y)
    (addf (broadcast S256x256 (Scalar.ofBits .f32 0x3F800000#32 : F .f32))
      (tanh (mulf (broadcast S256x256 (Scalar.ofBits .f32 0x3F4C422A#32 : F .f32))
        (addf y (mulf (broadcast S256x256 (Scalar.ofBits .f32 0x3D372713#32 : F .f32)) (mulf (mulf y y) y))))))) z) bitsLt_bf16_f32

/-- A chunk's share of the down projection, added to the rows accumulated so far. -/
def downRows (acc : Vec F S256x1024 .f32) (act : FVec F S256x256 .bf16) (w : Vec F S256x1024 .bf16) : FVec F S256x1024 .f32 :=
  shapeCast S256x1024 (addf acc (matmul dot_S256x256_S256x1024_S256x1024_1_0_0_1_n_n none act
    (shapeCast S256x1024 w shapeCasts_S256x1024_S256x1024) (constant S256x1024 .f32 0x00000000#32))) shapeCasts_S256x1024_S256x1024

/-- The rows before any chunk: zero. -/
def zeroRows : FVec F S256x1024 .f32 :=
  shapeCast S256x1024 (broadcast S256x1024 (Scalar.ofBits .f32 0x00000000#32 : F .f32)) shapeCasts_S256x1024_S256x1024

/-- The carried rows at the start of a sequence: zero. -/
def zeroTails : FVec F S11x2x16x256 .f32 :=
  shapeCast S11x2x16x256 (broadcast S11x2x16x256 (Scalar.ofBits .f32 0x00000000#32 : F .f32)) shapeCasts_S11x2x16x256_S11x2x16x256

/-- The result rows: the residual plus the normalized accumulated rows. -/
def outRows (x : FVec F S256x1024 .f32) (acc : Vec F S256x1024 .f32) (g : Vec F S1x1024 .f32) : FVec F S256x1024 .f32 :=
  addf x (rmsRows acc (shapeCast S1x1024 g shapeCasts_S1x1024_S1x1024))

/-! ## The blocks a group of rows and a chunk of columns read -/

theorem inb2 {A B p q i j : ℕ} (hi : i + p ≤ A) (hj : j + q ≤ B) (a : Fin 2) :
    (![i, j] : Fin 2 → ℕ) a + (⟨2, ![p, q]⟩ : Shape).size a ≤ (⟨2, ![A, B]⟩ : Shape).size a := by
  fin_cases a <;> assumption

theorem inb4 {A B C D p q r s i j k l : ℕ} (hi : i + p ≤ A) (hj : j + q ≤ B) (hk : k + r ≤ C) (hl : l + s ≤ D) (a : Fin 4) :
    (![i, j, k, l] : Fin 4 → ℕ) a + (⟨4, ![p, q, r, s]⟩ : Shape).size a ≤ (⟨4, ![A, B, C, D]⟩ : Shape).size a := by
  fin_cases a <;> assumption

/-- A load of a rectangle of a whole buffer reads the rectangle of its contents. -/
theorem load_eq {sig : RefSig} {Val : EltTy → Type} {κ : Kind} {sp : Space} {s : Shape} {e : EltTy} {m : Memref sig κ sp s e}
    (h : m.IsWhole) (X : s.Idx → Val e) (r : Rect s) :
    View.readAt Val m.view r.toLoadRect (h.unread X) = View.ld X r :=
  funext fun x => h.readAt_unread X r.toLoadRect x

/-- Rows `256 j … 256 j + 255` of a tile's block. -/
def rows (j : ℕ) (hj : j < 2) (x : Vec F S512x1024 .f32) : Vec F S256x1024 .f32 :=
  View.ld x (Rect.unit ![256 * j, 0] S256x1024.size (inb2 (by omega) (by omega)))

/-- Those rows of a mixer half. -/
def halfRows (j : ℕ) (hj : j < 2) (x : Vec F S512x512 .bf16) : Vec F S256x512 .bf16 :=
  View.ld x (Rect.unit ![256 * j, 0] S256x512.size (inb2 (by omega) (by omega)))

/-- The columns of the up projection that half `h` of chunk `k` reads. -/
def upCols (h k : ℕ) (hh : h < 2) (hk : k < 11) (w : Vec F S1024x5632 .bf16) : Vec F S1024x256 .bf16 :=
  View.ld w (Rect.unit ![0, 2816 * h + 256 * k] S1024x256.size (inb2 (by omega) (by omega)))

/-- The tap `d` of the convolution at those columns. -/
def tapCols (d h k : ℕ) (hd : d < 3) (hh : h < 2) (hk : k < 11) (w : Vec F S3x5632 .f32) : Vec F S1x256 .f32 :=
  View.ld w (Rect.unit ![d, 2816 * h + 256 * k] S1x256.size (inb2 (by omega) (by omega)))

/-- The bias of the convolution at those columns. -/
def biasCols (h k : ℕ) (hh : h < 2) (hk : k < 11) (b : Vec F S1x5632 .f32) : Vec F S1x256 .f32 :=
  View.ld b (Rect.unit ![0, 2816 * h + 256 * k] S1x256.size (inb2 (by omega) (by omega)))

/-- The rows of the down projection that chunk `k` reads. -/
def downBlk (k : ℕ) (hk : k < 11) (w : Vec F S2816x1024 .bf16) : Vec F S256x1024 .bf16 :=
  View.ld w (Rect.unit ![256 * k, 0] S256x1024.size (inb2 (by omega) (by omega)))

/-- The carried rows of half `h` of chunk `k`. -/
def tailIn (h k : ℕ) (hh : h < 2) (hk : k < 11) (T : Vec F S11x2x16x256 .f32) : Vec F S1x1x16x256 .f32 :=
  View.ld T (Rect.unit ![k, h, 0, 0] S1x1x16x256.size (inb4 (by omega) (by omega) (by omega) (by omega)))

/-! ## A group of rows of a tile -/

variable (x0 : Vec F S512x1024 .f32) (x1 x2 : Vec F S512x512 .bf16) (x3 x4 : Vec F S512x1024 .bf16) (x5 x6 : Vec F S1x1024 .f32)
  (x7 : Vec F S1024x5632 .bf16) (x8 : Vec F S3x5632 .f32) (x9 : Vec F S1x5632 .f32) (x10 : Vec F S2816x1024 .bf16) (x11 : Vec F S1x1024 .f32)
  (T : Vec F S11x2x16x256 .f32)

theorem inbv (a : Fin 2) : (![0, 0] : Fin 2 → ℕ) a + S1x1024.size a ≤ S1x1024.size a := by fin_cases a <;> decide
theorem inbw (a : Fin 2) : (![0, 0] : Fin 2 → ℕ) a + S512x1024.size a ≤ S512x1024.size a := by fin_cases a <;> decide

/-- A gain, as the body loads it. -/
def gain (g : Vec F S1x1024 .f32) : Vec F S1x1024 .f32 := View.ld g (Rect.unit ![0, 0] S1x1024.size inbv)
/-- An output projection, as the body loads it. -/
def proj (w : Vec F S512x1024 .bf16) : Vec F S512x1024 .bf16 := View.ld w (Rect.unit ![0, 0] S512x1024.size inbw)

/-- The residual rows of group `j`. -/
def resid (j : ℕ) (hj : j < 2) : FVec F S256x1024 .f32 :=
  mixRows (rows j hj x0) (halfRows j hj x1) (halfRows j hj x2) (proj x3) (proj x4) (gain x5)

/-- The normalized residual rows of group `j`. -/
def normed (j : ℕ) (hj : j < 2) : FVec F S256x1024 .bf16 := normRows (resid x0 x1 x2 x3 x4 x5 j hj) (gain x6)

/-- The hidden columns of half `h` of chunk `k` for group `j`, the rows before them taken from `T` for the first group
    and from the first group for the second. -/
def hidden (h k : ℕ) (hh : h < 2) (hk : k < 11) : (j : ℕ) → j < 2 → FVec F S272x256 .f32
  | 0, hj => upRows (tailIn h k hh hk T) (normed x0 x1 x2 x3 x4 x5 x6 0 hj) (upCols h k hh hk x7)
  | j + 1, hj => upRows (lastRows (hidden h k hh hk j (Nat.lt_of_succ_lt hj))) (normed x0 x1 x2 x3 x4 x5 x6 (j + 1) hj) (upCols h k hh hk x7)

/-- The convolution of those columns. -/
def conved (h k : ℕ) (hh : h < 2) (hk : k < 11) (j : ℕ) (hj : j < 2) : FVec F S256x256 .f32 :=
  convRows (hidden x0 x1 x2 x3 x4 x5 x6 x7 T h k hh hk j hj) (tapCols 2 h k (by omega) hh hk x8) (tapCols 1 h k (by omega) hh hk x8)
    (tapCols 0 h k (by omega) hh hk x8) (biasCols h k hh hk x9)

/-- The accumulated rows of group `j` after `k` chunks. -/
def accum (j : ℕ) (hj : j < 2) : (k : ℕ) → k ≤ 11 → FVec F S256x1024 .f32
  | 0, _ => zeroRows
  | k + 1, hk => downRows (accum j hj k (Nat.le_of_succ_le hk))
      (gateRows (conved x0 x1 x2 x3 x4 x5 x6 x7 x8 x9 T 0 k (by omega) hk j hj) (conved x0 x1 x2 x3 x4 x5 x6 x7 x8 x9 T 1 k (by omega) hk j hj))
      (downBlk k hk x10)

/-- The result rows of group `j`. -/
def result (j : ℕ) (hj : j < 2) : FVec F S256x1024 .f32 :=
  outRows (resid x0 x1 x2 x3 x4 x5 j hj) (accum x0 x1 x2 x3 x4 x5 x6 x7 x8 x9 x10 T j hj 11 le_rfl) (gain x11)

end Cert.FfnIdeal.Tile

end
-- ==== Proof.FfnRunA.lean ====
/- What the run of the mixer-and-feed-forward body in case A holds at each load, in the functions of one tile. -/
module

public import proofs.«01_k».proof.Proof.FfnTile

public import Idealize.ShloMosaic.Lib.Pipeline.ReadBack

@[expose] public section

set_option maxRecDepth 4000

noncomputable section

namespace Cert.FfnIdeal.RunA

open Idealize.ShloMosaic Idealize.ShloMosaic.TcCoe
open Cert.FfnIdeal Cert.FfnIdeal.Gen Cert.FfnIdeal.Tile

variable {F : FTy → Type} [FloatOps F]
variable (c : Dev nD) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S11x2x16x256 .f32) (harg16 : arg16.IsWhole)
  (x0 : Vec F S512x1024 .f32) (x1 : Vec F S512x512 .bf16) (x2 : Vec F S512x512 .bf16) (x3 : Vec F S512x1024 .bf16) (x4 : Vec F S512x1024 .bf16) (x5 : Vec F S1x1024 .f32) (x6 : Vec F S1x1024 .f32) (x7 : Vec F S1024x5632 .bf16) (x8 : Vec F S3x5632 .f32) (x9 : Vec F S1x5632 .f32) (x10 : Vec F S2816x1024 .bf16) (x11 : Vec F S1x1024 .f32)

theorem v60_eq : kernelRun0_A.sl.v60 c arg1 harg1 arg2 harg2 arg3 harg3 arg4 harg4 arg5 harg5 arg6 harg6 arg7 harg7 arg14 x0 x1 x2 x3 x4 x5 x6 = normed x0 x1 x2 x3 x4 x5 x6 0 (by decide) := by
  unfold kernelRun0_A.sl.v60
  refine (View.readCov_cons_toLoadRect _ _ _ _).trans ?_
  try simp only [kernelRun0_A.sl.r, kernelRun0_A.sl.r_1, kernelRun0_A.sl.r_2, kernelRun0_A.sl.r_3, kernelRun0_A.sl.r_4, load_eq]
  rfl

theorem v61_eq : kernelRun0_A.sl.v61 c arg16 = tailIn 0 0 (by decide) (by decide) (zeroTails (F := F)) := by
  unfold kernelRun0_A.sl.v61
  refine (View.readCov_fill _ _ _ _ _ (by decide)).trans ?_
  try simp only [load_eq]
  rfl

theorem v67_eq : kernelRun0_A.sl.v67 c arg16 = tailIn 1 0 (by decide) (by decide) (zeroTails (F := F)) := by
  unfold kernelRun0_A.sl.v67
  refine (View.readCov_fill _ _ _ _ _ (by decide)).trans ?_
  try simp only [load_eq]
  rfl

theorem v82_eq : kernelRun0_A.sl.v82 c arg1 harg1 arg2 harg2 arg3 harg3 arg4 harg4 arg5 harg5 arg6 harg6 arg7 harg7 arg8 harg8 arg14 arg16 x0 x1 x2 x3 x4 x5 x6 x7 = tailIn 0 1 (by decide) (by decide) (zeroTails (F := F)) := by
  unfold kernelRun0_A.sl.v82
  iterate 2 refine (View.readCov_skip _ _ _ _ _ rfl).trans ?_
  refine (View.readCov_fill _ _ _ _ _ (by decide)).trans ?_
  try simp only [load_eq]
  rfl

theorem v88_eq : kernelRun0_A.sl.v88 c arg1 harg1 arg2 harg2 arg3 harg3 arg4 harg4 arg5 harg5 arg6 harg6 arg7 harg7 arg8 harg8 arg14 arg16 x0 x1 x2 x3 x4 x5 x6 x7 = tailIn 1 1 (by decide) (by decide) (zeroTails (F := F)) := by
  unfold kernelRun0_A.sl.v88
  iterate 2 refine (View.readCov_skip _ _ _ _ _ rfl).trans ?_
  refine (View.readCov_fill _ _ _ _ _ (by decide)).trans ?_
  try simp only [load_eq]
  rfl

theorem v198_eq : kernelRun0_A.sl.v198 c arg15 = zeroRows (F := F) := by
  unfold kernelRun0_A.sl.v198
  iterate 1 refine (View.readCov_skip _ _ _ _ _ rfl).trans ?_
  refine (View.readCov_cons_toLoadRect _ _ _ _).trans ?_
  try simp only [load_eq]
  rfl

theorem v206_eq : kernelRun0_A.sl.v206 c arg1 harg1 arg2 harg2 arg3 harg3 arg4 harg4 arg5 harg5 arg6 harg6 arg7 harg7 arg14 x0 x1 x2 x3 x4 x5 x6 = normed x0 x1 x2 x3 x4 x5 x6 0 (by decide) := by
  unfold kernelRun0_A.sl.v206
  iterate 1 refine (View.readCov_skip _ _ _ _ _ rfl).trans ?_
  refine (View.readCov_cons_toLoadRect _ _ _ _).trans ?_
  try simp only [kernelRun0_A.sl.r, kernelRun0_A.sl.r_1, kernelRun0_A.sl.r_2, kernelRun0_A.sl.r_3, kernelRun0_A.sl.r_4, load_eq]
  rfl

theorem v207_eq : kernelRun0_A.sl.v207 c arg1 harg1 arg2 harg2 arg3 harg3 arg4 harg4 arg5 harg5 arg6 harg6 arg7 harg7 arg8 harg8 arg14 arg16 x0 x1 x2 x3 x4 x5 x6 x7 = tailIn 0 2 (by decide) (by decide) (zeroTails (F := F)) := by
  unfold kernelRun0_A.sl.v207
  iterate 4 refine (View.readCov_skip _ _ _ _ _ rfl).trans ?_
  refine (View.readCov_fill _ _ _ _ _ (by decide)).trans ?_
  try simp only [load_eq]
  rfl

theorem v213_eq : kernelRun0_A.sl.v213 c arg1 harg1 arg2 harg2 arg3 harg3 arg4 harg4 arg5 harg5 arg6 harg6 arg7 harg7 arg8 harg8 arg14 arg16 x0 x1 x2 x3 x4 x5 x6 x7 = tailIn 1 2 (by decide) (by decide) (zeroTails (F := F)) := by
  unfold kernelRun0_A.sl.v213
  iterate 4 refine (View.readCov_skip _ _ _ _ _ rfl).trans ?_
  refine (View.readCov_fill _ _ _ _ _ (by decide)).trans ?_
  try simp only [load_eq]
  rfl

theorem r_7_eq : kernelRun0_A.sl.r_7 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 0 (by decide) (by decide) 0 (by decide) := by
  unfold kernelRun0_A.sl.r_7
  try simp only [v60_eq, v67_eq, load_eq]
  rfl

theorem r_6_eq : kernelRun0_A.sl.r_6 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 0 (by decide) (by decide) 0 (by decide) := by
  unfold kernelRun0_A.sl.r_6
  try simp only [v60_eq, v61_eq, load_eq]
  rfl

theorem v278_eq : kernelRun0_A.sl.v278 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 0 (by decide) 1 (by decide) := by
  unfold kernelRun0_A.sl.v278
  refine (View.readCov_cons_toLoadRect _ _ _ _).trans ?_
  try simp only [kernelRun0_A.sl.r_13, kernelRun0_A.sl.r_14, kernelRun0_A.sl.r_15, r_7_eq, v198_eq, r_6_eq, load_eq]
  rfl

theorem v287_eq : kernelRun0_A.sl.v287 c arg1 harg1 arg2 harg2 arg3 harg3 arg4 harg4 arg5 harg5 arg6 harg6 arg7 harg7 arg8 harg8 arg14 arg16 x0 x1 x2 x3 x4 x5 x6 x7 = tailIn 0 3 (by decide) (by decide) (zeroTails (F := F)) := by
  unfold kernelRun0_A.sl.v287
  iterate 6 refine (View.readCov_skip _ _ _ _ _ rfl).trans ?_
  refine (View.readCov_fill _ _ _ _ _ (by decide)).trans ?_
  try simp only [load_eq]
  rfl

theorem v293_eq : kernelRun0_A.sl.v293 c arg1 harg1 arg2 harg2 arg3 harg3 arg4 harg4 arg5 harg5 arg6 harg6 arg7 harg7 arg8 harg8 arg14 arg16 x0 x1 x2 x3 x4 x5 x6 x7 = tailIn 1 3 (by decide) (by decide) (zeroTails (F := F)) := by
  unfold kernelRun0_A.sl.v293
  iterate 6 refine (View.readCov_skip _ _ _ _ _ rfl).trans ?_
  refine (View.readCov_fill _ _ _ _ _ (by decide)).trans ?_
  try simp only [load_eq]
  rfl

theorem r_8_eq : kernelRun0_A.sl.r_8 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 1 (by decide) (by decide) 0 (by decide) := by
  unfold kernelRun0_A.sl.r_8
  try simp only [v60_eq, v82_eq, load_eq]
  rfl

theorem r_9_eq : kernelRun0_A.sl.r_9 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 1 (by decide) (by decide) 0 (by decide) := by
  unfold kernelRun0_A.sl.r_9
  try simp only [v60_eq, v88_eq, load_eq]
  rfl

theorem v358_eq : kernelRun0_A.sl.v358 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 0 (by decide) 2 (by decide) := by
  unfold kernelRun0_A.sl.v358
  refine (View.readCov_cons_toLoadRect _ _ _ _).trans ?_
  try simp only [kernelRun0_A.sl.r_20, kernelRun0_A.sl.r_18, kernelRun0_A.sl.r_19, v278_eq, r_8_eq, r_9_eq, load_eq]
  rfl

theorem v367_eq : kernelRun0_A.sl.v367 c arg1 harg1 arg2 harg2 arg3 harg3 arg4 harg4 arg5 harg5 arg6 harg6 arg7 harg7 arg8 harg8 arg14 arg16 x0 x1 x2 x3 x4 x5 x6 x7 = tailIn 0 4 (by decide) (by decide) (zeroTails (F := F)) := by
  unfold kernelRun0_A.sl.v367
  iterate 8 refine (View.readCov_skip _ _ _ _ _ rfl).trans ?_
  refine (View.readCov_fill _ _ _ _ _ (by decide)).trans ?_
  try simp only [load_eq]
  rfl

theorem v373_eq : kernelRun0_A.sl.v373 c arg1 harg1 arg2 harg2 arg3 harg3 arg4 harg4 arg5 harg5 arg6 harg6 arg7 harg7 arg8 harg8 arg14 arg16 x0 x1 x2 x3 x4 x5 x6 x7 = tailIn 1 4 (by decide) (by decide) (zeroTails (F := F)) := by
  unfold kernelRun0_A.sl.v373
  iterate 8 refine (View.readCov_skip _ _ _ _ _ rfl).trans ?_
  refine (View.readCov_fill _ _ _ _ _ (by decide)).trans ?_
  try simp only [load_eq]
  rfl

theorem r_17_eq : kernelRun0_A.sl.r_17 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 2 (by decide) (by decide) 0 (by decide) := by
  unfold kernelRun0_A.sl.r_17
  try simp only [v206_eq, v213_eq, load_eq]
  rfl

theorem r_16_eq : kernelRun0_A.sl.r_16 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 2 (by decide) (by decide) 0 (by decide) := by
  unfold kernelRun0_A.sl.r_16
  try simp only [v206_eq, v207_eq, load_eq]
  rfl

theorem v438_eq : kernelRun0_A.sl.v438 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 0 (by decide) 3 (by decide) := by
  unfold kernelRun0_A.sl.v438
  refine (View.readCov_cons_toLoadRect _ _ _ _).trans ?_
  try simp only [kernelRun0_A.sl.r_24, kernelRun0_A.sl.r_25, r_17_eq, v358_eq, r_16_eq, load_eq]
  rfl

theorem v447_eq : kernelRun0_A.sl.v447 c arg1 harg1 arg2 harg2 arg3 harg3 arg4 harg4 arg5 harg5 arg6 harg6 arg7 harg7 arg8 harg8 arg14 arg16 x0 x1 x2 x3 x4 x5 x6 x7 = tailIn 0 5 (by decide) (by decide) (zeroTails (F := F)) := by
  unfold kernelRun0_A.sl.v447
  iterate 10 refine (View.readCov_skip _ _ _ _ _ rfl).trans ?_
  refine (View.readCov_fill _ _ _ _ _ (by decide)).trans ?_
  try simp only [load_eq]
  rfl

theorem v453_eq : kernelRun0_A.sl.v453 c arg1 harg1 arg2 harg2 arg3 harg3 arg4 harg4 arg5 harg5 arg6 harg6 arg7 harg7 arg8 harg8 arg14 arg16 x0 x1 x2 x3 x4 x5 x6 x7 = tailIn 1 5 (by decide) (by decide) (zeroTails (F := F)) := by
  unfold kernelRun0_A.sl.v453
  iterate 10 refine (View.readCov_skip _ _ _ _ _ rfl).trans ?_
  refine (View.readCov_fill _ _ _ _ _ (by decide)).trans ?_
  try simp only [load_eq]
  rfl

theorem r_22_eq : kernelRun0_A.sl.r_22 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 3 (by decide) (by decide) 0 (by decide) := by
  unfold kernelRun0_A.sl.r_22
  try simp only [v206_eq, v293_eq, load_eq]
  rfl

theorem r_21_eq : kernelRun0_A.sl.r_21 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 3 (by decide) (by decide) 0 (by decide) := by
  unfold kernelRun0_A.sl.r_21
  try simp only [v206_eq, v287_eq, load_eq]
  rfl

theorem v518_eq : kernelRun0_A.sl.v518 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 0 (by decide) 4 (by decide) := by
  unfold kernelRun0_A.sl.v518
  refine (View.readCov_cons_toLoadRect _ _ _ _).trans ?_
  try simp only [kernelRun0_A.sl.r_30, kernelRun0_A.sl.r_31, r_22_eq, v438_eq, r_21_eq, load_eq]
  rfl

theorem v527_eq : kernelRun0_A.sl.v527 c arg1 harg1 arg2 harg2 arg3 harg3 arg4 harg4 arg5 harg5 arg6 harg6 arg7 harg7 arg8 harg8 arg14 arg16 x0 x1 x2 x3 x4 x5 x6 x7 = tailIn 0 6 (by decide) (by decide) (zeroTails (F := F)) := by
  unfold kernelRun0_A.sl.v527
  iterate 12 refine (View.readCov_skip _ _ _ _ _ rfl).trans ?_
  refine (View.readCov_fill _ _ _ _ _ (by decide)).trans ?_
  try simp only [load_eq]
  rfl

theorem v533_eq : kernelRun0_A.sl.v533 c arg1 harg1 arg2 harg2 arg3 harg3 arg4 harg4 arg5 harg5 arg6 harg6 arg7 harg7 arg8 harg8 arg14 arg16 x0 x1 x2 x3 x4 x5 x6 x7 = tailIn 1 6 (by decide) (by decide) (zeroTails (F := F)) := by
  unfold kernelRun0_A.sl.v533
  iterate 12 refine (View.readCov_skip _ _ _ _ _ rfl).trans ?_
  refine (View.readCov_fill _ _ _ _ _ (by decide)).trans ?_
  try simp only [load_eq]
  rfl

theorem r_29_eq : kernelRun0_A.sl.r_29 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 4 (by decide) (by decide) 0 (by decide) := by
  unfold kernelRun0_A.sl.r_29
  try simp only [kernelRun0_A.sl.r_27, kernelRun0_A.sl.r_28, v373_eq, v206_eq, load_eq]
  rfl

theorem r_26_eq : kernelRun0_A.sl.r_26 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 4 (by decide) (by decide) 0 (by decide) := by
  unfold kernelRun0_A.sl.r_26
  try simp only [v206_eq, v367_eq, load_eq]
  rfl

theorem v598_eq : kernelRun0_A.sl.v598 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 0 (by decide) 5 (by decide) := by
  unfold kernelRun0_A.sl.v598
  refine (View.readCov_cons_toLoadRect _ _ _ _).trans ?_
  try simp only [kernelRun0_A.sl.r_36, kernelRun0_A.sl.r_37, kernelRun0_A.sl.cst_334, kernelRun0_A.sl.r_35, v518_eq, r_29_eq, r_26_eq, load_eq]
  rfl

theorem v607_eq : kernelRun0_A.sl.v607 c arg1 harg1 arg2 harg2 arg3 harg3 arg4 harg4 arg5 harg5 arg6 harg6 arg7 harg7 arg8 harg8 arg14 arg16 x0 x1 x2 x3 x4 x5 x6 x7 = tailIn 0 7 (by decide) (by decide) (zeroTails (F := F)) := by
  unfold kernelRun0_A.sl.v607
  iterate 14 refine (View.readCov_skip _ _ _ _ _ rfl).trans ?_
  refine (View.readCov_fill _ _ _ _ _ (by decide)).trans ?_
  try simp only [load_eq]
  rfl

theorem v613_eq : kernelRun0_A.sl.v613 c arg1 harg1 arg2 harg2 arg3 harg3 arg4 harg4 arg5 harg5 arg6 harg6 arg7 harg7 arg8 harg8 arg14 arg16 x0 x1 x2 x3 x4 x5 x6 x7 = tailIn 1 7 (by decide) (by decide) (zeroTails (F := F)) := by
  unfold kernelRun0_A.sl.v613
  iterate 14 refine (View.readCov_skip _ _ _ _ _ rfl).trans ?_
  refine (View.readCov_fill _ _ _ _ _ (by decide)).trans ?_
  try simp only [load_eq]
  rfl

theorem r_33_eq : kernelRun0_A.sl.r_33 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 5 (by decide) (by decide) 0 (by decide) := by
  unfold kernelRun0_A.sl.r_33
  try simp only [kernelRun0_A.sl.r_32, v206_eq, v447_eq, load_eq]
  rfl

theorem r_34_eq : kernelRun0_A.sl.r_34 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 5 (by decide) (by decide) 0 (by decide) := by
  unfold kernelRun0_A.sl.r_34
  try simp only [v206_eq, v453_eq, load_eq]
  rfl

theorem v678_eq : kernelRun0_A.sl.v678 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 0 (by decide) 6 (by decide) := by
  unfold kernelRun0_A.sl.v678
  refine (View.readCov_cons_toLoadRect _ _ _ _).trans ?_
  try simp only [kernelRun0_A.sl.r_41, kernelRun0_A.sl.r_42, kernelRun0_A.sl.r_43, kernelRun0_A.sl.r_40, v598_eq, r_33_eq, r_34_eq, load_eq]
  rfl

theorem v687_eq : kernelRun0_A.sl.v687 c arg1 harg1 arg2 harg2 arg3 harg3 arg4 harg4 arg5 harg5 arg6 harg6 arg7 harg7 arg8 harg8 arg14 arg16 x0 x1 x2 x3 x4 x5 x6 x7 = tailIn 0 8 (by decide) (by decide) (zeroTails (F := F)) := by
  unfold kernelRun0_A.sl.v687
  iterate 16 refine (View.readCov_skip _ _ _ _ _ rfl).trans ?_
  refine (View.readCov_fill _ _ _ _ _ (by decide)).trans ?_
  try simp only [load_eq]
  rfl

theorem v693_eq : kernelRun0_A.sl.v693 c arg1 harg1 arg2 harg2 arg3 harg3 arg4 harg4 arg5 harg5 arg6 harg6 arg7 harg7 arg8 harg8 arg14 arg16 x0 x1 x2 x3 x4 x5 x6 x7 = tailIn 1 8 (by decide) (by decide) (zeroTails (F := F)) := by
  unfold kernelRun0_A.sl.v693
  iterate 16 refine (View.readCov_skip _ _ _ _ _ rfl).trans ?_
  refine (View.readCov_fill _ _ _ _ _ (by decide)).trans ?_
  try simp only [load_eq]
  rfl

theorem r_39_eq : kernelRun0_A.sl.r_39 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 6 (by decide) (by decide) 0 (by decide) := by
  unfold kernelRun0_A.sl.r_39
  try simp only [v206_eq, v533_eq, load_eq]
  rfl

theorem r_38_eq : kernelRun0_A.sl.r_38 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 6 (by decide) (by decide) 0 (by decide) := by
  unfold kernelRun0_A.sl.r_38
  try simp only [v206_eq, v527_eq, load_eq]
  rfl

theorem v758_eq : kernelRun0_A.sl.v758 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 0 (by decide) 7 (by decide) := by
  unfold kernelRun0_A.sl.v758
  refine (View.readCov_cons_toLoadRect _ _ _ _).trans ?_
  try simp only [kernelRun0_A.sl.r_47, r_39_eq, v678_eq, r_38_eq, load_eq]
  rfl

theorem v767_eq : kernelRun0_A.sl.v767 c arg1 harg1 arg2 harg2 arg3 harg3 arg4 harg4 arg5 harg5 arg6 harg6 arg7 harg7 arg8 harg8 arg14 arg16 x0 x1 x2 x3 x4 x5 x6 x7 = tailIn 0 9 (by decide) (by decide) (zeroTails (F := F)) := by
  unfold kernelRun0_A.sl.v767
  iterate 18 refine (View.readCov_skip _ _ _ _ _ rfl).trans ?_
  refine (View.readCov_fill _ _ _ _ _ (by decide)).trans ?_
  try simp only [load_eq]
  rfl

theorem v773_eq : kernelRun0_A.sl.v773 c arg1 harg1 arg2 harg2 arg3 harg3 arg4 harg4 arg5 harg5 arg6 harg6 arg7 harg7 arg8 harg8 arg14 arg16 x0 x1 x2 x3 x4 x5 x6 x7 = tailIn 1 9 (by decide) (by decide) (zeroTails (F := F)) := by
  unfold kernelRun0_A.sl.v773
  iterate 18 refine (View.readCov_skip _ _ _ _ _ rfl).trans ?_
  refine (View.readCov_fill _ _ _ _ _ (by decide)).trans ?_
  try simp only [load_eq]
  rfl

theorem r_45_eq : kernelRun0_A.sl.r_45 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 7 (by decide) (by decide) 0 (by decide) := by
  unfold kernelRun0_A.sl.r_45
  try simp only [v206_eq, v613_eq, load_eq]
  rfl

theorem r_44_eq : kernelRun0_A.sl.r_44 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 7 (by decide) (by decide) 0 (by decide) := by
  unfold kernelRun0_A.sl.r_44
  try simp only [v206_eq, v607_eq, load_eq]
  rfl

theorem v838_eq : kernelRun0_A.sl.v838 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 0 (by decide) 8 (by decide) := by
  unfold kernelRun0_A.sl.v838
  refine (View.readCov_cons_toLoadRect _ _ _ _).trans ?_
  try simp only [kernelRun0_A.sl.r_51, kernelRun0_A.sl.r_50, kernelRun0_A.sl.cst_472, r_45_eq, v758_eq, r_44_eq, load_eq]
  rfl

theorem v847_eq : kernelRun0_A.sl.v847 c arg1 harg1 arg2 harg2 arg3 harg3 arg4 harg4 arg5 harg5 arg6 harg6 arg7 harg7 arg8 harg8 arg14 arg16 x0 x1 x2 x3 x4 x5 x6 x7 = tailIn 0 10 (by decide) (by decide) (zeroTails (F := F)) := by
  unfold kernelRun0_A.sl.v847
  iterate 20 refine (View.readCov_skip _ _ _ _ _ rfl).trans ?_
  refine (View.readCov_fill _ _ _ _ _ (by decide)).trans ?_
  try simp only [load_eq]
  rfl

theorem v853_eq : kernelRun0_A.sl.v853 c arg1 harg1 arg2 harg2 arg3 harg3 arg4 harg4 arg5 harg5 arg6 harg6 arg7 harg7 arg8 harg8 arg14 arg16 x0 x1 x2 x3 x4 x5 x6 x7 = tailIn 1 10 (by decide) (by decide) (zeroTails (F := F)) := by
  unfold kernelRun0_A.sl.v853
  iterate 20 refine (View.readCov_skip _ _ _ _ _ rfl).trans ?_
  refine (View.readCov_fill _ _ _ _ _ (by decide)).trans ?_
  try simp only [load_eq]
  rfl

theorem r_48_eq : kernelRun0_A.sl.r_48 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 8 (by decide) (by decide) 0 (by decide) := by
  unfold kernelRun0_A.sl.r_48
  try simp only [v206_eq, v687_eq, load_eq]
  rfl

theorem r_49_eq : kernelRun0_A.sl.r_49 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 8 (by decide) (by decide) 0 (by decide) := by
  unfold kernelRun0_A.sl.r_49
  try simp only [v206_eq, v693_eq, load_eq]
  rfl

theorem v918_eq : kernelRun0_A.sl.v918 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 0 (by decide) 9 (by decide) := by
  unfold kernelRun0_A.sl.v918
  refine (View.readCov_cons_toLoadRect _ _ _ _).trans ?_
  try simp only [kernelRun0_A.sl.r_57, kernelRun0_A.sl.r_58, kernelRun0_A.sl.r_59, kernelRun0_A.sl.r_54, kernelRun0_A.sl.r_55, kernelRun0_A.sl.r_56, v838_eq, r_48_eq, r_49_eq, load_eq]
  rfl

theorem r_53_eq : kernelRun0_A.sl.r_53 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 9 (by decide) (by decide) 0 (by decide) := by
  unfold kernelRun0_A.sl.r_53
  try simp only [v206_eq, v773_eq, load_eq]
  rfl

theorem r_52_eq : kernelRun0_A.sl.r_52 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 9 (by decide) (by decide) 0 (by decide) := by
  unfold kernelRun0_A.sl.r_52
  try simp only [v206_eq, v767_eq, load_eq]
  rfl

theorem v977_eq : kernelRun0_A.sl.v977 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 0 (by decide) 10 (by decide) := by
  unfold kernelRun0_A.sl.v977
  refine (View.readCov_cons_toLoadRect _ _ _ _).trans ?_
  try simp only [kernelRun0_A.sl.r_63, kernelRun0_A.sl.r_64, kernelRun0_A.sl.r_65, r_53_eq, v918_eq, r_52_eq, load_eq]
  rfl

theorem v985_eq : kernelRun0_A.sl.v985 c arg1 harg1 arg2 harg2 arg3 harg3 arg4 harg4 arg5 harg5 arg6 harg6 arg7 harg7 arg14 x0 x1 x2 x3 x4 x5 x6 = normed x0 x1 x2 x3 x4 x5 x6 1 (by decide) := by
  unfold kernelRun0_A.sl.v985
  refine (View.readCov_cons_toLoadRect _ _ _ _).trans ?_
  try simp only [kernelRun0_A.sl.r, kernelRun0_A.sl.r_11, kernelRun0_A.sl.r_12, kernelRun0_A.sl.cst_92, load_eq]
  rfl

theorem v986_eq : kernelRun0_A.sl.v986 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 0 0 (by decide) (by decide) 0 (by decide)) := by
  unfold kernelRun0_A.sl.v986
  iterate 21 refine (View.readCov_skip _ _ _ _ _ rfl).trans ?_
  refine (View.readCov_cons_toLoadRect _ _ _ _).trans ?_
  try simp only [r_6_eq, load_eq]
  rfl

theorem v992_eq : kernelRun0_A.sl.v992 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 1 0 (by decide) (by decide) 0 (by decide)) := by
  unfold kernelRun0_A.sl.v992
  iterate 20 refine (View.readCov_skip _ _ _ _ _ rfl).trans ?_
  refine (View.readCov_cons_toLoadRect _ _ _ _).trans ?_
  try simp only [v60_eq, v67_eq, load_eq]
  rfl

theorem v1007_eq : kernelRun0_A.sl.v1007 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 0 1 (by decide) (by decide) 0 (by decide)) := by
  unfold kernelRun0_A.sl.v1007
  iterate 21 refine (View.readCov_skip _ _ _ _ _ rfl).trans ?_
  refine (View.readCov_cons_toLoadRect _ _ _ _).trans ?_
  try simp only [kernelRun0_A.sl.r_10, v60_eq, v82_eq, load_eq]
  rfl

theorem v1013_eq : kernelRun0_A.sl.v1013 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 1 1 (by decide) (by decide) 0 (by decide)) := by
  unfold kernelRun0_A.sl.v1013
  iterate 20 refine (View.readCov_skip _ _ _ _ _ rfl).trans ?_
  refine (View.readCov_cons_toLoadRect _ _ _ _).trans ?_
  try simp only [r_9_eq, load_eq]
  rfl

theorem v1078_eq : kernelRun0_A.sl.v1078 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = zeroRows (F := F) := by
  unfold kernelRun0_A.sl.v1078
  iterate 11 refine (View.readCov_skip _ _ _ _ _ rfl).trans ?_
  refine (View.readCov_cons_toLoadRect _ _ _ _).trans ?_
  try simp only [load_eq]
  rfl

theorem v1087_eq : kernelRun0_A.sl.v1087 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 0 2 (by decide) (by decide) 0 (by decide)) := by
  unfold kernelRun0_A.sl.v1087
  iterate 21 refine (View.readCov_skip _ _ _ _ _ rfl).trans ?_
  refine (View.readCov_cons_toLoadRect _ _ _ _).trans ?_
  try simp only [v206_eq, v207_eq, load_eq]
  rfl

theorem v1093_eq : kernelRun0_A.sl.v1093 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 1 2 (by decide) (by decide) 0 (by decide)) := by
  unfold kernelRun0_A.sl.v1093
  iterate 20 refine (View.readCov_skip _ _ _ _ _ rfl).trans ?_
  refine (View.readCov_cons_toLoadRect _ _ _ _).trans ?_
  try simp only [v206_eq, v213_eq, load_eq]
  rfl

theorem r_69_eq : kernelRun0_A.sl.r_69 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 0 (by decide) (by decide) 1 (by decide) := by
  unfold kernelRun0_A.sl.r_69
  try simp only [v985_eq, v986_eq, load_eq]
  rfl

theorem r_70_eq : kernelRun0_A.sl.r_70 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 0 (by decide) (by decide) 1 (by decide) := by
  unfold kernelRun0_A.sl.r_70
  try simp only [v985_eq, v992_eq, load_eq]
  rfl

theorem v1158_eq : kernelRun0_A.sl.v1158 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 1 (by decide) 1 (by decide) := by
  unfold kernelRun0_A.sl.v1158
  refine (View.readCov_cons_toLoadRect _ _ _ _).trans ?_
  try simp only [kernelRun0_A.sl.r_75, kernelRun0_A.sl.r_73, kernelRun0_A.sl.r_74, v1078_eq, r_69_eq, r_70_eq, load_eq]
  rfl

theorem v1167_eq : kernelRun0_A.sl.v1167 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 0 3 (by decide) (by decide) 0 (by decide)) := by
  unfold kernelRun0_A.sl.v1167
  iterate 21 refine (View.readCov_skip _ _ _ _ _ rfl).trans ?_
  refine (View.readCov_cons_toLoadRect _ _ _ _).trans ?_
  try simp only [v206_eq, v287_eq, load_eq]
  rfl

theorem v1173_eq : kernelRun0_A.sl.v1173 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 1 3 (by decide) (by decide) 0 (by decide)) := by
  unfold kernelRun0_A.sl.v1173
  iterate 20 refine (View.readCov_skip _ _ _ _ _ rfl).trans ?_
  refine (View.readCov_cons_toLoadRect _ _ _ _).trans ?_
  try simp only [kernelRun0_A.sl.r_23, v206_eq, v293_eq, load_eq]
  rfl

theorem r_72_eq : kernelRun0_A.sl.r_72 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 1 (by decide) (by decide) 1 (by decide) := by
  unfold kernelRun0_A.sl.r_72
  try simp only [v985_eq, v1013_eq, load_eq]
  rfl

theorem r_71_eq : kernelRun0_A.sl.r_71 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 1 (by decide) (by decide) 1 (by decide) := by
  unfold kernelRun0_A.sl.r_71
  try simp only [v985_eq, v1007_eq, load_eq]
  rfl

theorem v1238_eq : kernelRun0_A.sl.v1238 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 1 (by decide) 2 (by decide) := by
  unfold kernelRun0_A.sl.v1238
  refine (View.readCov_cons_toLoadRect _ _ _ _).trans ?_
  try simp only [kernelRun0_A.sl.r_79, kernelRun0_A.sl.r_80, r_72_eq, v1158_eq, r_71_eq, load_eq]
  rfl

theorem v1247_eq : kernelRun0_A.sl.v1247 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 0 4 (by decide) (by decide) 0 (by decide)) := by
  unfold kernelRun0_A.sl.v1247
  iterate 21 refine (View.readCov_skip _ _ _ _ _ rfl).trans ?_
  refine (View.readCov_cons_toLoadRect _ _ _ _).trans ?_
  try simp only [r_26_eq, load_eq]
  rfl

theorem v1253_eq : kernelRun0_A.sl.v1253 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 1 4 (by decide) (by decide) 0 (by decide)) := by
  unfold kernelRun0_A.sl.v1253
  iterate 20 refine (View.readCov_skip _ _ _ _ _ rfl).trans ?_
  refine (View.readCov_cons_toLoadRect _ _ _ _).trans ?_
  try simp only [kernelRun0_A.sl.r_27, kernelRun0_A.sl.r_28, v373_eq, v206_eq, load_eq]
  rfl

theorem r_61_eq : kernelRun0_A.sl.r_61 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 10 (by decide) (by decide) 0 (by decide) := by
  unfold kernelRun0_A.sl.r_61
  try simp only [v206_eq, v853_eq, load_eq]
  rfl

theorem r_60_eq : kernelRun0_A.sl.r_60 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 10 (by decide) (by decide) 0 (by decide) := by
  unfold kernelRun0_A.sl.r_60
  try simp only [v206_eq, v847_eq, load_eq]
  rfl

theorem v1267_eq : kernelRun0_A.sl.v1267 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 0 (by decide) 11 (by decide) := by
  unfold kernelRun0_A.sl.v1267
  iterate 3 refine (View.readCov_skip _ _ _ _ _ rfl).trans ?_
  refine (View.readCov_cons_toLoadRect _ _ _ _).trans ?_
  try simp only [kernelRun0_A.sl.r_67, kernelRun0_A.sl.r_68, kernelRun0_A.sl.r_66, v977_eq, r_61_eq, r_60_eq, load_eq]
  rfl

theorem r_77_eq : kernelRun0_A.sl.r_77 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 2 (by decide) (by decide) 1 (by decide) := by
  unfold kernelRun0_A.sl.r_77
  try simp only [v985_eq, v1093_eq, load_eq]
  rfl

theorem r_76_eq : kernelRun0_A.sl.r_76 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 2 (by decide) (by decide) 1 (by decide) := by
  unfold kernelRun0_A.sl.r_76
  try simp only [v985_eq, v1087_eq, load_eq]
  rfl

theorem v1335_eq : kernelRun0_A.sl.v1335 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 1 (by decide) 3 (by decide) := by
  unfold kernelRun0_A.sl.v1335
  refine (View.readCov_cons_toLoadRect _ _ _ _).trans ?_
  try simp only [kernelRun0_A.sl.r_85, kernelRun0_A.sl.r_86, r_77_eq, v1238_eq, r_76_eq, load_eq]
  rfl

theorem v1344_eq : kernelRun0_A.sl.v1344 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 0 5 (by decide) (by decide) 0 (by decide)) := by
  unfold kernelRun0_A.sl.v1344
  iterate 21 refine (View.readCov_skip _ _ _ _ _ rfl).trans ?_
  refine (View.readCov_cons_toLoadRect _ _ _ _).trans ?_
  try simp only [kernelRun0_A.sl.r_32, v206_eq, v447_eq, load_eq]
  rfl

theorem v1350_eq : kernelRun0_A.sl.v1350 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 1 5 (by decide) (by decide) 0 (by decide)) := by
  unfold kernelRun0_A.sl.v1350
  iterate 20 refine (View.readCov_skip _ _ _ _ _ rfl).trans ?_
  refine (View.readCov_cons_toLoadRect _ _ _ _).trans ?_
  try simp only [v206_eq, v453_eq, load_eq]
  rfl

theorem r_84_eq : kernelRun0_A.sl.r_84 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 3 (by decide) (by decide) 1 (by decide) := by
  unfold kernelRun0_A.sl.r_84
  try simp only [kernelRun0_A.sl.r_82, kernelRun0_A.sl.r_83, v1173_eq, v985_eq, load_eq]
  rfl

theorem r_81_eq : kernelRun0_A.sl.r_81 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 3 (by decide) (by decide) 1 (by decide) := by
  unfold kernelRun0_A.sl.r_81
  try simp only [v985_eq, v1167_eq, load_eq]
  rfl

theorem v1415_eq : kernelRun0_A.sl.v1415 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 1 (by decide) 4 (by decide) := by
  unfold kernelRun0_A.sl.v1415
  refine (View.readCov_cons_toLoadRect _ _ _ _).trans ?_
  try simp only [kernelRun0_A.sl.r_91, kernelRun0_A.sl.r_92, kernelRun0_A.sl.r_93, kernelRun0_A.sl.r_94, r_84_eq, v1335_eq, r_81_eq, load_eq]
  rfl

theorem v1424_eq : kernelRun0_A.sl.v1424 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 0 6 (by decide) (by decide) 0 (by decide)) := by
  unfold kernelRun0_A.sl.v1424
  iterate 21 refine (View.readCov_skip _ _ _ _ _ rfl).trans ?_
  refine (View.readCov_cons_toLoadRect _ _ _ _).trans ?_
  try simp only [v206_eq, v527_eq, load_eq]
  rfl

theorem v1430_eq : kernelRun0_A.sl.v1430 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 1 6 (by decide) (by decide) 0 (by decide)) := by
  unfold kernelRun0_A.sl.v1430
  iterate 20 refine (View.readCov_skip _ _ _ _ _ rfl).trans ?_
  refine (View.readCov_cons_toLoadRect _ _ _ _).trans ?_
  try simp only [v206_eq, v533_eq, load_eq]
  rfl

theorem r_89_eq : kernelRun0_A.sl.r_89 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 4 (by decide) (by decide) 1 (by decide) := by
  unfold kernelRun0_A.sl.r_89
  try simp only [v985_eq, v1253_eq, load_eq]
  rfl

theorem r_88_eq : kernelRun0_A.sl.r_88 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 4 (by decide) (by decide) 1 (by decide) := by
  unfold kernelRun0_A.sl.r_88
  try simp only [kernelRun0_A.sl.r_87, v985_eq, v1247_eq, load_eq]
  rfl

theorem v1495_eq : kernelRun0_A.sl.v1495 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 1 (by decide) 5 (by decide) := by
  unfold kernelRun0_A.sl.v1495
  refine (View.readCov_cons_toLoadRect _ _ _ _).trans ?_
  try simp only [kernelRun0_A.sl.r_99, kernelRun0_A.sl.r_100, kernelRun0_A.sl.cst_917, r_89_eq, v1415_eq, r_88_eq, load_eq]
  rfl

theorem v1504_eq : kernelRun0_A.sl.v1504 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 0 7 (by decide) (by decide) 0 (by decide)) := by
  unfold kernelRun0_A.sl.v1504
  iterate 21 refine (View.readCov_skip _ _ _ _ _ rfl).trans ?_
  refine (View.readCov_cons_toLoadRect _ _ _ _).trans ?_
  try simp only [kernelRun0_A.sl.r_46, v206_eq, v607_eq, load_eq]
  rfl

theorem v1510_eq : kernelRun0_A.sl.v1510 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 1 7 (by decide) (by decide) 0 (by decide)) := by
  unfold kernelRun0_A.sl.v1510
  iterate 20 refine (View.readCov_skip _ _ _ _ _ rfl).trans ?_
  refine (View.readCov_cons_toLoadRect _ _ _ _).trans ?_
  try simp only [r_45_eq, load_eq]
  rfl

theorem r_98_eq : kernelRun0_A.sl.r_98 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 5 (by decide) (by decide) 1 (by decide) := by
  unfold kernelRun0_A.sl.r_98
  try simp only [kernelRun0_A.sl.r_96, kernelRun0_A.sl.r_97, v985_eq, v1350_eq, load_eq]
  rfl

theorem r_95_eq : kernelRun0_A.sl.r_95 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 5 (by decide) (by decide) 1 (by decide) := by
  unfold kernelRun0_A.sl.r_95
  try simp only [v985_eq, v1344_eq, load_eq]
  rfl

theorem v1575_eq : kernelRun0_A.sl.v1575 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 1 (by decide) 6 (by decide) := by
  unfold kernelRun0_A.sl.v1575
  refine (View.readCov_cons_toLoadRect _ _ _ _).trans ?_
  try simp only [kernelRun0_A.sl.r_105, kernelRun0_A.sl.r_103, kernelRun0_A.sl.r_104, v1495_eq, r_98_eq, r_95_eq, load_eq]
  rfl

theorem v1584_eq : kernelRun0_A.sl.v1584 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 0 8 (by decide) (by decide) 0 (by decide)) := by
  unfold kernelRun0_A.sl.v1584
  iterate 21 refine (View.readCov_skip _ _ _ _ _ rfl).trans ?_
  refine (View.readCov_cons_toLoadRect _ _ _ _).trans ?_
  try simp only [r_48_eq, load_eq]
  rfl

theorem v1590_eq : kernelRun0_A.sl.v1590 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 1 8 (by decide) (by decide) 0 (by decide)) := by
  unfold kernelRun0_A.sl.v1590
  iterate 20 refine (View.readCov_skip _ _ _ _ _ rfl).trans ?_
  refine (View.readCov_cons_toLoadRect _ _ _ _).trans ?_
  try simp only [v206_eq, v693_eq, load_eq]
  rfl

theorem r_102_eq : kernelRun0_A.sl.r_102 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 6 (by decide) (by decide) 1 (by decide) := by
  unfold kernelRun0_A.sl.r_102
  try simp only [v985_eq, v1430_eq, load_eq]
  rfl

theorem r_101_eq : kernelRun0_A.sl.r_101 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 6 (by decide) (by decide) 1 (by decide) := by
  unfold kernelRun0_A.sl.r_101
  try simp only [v985_eq, v1424_eq, load_eq]
  rfl

theorem v1655_eq : kernelRun0_A.sl.v1655 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 1 (by decide) 7 (by decide) := by
  unfold kernelRun0_A.sl.v1655
  refine (View.readCov_cons_toLoadRect _ _ _ _).trans ?_
  try simp only [kernelRun0_A.sl.r_108, kernelRun0_A.sl.r_109, kernelRun0_A.sl.r_110, r_102_eq, v1575_eq, r_101_eq, load_eq]
  rfl

theorem v1664_eq : kernelRun0_A.sl.v1664 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 0 9 (by decide) (by decide) 0 (by decide)) := by
  unfold kernelRun0_A.sl.v1664
  iterate 21 refine (View.readCov_skip _ _ _ _ _ rfl).trans ?_
  refine (View.readCov_cons_toLoadRect _ _ _ _).trans ?_
  try simp only [v206_eq, v767_eq, load_eq]
  rfl

theorem v1670_eq : kernelRun0_A.sl.v1670 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 1 9 (by decide) (by decide) 0 (by decide)) := by
  unfold kernelRun0_A.sl.v1670
  iterate 20 refine (View.readCov_skip _ _ _ _ _ rfl).trans ?_
  refine (View.readCov_cons_toLoadRect _ _ _ _).trans ?_
  try simp only [v206_eq, v773_eq, load_eq]
  rfl

theorem r_107_eq : kernelRun0_A.sl.r_107 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 7 (by decide) (by decide) 1 (by decide) := by
  unfold kernelRun0_A.sl.r_107
  try simp only [v985_eq, v1510_eq, load_eq]
  rfl

theorem r_106_eq : kernelRun0_A.sl.r_106 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 7 (by decide) (by decide) 1 (by decide) := by
  unfold kernelRun0_A.sl.r_106
  try simp only [v985_eq, v1504_eq, load_eq]
  rfl

theorem v1735_eq : kernelRun0_A.sl.v1735 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 1 (by decide) 8 (by decide) := by
  unfold kernelRun0_A.sl.v1735
  refine (View.readCov_cons_toLoadRect _ _ _ _).trans ?_
  try simp only [kernelRun0_A.sl.r_114, kernelRun0_A.sl.r_115, r_107_eq, v1655_eq, r_106_eq, load_eq]
  rfl

theorem v1744_eq : kernelRun0_A.sl.v1744 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 0 10 (by decide) (by decide) 0 (by decide)) := by
  unfold kernelRun0_A.sl.v1744
  iterate 21 refine (View.readCov_skip _ _ _ _ _ rfl).trans ?_
  refine (View.readCov_cons_toLoadRect _ _ _ _).trans ?_
  try simp only [v206_eq, v847_eq, load_eq]
  rfl

theorem v1750_eq : kernelRun0_A.sl.v1750 c arg1 harg1 arg2 harg2 arg3 harg3 arg4 harg4 arg5 harg5 arg6 harg6 arg7 harg7 arg8 harg8 arg14 arg16 x0 x1 x2 x3 x4 x5 x6 x7 = lastRows (hidden x0 x1 x2 x3 x4 x5 x6 x7 zeroTails 1 10 (by decide) (by decide) 0 (by decide)) := by
  unfold kernelRun0_A.sl.v1750
  iterate 20 refine (View.readCov_skip _ _ _ _ _ rfl).trans ?_
  refine (View.readCov_cons_toLoadRect _ _ _ _).trans ?_
  try simp only [kernelRun0_A.sl.r_62, v206_eq, v853_eq, load_eq]
  rfl

theorem r_112_eq : kernelRun0_A.sl.r_112 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 8 (by decide) (by decide) 1 (by decide) := by
  unfold kernelRun0_A.sl.r_112
  try simp only [v985_eq, v1590_eq, load_eq]
  rfl

theorem r_111_eq : kernelRun0_A.sl.r_111 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 8 (by decide) (by decide) 1 (by decide) := by
  unfold kernelRun0_A.sl.r_111
  try simp only [v985_eq, v1584_eq, load_eq]
  rfl

theorem v1815_eq : kernelRun0_A.sl.v1815 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 1 (by decide) 9 (by decide) := by
  unfold kernelRun0_A.sl.v1815
  refine (View.readCov_cons_toLoadRect _ _ _ _).trans ?_
  try simp only [kernelRun0_A.sl.r_122, kernelRun0_A.sl.r_120, kernelRun0_A.sl.r_121, r_112_eq, v1735_eq, r_111_eq, load_eq]
  rfl

theorem r_118_eq : kernelRun0_A.sl.r_118 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 9 (by decide) (by decide) 1 (by decide) := by
  unfold kernelRun0_A.sl.r_118
  try simp only [kernelRun0_A.sl.r_116, kernelRun0_A.sl.r_117, v985_eq, v1664_eq, load_eq]
  rfl

theorem r_119_eq : kernelRun0_A.sl.r_119 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 9 (by decide) (by decide) 1 (by decide) := by
  unfold kernelRun0_A.sl.r_119
  try simp only [v985_eq, v1670_eq, load_eq]
  rfl

theorem v1874_eq : kernelRun0_A.sl.v1874 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 1 (by decide) 10 (by decide) := by
  unfold kernelRun0_A.sl.v1874
  refine (View.readCov_cons_toLoadRect _ _ _ _).trans ?_
  try simp only [kernelRun0_A.sl.r_127, kernelRun0_A.sl.r_128, kernelRun0_A.sl.r_125, kernelRun0_A.sl.r_126, v1815_eq, r_118_eq, r_119_eq, load_eq]
  rfl

theorem r_124_eq : kernelRun0_A.sl.r_124 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 1 10 (by decide) (by decide) 1 (by decide) := by
  unfold kernelRun0_A.sl.r_124
  try simp only [v985_eq, v1750_eq, load_eq]
  rfl

theorem r_123_eq : kernelRun0_A.sl.r_123 c arg1 harg1 arg2 harg2 arg3 harg3 arg4 harg4 arg5 harg5 arg6 harg6 arg7 harg7 arg8 harg8 arg14 arg16 x0 x1 x2 x3 x4 x5 x6 x7 = hidden x0 x1 x2 x3 x4 x5 x6 x7 zeroTails 0 10 (by decide) (by decide) 1 (by decide) := by
  unfold kernelRun0_A.sl.r_123
  try simp only [v985_eq, v1744_eq, load_eq]
  rfl

theorem v1882_eq : kernelRun0_A.sl.v1882 c arg1 harg1 arg2 harg2 arg3 harg3 arg4 harg4 arg5 harg5 arg6 harg6 arg7 harg7 arg8 harg8 arg9 harg9 arg10 harg10 arg11 harg11 arg14 arg15 arg16 x0 x1 x2 x3 x4 x5 x6 x7 x8 x9 x10 = accum x0 x1 x2 x3 x4 x5 x6 x7 x8 x9 x10 zeroTails 1 (by decide) 11 (by decide) := by
  unfold kernelRun0_A.sl.v1882
  refine (View.readCov_cons_toLoadRect _ _ _ _).trans ?_
  try simp only [kernelRun0_A.sl.r_129, kernelRun0_A.sl.r_130, r_124_eq, v1874_eq, r_123_eq, load_eq]
  rfl

end Cert.FfnIdeal.RunA

end
-- ==== Proof.FfnOutA.lean ====
/- What the run of the mixer-and-feed-forward body in case A leaves in the result's block and in the carried rows. -/
module

public import proofs.«01_k».proof.Proof.FfnRunA

@[expose] public section

set_option maxRecDepth 4000

noncomputable section

namespace Cert.FfnIdeal.RunA

open Idealize.ShloMosaic Idealize.ShloMosaic.TcCoe
open Cert.FfnIdeal Cert.FfnIdeal.Gen Cert.FfnIdeal.Tile

variable {F : FTy → Type} [FloatOps F]
variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S11x2x16x256 .f32) (harg16 : arg16.IsWhole) (hc0 : cond0_0 i)
    (x0 : Vec F S512x1024 .f32) (x1 : Vec F S512x512 .bf16) (x2 : Vec F S512x512 .bf16) (x3 : Vec F S512x1024 .bf16) (x4 : Vec F S512x1024 .bf16) (x5 : Vec F S1x1024 .f32) (x6 : Vec F S1x1024 .f32) (x7 : Vec F S1024x5632 .bf16) (x8 : Vec F S3x5632 .f32) (x9 : Vec F S1x5632 .f32) (x10 : Vec F S2816x1024 .bf16) (x11 : Vec F S1x1024 .f32)

/-- The second group's result rows, as the run stores them. -/
theorem out_1 (v : View sig .tc .vmem S512x1024 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).1 (Rect.unit ![256, 0] S256x1024.size inb_S512x1024_S256x1024_256_0 : Rect S512x1024).toLoadRect = result x0 x1 x2 x3 x4 x5 x6 x7 x8 x9 x10 x11 (zeroTails (F := F)) 1 (by decide) := by
  unfold kernelRun0_A
  dsimp only
  refine (View.readCov_cons_toLoadRect _ _ _ _).trans ?_
  try simp only [kernelRun0_A.sl.r_11, kernelRun0_A.sl.r_132, kernelRun0_A.sl.r_133, kernelRun0_A.sl.r_131, v1882_eq, load_eq]
  rfl

/-- The first group's. -/
theorem out_0 (v : View sig .tc .vmem S512x1024 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).1 (Rect.unit ![0, 0] S256x1024.size inb_S512x1024_S256x1024_0_0 : Rect S512x1024).toLoadRect = result x0 x1 x2 x3 x4 x5 x6 x7 x8 x9 x10 x11 (zeroTails (F := F)) 0 (by decide) := by
  unfold kernelRun0_A
  dsimp only
  iterate 1 refine (View.readCov_skip _ _ _ _ _ rfl).trans ?_
  refine (View.readCov_cons_toLoadRect _ _ _ _).trans ?_
  try simp only [kernelRun0_A.sl.r_90, kernelRun0_A.sl.r_5, kernelRun0_A.sl.r_1, kernelRun0_A.sl.r_2, kernelRun0_A.sl.r_3, kernelRun0_A.sl.r_4, v1267_eq, load_eq]
  rfl

theorem tail_0_0 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![0, 0, 0, 0] S1x1x16x256.size inb_S11x2x16x256_S1x1x16x256_0_0_0_0 : Rect S11x2x16x256).toLoadRect
    = lastRows (hidden x0 x1 x2 x3 x4 x5 x6 x7 (zeroTails (F := F)) 0 0 (by decide) (by decide) 1 (by decide)) := by
  unfold kernelRun0_A
  dsimp only
  iterate 21 refine (View.readCov_skip _ _ _ _ _ rfl).trans ?_
  refine (View.readCov_cons_toLoadRect _ _ _ _).trans ?_
  try simp only [v985_eq, v986_eq, load_eq]
  rfl

theorem tail_0_1 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![0, 1, 0, 0] S1x1x16x256.size inb_S11x2x16x256_S1x1x16x256_0_1_0_0 : Rect S11x2x16x256).toLoadRect
    = lastRows (hidden x0 x1 x2 x3 x4 x5 x6 x7 (zeroTails (F := F)) 1 0 (by decide) (by decide) 1 (by decide)) := by
  unfold kernelRun0_A
  dsimp only
  iterate 20 refine (View.readCov_skip _ _ _ _ _ rfl).trans ?_
  refine (View.readCov_cons_toLoadRect _ _ _ _).trans ?_
  try simp only [v985_eq, v992_eq, load_eq]
  rfl

theorem tail_1_0 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![1, 0, 0, 0] S1x1x16x256.size inb_S11x2x16x256_S1x1x16x256_1_0_0_0 : Rect S11x2x16x256).toLoadRect
    = lastRows (hidden x0 x1 x2 x3 x4 x5 x6 x7 (zeroTails (F := F)) 0 1 (by decide) (by decide) 1 (by decide)) := by
  unfold kernelRun0_A
  dsimp only
  iterate 19 refine (View.readCov_skip _ _ _ _ _ rfl).trans ?_
  refine (View.readCov_cons_toLoadRect _ _ _ _).trans ?_
  try simp only [v985_eq, v1007_eq, load_eq]
  rfl

theorem tail_1_1 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![1, 1, 0, 0] S1x1x16x256.size inb_S11x2x16x256_S1x1x16x256_1_1_0_0 : Rect S11x2x16x256).toLoadRect
    = lastRows (hidden x0 x1 x2 x3 x4 x5 x6 x7 (zeroTails (F := F)) 1 1 (by decide) (by decide) 1 (by decide)) := by
  unfold kernelRun0_A
  dsimp only
  iterate 18 refine (View.readCov_skip _ _ _ _ _ rfl).trans ?_
  refine (View.readCov_cons_toLoadRect _ _ _ _).trans ?_
  try simp only [v985_eq, v1013_eq, load_eq]
  rfl

theorem tail_2_0 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![2, 0, 0, 0] S1x1x16x256.size inb_S11x2x16x256_S1x1x16x256_2_0_0_0 : Rect S11x2x16x256).toLoadRect
    = lastRows (hidden x0 x1 x2 x3 x4 x5 x6 x7 (zeroTails (F := F)) 0 2 (by decide) (by decide) 1 (by decide)) := by
  unfold kernelRun0_A
  dsimp only
  iterate 17 refine (View.readCov_skip _ _ _ _ _ rfl).trans ?_
  refine (View.readCov_cons_toLoadRect _ _ _ _).trans ?_
  try simp only [v985_eq, v1087_eq, load_eq]
  rfl

theorem tail_2_1 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![2, 1, 0, 0] S1x1x16x256.size inb_S11x2x16x256_S1x1x16x256_2_1_0_0 : Rect S11x2x16x256).toLoadRect
    = lastRows (hidden x0 x1 x2 x3 x4 x5 x6 x7 (zeroTails (F := F)) 1 2 (by decide) (by decide) 1 (by decide)) := by
  unfold kernelRun0_A
  dsimp only
  iterate 16 refine (View.readCov_skip _ _ _ _ _ rfl).trans ?_
  refine (View.readCov_cons_toLoadRect _ _ _ _).trans ?_
  try simp only [kernelRun0_A.sl.r_78, v985_eq, v1093_eq, load_eq]
  rfl

theorem tail_3_0 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![3, 0, 0, 0] S1x1x16x256.size inb_S11x2x16x256_S1x1x16x256_3_0_0_0 : Rect S11x2x16x256).toLoadRect
    = lastRows (hidden x0 x1 x2 x3 x4 x5 x6 x7 (zeroTails (F := F)) 0 3 (by decide) (by decide) 1 (by decide)) := by
  unfold kernelRun0_A
  dsimp only
  iterate 15 refine (View.readCov_skip _ _ _ _ _ rfl).trans ?_
  refine (View.readCov_cons_toLoadRect _ _ _ _).trans ?_
  try simp only [r_81_eq, load_eq]
  rfl

theorem tail_3_1 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![3, 1, 0, 0] S1x1x16x256.size inb_S11x2x16x256_S1x1x16x256_3_1_0_0 : Rect S11x2x16x256).toLoadRect
    = lastRows (hidden x0 x1 x2 x3 x4 x5 x6 x7 (zeroTails (F := F)) 1 3 (by decide) (by decide) 1 (by decide)) := by
  unfold kernelRun0_A
  dsimp only
  iterate 14 refine (View.readCov_skip _ _ _ _ _ rfl).trans ?_
  refine (View.readCov_cons_toLoadRect _ _ _ _).trans ?_
  try simp only [kernelRun0_A.sl.r_82, kernelRun0_A.sl.r_83, v1173_eq, v985_eq, load_eq]
  rfl

theorem tail_4_0 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![4, 0, 0, 0] S1x1x16x256.size inb_S11x2x16x256_S1x1x16x256_4_0_0_0 : Rect S11x2x16x256).toLoadRect
    = lastRows (hidden x0 x1 x2 x3 x4 x5 x6 x7 (zeroTails (F := F)) 0 4 (by decide) (by decide) 1 (by decide)) := by
  unfold kernelRun0_A
  dsimp only
  iterate 13 refine (View.readCov_skip _ _ _ _ _ rfl).trans ?_
  refine (View.readCov_cons_toLoadRect _ _ _ _).trans ?_
  try simp only [kernelRun0_A.sl.r_87, v985_eq, v1247_eq, load_eq]
  rfl

theorem tail_4_1 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![4, 1, 0, 0] S1x1x16x256.size inb_S11x2x16x256_S1x1x16x256_4_1_0_0 : Rect S11x2x16x256).toLoadRect
    = lastRows (hidden x0 x1 x2 x3 x4 x5 x6 x7 (zeroTails (F := F)) 1 4 (by decide) (by decide) 1 (by decide)) := by
  unfold kernelRun0_A
  dsimp only
  iterate 12 refine (View.readCov_skip _ _ _ _ _ rfl).trans ?_
  refine (View.readCov_cons_toLoadRect _ _ _ _).trans ?_
  try simp only [v985_eq, v1253_eq, load_eq]
  rfl

theorem tail_5_0 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![5, 0, 0, 0] S1x1x16x256.size inb_S11x2x16x256_S1x1x16x256_5_0_0_0 : Rect S11x2x16x256).toLoadRect
    = lastRows (hidden x0 x1 x2 x3 x4 x5 x6 x7 (zeroTails (F := F)) 0 5 (by decide) (by decide) 1 (by decide)) := by
  unfold kernelRun0_A
  dsimp only
  iterate 11 refine (View.readCov_skip _ _ _ _ _ rfl).trans ?_
  refine (View.readCov_cons_toLoadRect _ _ _ _).trans ?_
  try simp only [r_95_eq, load_eq]
  rfl

theorem tail_5_1 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![5, 1, 0, 0] S1x1x16x256.size inb_S11x2x16x256_S1x1x16x256_5_1_0_0 : Rect S11x2x16x256).toLoadRect
    = lastRows (hidden x0 x1 x2 x3 x4 x5 x6 x7 (zeroTails (F := F)) 1 5 (by decide) (by decide) 1 (by decide)) := by
  unfold kernelRun0_A
  dsimp only
  iterate 10 refine (View.readCov_skip _ _ _ _ _ rfl).trans ?_
  refine (View.readCov_cons_toLoadRect _ _ _ _).trans ?_
  try simp only [kernelRun0_A.sl.r_96, kernelRun0_A.sl.r_97, v985_eq, v1350_eq, load_eq]
  rfl

theorem tail_6_0 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![6, 0, 0, 0] S1x1x16x256.size inb_S11x2x16x256_S1x1x16x256_6_0_0_0 : Rect S11x2x16x256).toLoadRect
    = lastRows (hidden x0 x1 x2 x3 x4 x5 x6 x7 (zeroTails (F := F)) 0 6 (by decide) (by decide) 1 (by decide)) := by
  unfold kernelRun0_A
  dsimp only
  iterate 9 refine (View.readCov_skip _ _ _ _ _ rfl).trans ?_
  refine (View.readCov_cons_toLoadRect _ _ _ _).trans ?_
  try simp only [v985_eq, v1424_eq, load_eq]
  rfl

theorem tail_6_1 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![6, 1, 0, 0] S1x1x16x256.size inb_S11x2x16x256_S1x1x16x256_6_1_0_0 : Rect S11x2x16x256).toLoadRect
    = lastRows (hidden x0 x1 x2 x3 x4 x5 x6 x7 (zeroTails (F := F)) 1 6 (by decide) (by decide) 1 (by decide)) := by
  unfold kernelRun0_A
  dsimp only
  iterate 8 refine (View.readCov_skip _ _ _ _ _ rfl).trans ?_
  refine (View.readCov_cons_toLoadRect _ _ _ _).trans ?_
  try simp only [v985_eq, v1430_eq, load_eq]
  rfl

theorem tail_7_0 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![7, 0, 0, 0] S1x1x16x256.size inb_S11x2x16x256_S1x1x16x256_7_0_0_0 : Rect S11x2x16x256).toLoadRect
    = lastRows (hidden x0 x1 x2 x3 x4 x5 x6 x7 (zeroTails (F := F)) 0 7 (by decide) (by decide) 1 (by decide)) := by
  unfold kernelRun0_A
  dsimp only
  iterate 7 refine (View.readCov_skip _ _ _ _ _ rfl).trans ?_
  refine (View.readCov_cons_toLoadRect _ _ _ _).trans ?_
  try simp only [v985_eq, v1504_eq, load_eq]
  rfl

theorem tail_7_1 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![7, 1, 0, 0] S1x1x16x256.size inb_S11x2x16x256_S1x1x16x256_7_1_0_0 : Rect S11x2x16x256).toLoadRect
    = lastRows (hidden x0 x1 x2 x3 x4 x5 x6 x7 (zeroTails (F := F)) 1 7 (by decide) (by decide) 1 (by decide)) := by
  unfold kernelRun0_A
  dsimp only
  iterate 6 refine (View.readCov_skip _ _ _ _ _ rfl).trans ?_
  refine (View.readCov_cons_toLoadRect _ _ _ _).trans ?_
  try simp only [v985_eq, v1510_eq, load_eq]
  rfl

theorem tail_8_0 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![8, 0, 0, 0] S1x1x16x256.size inb_S11x2x16x256_S1x1x16x256_8_0_0_0 : Rect S11x2x16x256).toLoadRect
    = lastRows (hidden x0 x1 x2 x3 x4 x5 x6 x7 (zeroTails (F := F)) 0 8 (by decide) (by decide) 1 (by decide)) := by
  unfold kernelRun0_A
  dsimp only
  iterate 5 refine (View.readCov_skip _ _ _ _ _ rfl).trans ?_
  refine (View.readCov_cons_toLoadRect _ _ _ _).trans ?_
  try simp only [kernelRun0_A.sl.r_113, v985_eq, v1584_eq, load_eq]
  rfl

theorem tail_8_1 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![8, 1, 0, 0] S1x1x16x256.size inb_S11x2x16x256_S1x1x16x256_8_1_0_0 : Rect S11x2x16x256).toLoadRect
    = lastRows (hidden x0 x1 x2 x3 x4 x5 x6 x7 (zeroTails (F := F)) 1 8 (by decide) (by decide) 1 (by decide)) := by
  unfold kernelRun0_A
  dsimp only
  iterate 4 refine (View.readCov_skip _ _ _ _ _ rfl).trans ?_
  refine (View.readCov_cons_toLoadRect _ _ _ _).trans ?_
  try simp only [r_112_eq, load_eq]
  rfl

theorem tail_9_0 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![9, 0, 0, 0] S1x1x16x256.size inb_S11x2x16x256_S1x1x16x256_9_0_0_0 : Rect S11x2x16x256).toLoadRect
    = lastRows (hidden x0 x1 x2 x3 x4 x5 x6 x7 (zeroTails (F := F)) 0 9 (by decide) (by decide) 1 (by decide)) := by
  unfold kernelRun0_A
  dsimp only
  iterate 3 refine (View.readCov_skip _ _ _ _ _ rfl).trans ?_
  refine (View.readCov_cons_toLoadRect _ _ _ _).trans ?_
  try simp only [kernelRun0_A.sl.r_116, kernelRun0_A.sl.r_117, v985_eq, v1664_eq, load_eq]
  rfl

theorem tail_9_1 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![9, 1, 0, 0] S1x1x16x256.size inb_S11x2x16x256_S1x1x16x256_9_1_0_0 : Rect S11x2x16x256).toLoadRect
    = lastRows (hidden x0 x1 x2 x3 x4 x5 x6 x7 (zeroTails (F := F)) 1 9 (by decide) (by decide) 1 (by decide)) := by
  unfold kernelRun0_A
  dsimp only
  iterate 2 refine (View.readCov_skip _ _ _ _ _ rfl).trans ?_
  refine (View.readCov_cons_toLoadRect _ _ _ _).trans ?_
  try simp only [v985_eq, v1670_eq, load_eq]
  rfl

theorem tail_10_0 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![10, 0, 0, 0] S1x1x16x256.size inb_S11x2x16x256_S1x1x16x256_10_0_0_0 : Rect S11x2x16x256).toLoadRect
    = lastRows (hidden x0 x1 x2 x3 x4 x5 x6 x7 (zeroTails (F := F)) 0 10 (by decide) (by decide) 1 (by decide)) := by
  unfold kernelRun0_A
  dsimp only
  iterate 1 refine (View.readCov_skip _ _ _ _ _ rfl).trans ?_
  refine (View.readCov_cons_toLoadRect _ _ _ _).trans ?_
  try simp only [v985_eq, v1744_eq, load_eq]
  rfl

theorem tail_10_1 (v : View sig .tc .vmem S11x2x16x256 .f32) : v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![10, 1, 0, 0] S1x1x16x256.size inb_S11x2x16x256_S1x1x16x256_10_1_0_0 : Rect S11x2x16x256).toLoadRect
    = lastRows (hidden x0 x1 x2 x3 x4 x5 x6 x7 (zeroTails (F := F)) 1 10 (by decide) (by decide) 1 (by decide)) := by
  unfold kernelRun0_A
  dsimp only
  refine (View.readCov_cons_toLoadRect _ _ _ _).trans ?_
  try simp only [v985_eq, v1750_eq, load_eq]
  rfl

end Cert.FfnIdeal.RunA

end
-- ==== Proof.FfnRunB.lean ====
/- What the run of the mixer-and-feed-forward body in case B holds at each load, in the functions of one tile. -/
module

public import proofs.«01_k».proof.Proof.FfnTile

public import Idealize.ShloMosaic.Lib.Pipeline.ReadBack

@[expose] public section

set_option maxRecDepth 4000

noncomputable section

namespace Cert.FfnIdeal.RunB

open Idealize.ShloMosaic Idealize.ShloMosaic.TcCoe
open Cert.FfnIdeal Cert.FfnIdeal.Gen Cert.FfnIdeal.Tile

variable {F : FTy → Type} [FloatOps F]
variable (c : Dev nD) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S11x2x16x256 .f32) (harg16 : arg16.IsWhole)
  (x0 : Vec F S512x1024 .f32) (x1 : Vec F S512x512 .bf16) (x2 : Vec F S512x512 .bf16) (x3 : Vec F S512x1024 .bf16) (x4 : Vec F S512x1024 .bf16) (x5 : Vec F S1x1024 .f32) (x6 : Vec F S1x1024 .f32) (x7 : Vec F S1024x5632 .bf16) (x8 : Vec F S3x5632 .f32) (x9 : Vec F S1x5632 .f32) (x10 : Vec F S2816x1024 .bf16) (x11 : Vec F S1x1024 .f32) (xs2 : Vec F S11x2x16x256 .f32)

theorem v60_eq : kernelRun0_B.sl.v60 c arg1 harg1 arg2 harg2 arg3 harg3 arg4 harg4 arg5 harg5 arg6 harg6 arg7 harg7 arg14 x0 x1 x2 x3 x4 x5 x6 = normed x0 x1 x2 x3 x4 x5 x6 0 (by decide) := by
  unfold kernelRun0_B.sl.v60
  refine (View.readCov_cons_toLoadRect _ _ _ _).trans ?_
  try simp only [kernelRun0_B.sl.r, kernelRun0_B.sl.r_1, kernelRun0_B.sl.r_2, kernelRun0_B.sl.r_3, kernelRun0_B.sl.r_4, load_eq]
  rfl

theorem v198_eq : kernelRun0_B.sl.v198 c arg15 = zeroRows (F := F) := by
  unfold kernelRun0_B.sl.v198
  iterate 1 refine (View.readCov_skip _ _ _ _ _ rfl).trans ?_
  refine (View.readCov_cons_toLoadRect _ _ _ _).trans ?_
  try simp only [load_eq]
  rfl

theorem v206_eq : kernelRun0_B.sl.v206 c arg1 harg1 arg2 harg2 arg3 harg3 arg4 harg4 arg5 harg5 arg6 harg6 arg7 harg7 arg14 x0 x1 x2 x3 x4 x5 x6 = normed x0 x1 x2 x3 x4 x5 x6 0 (by decide) := by
  unfold kernelRun0_B.sl.v206
  iterate 1 refine (View.readCov_skip _ _ _ _ _ rfl).trans ?_
  refine (View.readCov_cons_toLoadRect _ _ _ _).trans ?_
  try simp only [kernelRun0_B.sl.r, kernelRun0_B.sl.r_1, kernelRun0_B.sl.r_2, kernelRun0_B.sl.r_3, kernelRun0_B.sl.r_4, load_eq]
  rfl

theorem r_8_eq : kernelRun0_B.sl.r_8 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 0 (by decide) (by decide) 0 (by decide) := by
  unfold kernelRun0_B.sl.r_8
  try simp only [kernelRun0_B.sl.r_7, v60_eq, load_eq]
  rfl

theorem r_6_eq : kernelRun0_B.sl.r_6 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 0 (by decide) (by decide) 0 (by decide) := by
  unfold kernelRun0_B.sl.r_6
  try simp only [v60_eq, load_eq]
  rfl

theorem v278_eq : kernelRun0_B.sl.v278 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 0 (by decide) 1 (by decide) := by
  unfold kernelRun0_B.sl.v278
  refine (View.readCov_cons_toLoadRect _ _ _ _).trans ?_
  try simp only [kernelRun0_B.sl.r_14, kernelRun0_B.sl.r_15, kernelRun0_B.sl.r_16, r_8_eq, v198_eq, r_6_eq, load_eq]
  rfl

theorem r_9_eq : kernelRun0_B.sl.r_9 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 1 (by decide) (by decide) 0 (by decide) := by
  unfold kernelRun0_B.sl.r_9
  try simp only [kernelRun0_B.sl.v82, v60_eq, load_eq]
  rfl

theorem r_10_eq : kernelRun0_B.sl.r_10 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 1 (by decide) (by decide) 0 (by decide) := by
  unfold kernelRun0_B.sl.r_10
  try simp only [kernelRun0_B.sl.v88, v60_eq, load_eq]
  rfl

theorem v358_eq : kernelRun0_B.sl.v358 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 0 (by decide) 2 (by decide) := by
  unfold kernelRun0_B.sl.v358
  refine (View.readCov_cons_toLoadRect _ _ _ _).trans ?_
  try simp only [kernelRun0_B.sl.r_21, kernelRun0_B.sl.r_19, kernelRun0_B.sl.r_20, v278_eq, r_9_eq, r_10_eq, load_eq]
  rfl

theorem r_18_eq : kernelRun0_B.sl.r_18 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 2 (by decide) (by decide) 0 (by decide) := by
  unfold kernelRun0_B.sl.r_18
  try simp only [kernelRun0_B.sl.v213, v206_eq, load_eq]
  rfl

theorem r_17_eq : kernelRun0_B.sl.r_17 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 2 (by decide) (by decide) 0 (by decide) := by
  unfold kernelRun0_B.sl.r_17
  try simp only [kernelRun0_B.sl.v207, v206_eq, load_eq]
  rfl

theorem v438_eq : kernelRun0_B.sl.v438 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 0 (by decide) 3 (by decide) := by
  unfold kernelRun0_B.sl.v438
  refine (View.readCov_cons_toLoadRect _ _ _ _).trans ?_
  try simp only [kernelRun0_B.sl.r_25, kernelRun0_B.sl.r_26, r_18_eq, v358_eq, r_17_eq, load_eq]
  rfl

theorem r_23_eq : kernelRun0_B.sl.r_23 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 3 (by decide) (by decide) 0 (by decide) := by
  unfold kernelRun0_B.sl.r_23
  try simp only [kernelRun0_B.sl.v293, v206_eq, load_eq]
  rfl

theorem r_22_eq : kernelRun0_B.sl.r_22 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 3 (by decide) (by decide) 0 (by decide) := by
  unfold kernelRun0_B.sl.r_22
  try simp only [kernelRun0_B.sl.v287, v206_eq, load_eq]
  rfl

theorem v518_eq : kernelRun0_B.sl.v518 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 0 (by decide) 4 (by decide) := by
  unfold kernelRun0_B.sl.v518
  refine (View.readCov_cons_toLoadRect _ _ _ _).trans ?_
  try simp only [kernelRun0_B.sl.r_31, kernelRun0_B.sl.r_32, r_23_eq, v438_eq, r_22_eq, load_eq]
  rfl

theorem r_30_eq : kernelRun0_B.sl.r_30 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 4 (by decide) (by decide) 0 (by decide) := by
  unfold kernelRun0_B.sl.r_30
  try simp only [kernelRun0_B.sl.r_28, kernelRun0_B.sl.r_29, kernelRun0_B.sl.v373, v206_eq, load_eq]
  rfl

theorem r_27_eq : kernelRun0_B.sl.r_27 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 4 (by decide) (by decide) 0 (by decide) := by
  unfold kernelRun0_B.sl.r_27
  try simp only [kernelRun0_B.sl.v367, v206_eq, load_eq]
  rfl

theorem v598_eq : kernelRun0_B.sl.v598 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 0 (by decide) 5 (by decide) := by
  unfold kernelRun0_B.sl.v598
  refine (View.readCov_cons_toLoadRect _ _ _ _).trans ?_
  try simp only [kernelRun0_B.sl.r_37, kernelRun0_B.sl.r_38, kernelRun0_B.sl.cst_334, kernelRun0_B.sl.r_36, v518_eq, r_30_eq, r_27_eq, load_eq]
  rfl

theorem r_34_eq : kernelRun0_B.sl.r_34 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 5 (by decide) (by decide) 0 (by decide) := by
  unfold kernelRun0_B.sl.r_34
  try simp only [kernelRun0_B.sl.r_33, kernelRun0_B.sl.v447, v206_eq, load_eq]
  rfl

theorem r_35_eq : kernelRun0_B.sl.r_35 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 5 (by decide) (by decide) 0 (by decide) := by
  unfold kernelRun0_B.sl.r_35
  try simp only [kernelRun0_B.sl.v453, v206_eq, load_eq]
  rfl

theorem v678_eq : kernelRun0_B.sl.v678 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 0 (by decide) 6 (by decide) := by
  unfold kernelRun0_B.sl.v678
  refine (View.readCov_cons_toLoadRect _ _ _ _).trans ?_
  try simp only [kernelRun0_B.sl.r_42, kernelRun0_B.sl.r_43, kernelRun0_B.sl.r_44, kernelRun0_B.sl.r_41, v598_eq, r_34_eq, r_35_eq, load_eq]
  rfl

theorem r_40_eq : kernelRun0_B.sl.r_40 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 6 (by decide) (by decide) 0 (by decide) := by
  unfold kernelRun0_B.sl.r_40
  try simp only [kernelRun0_B.sl.v533, v206_eq, load_eq]
  rfl

theorem r_39_eq : kernelRun0_B.sl.r_39 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 6 (by decide) (by decide) 0 (by decide) := by
  unfold kernelRun0_B.sl.r_39
  try simp only [kernelRun0_B.sl.v527, v206_eq, load_eq]
  rfl

theorem v758_eq : kernelRun0_B.sl.v758 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 0 (by decide) 7 (by decide) := by
  unfold kernelRun0_B.sl.v758
  refine (View.readCov_cons_toLoadRect _ _ _ _).trans ?_
  try simp only [kernelRun0_B.sl.r_48, r_40_eq, v678_eq, r_39_eq, load_eq]
  rfl

theorem r_46_eq : kernelRun0_B.sl.r_46 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 7 (by decide) (by decide) 0 (by decide) := by
  unfold kernelRun0_B.sl.r_46
  try simp only [kernelRun0_B.sl.v613, v206_eq, load_eq]
  rfl

theorem r_45_eq : kernelRun0_B.sl.r_45 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 7 (by decide) (by decide) 0 (by decide) := by
  unfold kernelRun0_B.sl.r_45
  try simp only [kernelRun0_B.sl.v607, v206_eq, load_eq]
  rfl

theorem v838_eq : kernelRun0_B.sl.v838 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 0 (by decide) 8 (by decide) := by
  unfold kernelRun0_B.sl.v838
  refine (View.readCov_cons_toLoadRect _ _ _ _).trans ?_
  try simp only [kernelRun0_B.sl.r_52, kernelRun0_B.sl.r_51, kernelRun0_B.sl.cst_472, r_46_eq, v758_eq, r_45_eq, load_eq]
  rfl

theorem r_49_eq : kernelRun0_B.sl.r_49 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 8 (by decide) (by decide) 0 (by decide) := by
  unfold kernelRun0_B.sl.r_49
  try simp only [kernelRun0_B.sl.v687, v206_eq, load_eq]
  rfl

theorem r_50_eq : kernelRun0_B.sl.r_50 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 8 (by decide) (by decide) 0 (by decide) := by
  unfold kernelRun0_B.sl.r_50
  try simp only [kernelRun0_B.sl.v693, v206_eq, load_eq]
  rfl

theorem v918_eq : kernelRun0_B.sl.v918 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 0 (by decide) 9 (by decide) := by
  unfold kernelRun0_B.sl.v918
  refine (View.readCov_cons_toLoadRect _ _ _ _).trans ?_
  try simp only [kernelRun0_B.sl.r_58, kernelRun0_B.sl.r_59, kernelRun0_B.sl.r_60, kernelRun0_B.sl.r_55, kernelRun0_B.sl.r_56, kernelRun0_B.sl.r_57, v838_eq, r_49_eq, r_50_eq, load_eq]
  rfl

theorem r_54_eq : kernelRun0_B.sl.r_54 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 9 (by decide) (by decide) 0 (by decide) := by
  unfold kernelRun0_B.sl.r_54
  try simp only [kernelRun0_B.sl.v773, v206_eq, load_eq]
  rfl

theorem r_53_eq : kernelRun0_B.sl.r_53 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 9 (by decide) (by decide) 0 (by decide) := by
  unfold kernelRun0_B.sl.r_53
  try simp only [kernelRun0_B.sl.v767, v206_eq, load_eq]
  rfl

theorem v977_eq : kernelRun0_B.sl.v977 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 0 (by decide) 10 (by decide) := by
  unfold kernelRun0_B.sl.v977
  refine (View.readCov_cons_toLoadRect _ _ _ _).trans ?_
  try simp only [kernelRun0_B.sl.r_64, kernelRun0_B.sl.r_65, kernelRun0_B.sl.r_66, r_54_eq, v918_eq, r_53_eq, load_eq]
  rfl

theorem v985_eq : kernelRun0_B.sl.v985 c arg1 harg1 arg2 harg2 arg3 harg3 arg4 harg4 arg5 harg5 arg6 harg6 arg7 harg7 arg14 x0 x1 x2 x3 x4 x5 x6 = normed x0 x1 x2 x3 x4 x5 x6 1 (by decide) := by
  unfold kernelRun0_B.sl.v985
  refine (View.readCov_cons_toLoadRect _ _ _ _).trans ?_
  try simp only [kernelRun0_B.sl.r, kernelRun0_B.sl.r_12, kernelRun0_B.sl.r_13, kernelRun0_B.sl.cst_92, load_eq]
  rfl

theorem v986_eq : kernelRun0_B.sl.v986 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 0 0 (by decide) (by decide) 0 (by decide)) := by
  unfold kernelRun0_B.sl.v986
  iterate 21 refine (View.readCov_skip _ _ _ _ _ rfl).trans ?_
  refine (View.readCov_cons_toLoadRect _ _ _ _).trans ?_
  try simp only [r_6_eq, load_eq]
  rfl

theorem v992_eq : kernelRun0_B.sl.v992 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 1 0 (by decide) (by decide) 0 (by decide)) := by
  unfold kernelRun0_B.sl.v992
  iterate 20 refine (View.readCov_skip _ _ _ _ _ rfl).trans ?_
  refine (View.readCov_cons_toLoadRect _ _ _ _).trans ?_
  try simp only [kernelRun0_B.sl.r_7, v60_eq, load_eq]
  rfl

theorem v1007_eq : kernelRun0_B.sl.v1007 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 0 1 (by decide) (by decide) 0 (by decide)) := by
  unfold kernelRun0_B.sl.v1007
  iterate 21 refine (View.readCov_skip _ _ _ _ _ rfl).trans ?_
  refine (View.readCov_cons_toLoadRect _ _ _ _).trans ?_
  try simp only [kernelRun0_B.sl.r_11, kernelRun0_B.sl.v82, v60_eq, load_eq]
  rfl

theorem v1013_eq : kernelRun0_B.sl.v1013 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 1 1 (by decide) (by decide) 0 (by decide)) := by
  unfold kernelRun0_B.sl.v1013
  iterate 20 refine (View.readCov_skip _ _ _ _ _ rfl).trans ?_
  refine (View.readCov_cons_toLoadRect _ _ _ _).trans ?_
  try simp only [r_10_eq, load_eq]
  rfl

theorem v1078_eq : kernelRun0_B.sl.v1078 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = zeroRows (F := F) := by
  unfold kernelRun0_B.sl.v1078
  iterate 11 refine (View.readCov_skip _ _ _ _ _ rfl).trans ?_
  refine (View.readCov_cons_toLoadRect _ _ _ _).trans ?_
  try simp only [load_eq]
  rfl

theorem v1087_eq : kernelRun0_B.sl.v1087 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 0 2 (by decide) (by decide) 0 (by decide)) := by
  unfold kernelRun0_B.sl.v1087
  iterate 21 refine (View.readCov_skip _ _ _ _ _ rfl).trans ?_
  refine (View.readCov_cons_toLoadRect _ _ _ _).trans ?_
  try simp only [kernelRun0_B.sl.v207, v206_eq, load_eq]
  rfl

theorem v1093_eq : kernelRun0_B.sl.v1093 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 1 2 (by decide) (by decide) 0 (by decide)) := by
  unfold kernelRun0_B.sl.v1093
  iterate 20 refine (View.readCov_skip _ _ _ _ _ rfl).trans ?_
  refine (View.readCov_cons_toLoadRect _ _ _ _).trans ?_
  try simp only [kernelRun0_B.sl.v213, v206_eq, load_eq]
  rfl

theorem r_70_eq : kernelRun0_B.sl.r_70 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 0 (by decide) (by decide) 1 (by decide) := by
  unfold kernelRun0_B.sl.r_70
  try simp only [v985_eq, v986_eq, load_eq]
  rfl

theorem r_71_eq : kernelRun0_B.sl.r_71 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 0 (by decide) (by decide) 1 (by decide) := by
  unfold kernelRun0_B.sl.r_71
  try simp only [v985_eq, v992_eq, load_eq]
  rfl

theorem v1158_eq : kernelRun0_B.sl.v1158 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 1 (by decide) 1 (by decide) := by
  unfold kernelRun0_B.sl.v1158
  refine (View.readCov_cons_toLoadRect _ _ _ _).trans ?_
  try simp only [kernelRun0_B.sl.r_76, kernelRun0_B.sl.r_74, kernelRun0_B.sl.r_75, v1078_eq, r_70_eq, r_71_eq, load_eq]
  rfl

theorem v1167_eq : kernelRun0_B.sl.v1167 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 0 3 (by decide) (by decide) 0 (by decide)) := by
  unfold kernelRun0_B.sl.v1167
  iterate 21 refine (View.readCov_skip _ _ _ _ _ rfl).trans ?_
  refine (View.readCov_cons_toLoadRect _ _ _ _).trans ?_
  try simp only [kernelRun0_B.sl.v287, v206_eq, load_eq]
  rfl

theorem v1173_eq : kernelRun0_B.sl.v1173 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 1 3 (by decide) (by decide) 0 (by decide)) := by
  unfold kernelRun0_B.sl.v1173
  iterate 20 refine (View.readCov_skip _ _ _ _ _ rfl).trans ?_
  refine (View.readCov_cons_toLoadRect _ _ _ _).trans ?_
  try simp only [kernelRun0_B.sl.r_24, kernelRun0_B.sl.v293, v206_eq, load_eq]
  rfl

theorem r_73_eq : kernelRun0_B.sl.r_73 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 1 (by decide) (by decide) 1 (by decide) := by
  unfold kernelRun0_B.sl.r_73
  try simp only [v985_eq, v1013_eq, load_eq]
  rfl

theorem r_72_eq : kernelRun0_B.sl.r_72 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 1 (by decide) (by decide) 1 (by decide) := by
  unfold kernelRun0_B.sl.r_72
  try simp only [v985_eq, v1007_eq, load_eq]
  rfl

theorem v1238_eq : kernelRun0_B.sl.v1238 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 1 (by decide) 2 (by decide) := by
  unfold kernelRun0_B.sl.v1238
  refine (View.readCov_cons_toLoadRect _ _ _ _).trans ?_
  try simp only [kernelRun0_B.sl.r_80, kernelRun0_B.sl.r_81, r_73_eq, v1158_eq, r_72_eq, load_eq]
  rfl

theorem v1247_eq : kernelRun0_B.sl.v1247 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 0 4 (by decide) (by decide) 0 (by decide)) := by
  unfold kernelRun0_B.sl.v1247
  iterate 21 refine (View.readCov_skip _ _ _ _ _ rfl).trans ?_
  refine (View.readCov_cons_toLoadRect _ _ _ _).trans ?_
  try simp only [r_27_eq, load_eq]
  rfl

theorem v1253_eq : kernelRun0_B.sl.v1253 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 1 4 (by decide) (by decide) 0 (by decide)) := by
  unfold kernelRun0_B.sl.v1253
  iterate 20 refine (View.readCov_skip _ _ _ _ _ rfl).trans ?_
  refine (View.readCov_cons_toLoadRect _ _ _ _).trans ?_
  try simp only [kernelRun0_B.sl.r_28, kernelRun0_B.sl.r_29, kernelRun0_B.sl.v373, v206_eq, load_eq]
  rfl

theorem r_62_eq : kernelRun0_B.sl.r_62 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 10 (by decide) (by decide) 0 (by decide) := by
  unfold kernelRun0_B.sl.r_62
  try simp only [kernelRun0_B.sl.v853, v206_eq, load_eq]
  rfl

theorem r_61_eq : kernelRun0_B.sl.r_61 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 10 (by decide) (by decide) 0 (by decide) := by
  unfold kernelRun0_B.sl.r_61
  try simp only [kernelRun0_B.sl.v847, v206_eq, load_eq]
  rfl

theorem v1267_eq : kernelRun0_B.sl.v1267 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 0 (by decide) 11 (by decide) := by
  unfold kernelRun0_B.sl.v1267
  iterate 3 refine (View.readCov_skip _ _ _ _ _ rfl).trans ?_
  refine (View.readCov_cons_toLoadRect _ _ _ _).trans ?_
  try simp only [kernelRun0_B.sl.r_68, kernelRun0_B.sl.r_69, kernelRun0_B.sl.r_67, v977_eq, r_62_eq, r_61_eq, load_eq]
  rfl

theorem r_78_eq : kernelRun0_B.sl.r_78 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 2 (by decide) (by decide) 1 (by decide) := by
  unfold kernelRun0_B.sl.r_78
  try simp only [v985_eq, v1093_eq, load_eq]
  rfl

theorem r_77_eq : kernelRun0_B.sl.r_77 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 2 (by decide) (by decide) 1 (by decide) := by
  unfold kernelRun0_B.sl.r_77
  try simp only [v985_eq, v1087_eq, load_eq]
  rfl

theorem v1335_eq : kernelRun0_B.sl.v1335 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 1 (by decide) 3 (by decide) := by
  unfold kernelRun0_B.sl.v1335
  refine (View.readCov_cons_toLoadRect _ _ _ _).trans ?_
  try simp only [kernelRun0_B.sl.r_86, kernelRun0_B.sl.r_87, r_78_eq, v1238_eq, r_77_eq, load_eq]
  rfl

theorem v1344_eq : kernelRun0_B.sl.v1344 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 0 5 (by decide) (by decide) 0 (by decide)) := by
  unfold kernelRun0_B.sl.v1344
  iterate 21 refine (View.readCov_skip _ _ _ _ _ rfl).trans ?_
  refine (View.readCov_cons_toLoadRect _ _ _ _).trans ?_
  try simp only [kernelRun0_B.sl.r_33, kernelRun0_B.sl.v447, v206_eq, load_eq]
  rfl

theorem v1350_eq : kernelRun0_B.sl.v1350 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 1 5 (by decide) (by decide) 0 (by decide)) := by
  unfold kernelRun0_B.sl.v1350
  iterate 20 refine (View.readCov_skip _ _ _ _ _ rfl).trans ?_
  refine (View.readCov_cons_toLoadRect _ _ _ _).trans ?_
  try simp only [kernelRun0_B.sl.v453, v206_eq, load_eq]
  rfl

theorem r_85_eq : kernelRun0_B.sl.r_85 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 3 (by decide) (by decide) 1 (by decide) := by
  unfold kernelRun0_B.sl.r_85
  try simp only [kernelRun0_B.sl.r_83, kernelRun0_B.sl.r_84, v1173_eq, v985_eq, load_eq]
  rfl

theorem r_82_eq : kernelRun0_B.sl.r_82 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 3 (by decide) (by decide) 1 (by decide) := by
  unfold kernelRun0_B.sl.r_82
  try simp only [v985_eq, v1167_eq, load_eq]
  rfl

theorem v1415_eq : kernelRun0_B.sl.v1415 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 1 (by decide) 4 (by decide) := by
  unfold kernelRun0_B.sl.v1415
  refine (View.readCov_cons_toLoadRect _ _ _ _).trans ?_
  try simp only [kernelRun0_B.sl.r_92, kernelRun0_B.sl.r_93, kernelRun0_B.sl.r_94, kernelRun0_B.sl.r_95, r_85_eq, v1335_eq, r_82_eq, load_eq]
  rfl

theorem v1424_eq : kernelRun0_B.sl.v1424 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 0 6 (by decide) (by decide) 0 (by decide)) := by
  unfold kernelRun0_B.sl.v1424
  iterate 21 refine (View.readCov_skip _ _ _ _ _ rfl).trans ?_
  refine (View.readCov_cons_toLoadRect _ _ _ _).trans ?_
  try simp only [kernelRun0_B.sl.v527, v206_eq, load_eq]
  rfl

theorem v1430_eq : kernelRun0_B.sl.v1430 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 1 6 (by decide) (by decide) 0 (by decide)) := by
  unfold kernelRun0_B.sl.v1430
  iterate 20 refine (View.readCov_skip _ _ _ _ _ rfl).trans ?_
  refine (View.readCov_cons_toLoadRect _ _ _ _).trans ?_
  try simp only [kernelRun0_B.sl.v533, v206_eq, load_eq]
  rfl

theorem r_90_eq : kernelRun0_B.sl.r_90 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 4 (by decide) (by decide) 1 (by decide) := by
  unfold kernelRun0_B.sl.r_90
  try simp only [v985_eq, v1253_eq, load_eq]
  rfl

theorem r_89_eq : kernelRun0_B.sl.r_89 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 4 (by decide) (by decide) 1 (by decide) := by
  unfold kernelRun0_B.sl.r_89
  try simp only [kernelRun0_B.sl.r_88, v985_eq, v1247_eq, load_eq]
  rfl

theorem v1495_eq : kernelRun0_B.sl.v1495 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 1 (by decide) 5 (by decide) := by
  unfold kernelRun0_B.sl.v1495
  refine (View.readCov_cons_toLoadRect _ _ _ _).trans ?_
  try simp only [kernelRun0_B.sl.r_100, kernelRun0_B.sl.r_101, kernelRun0_B.sl.cst_917, r_90_eq, v1415_eq, r_89_eq, load_eq]
  rfl

theorem v1504_eq : kernelRun0_B.sl.v1504 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 0 7 (by decide) (by decide) 0 (by decide)) := by
  unfold kernelRun0_B.sl.v1504
  iterate 21 refine (View.readCov_skip _ _ _ _ _ rfl).trans ?_
  refine (View.readCov_cons_toLoadRect _ _ _ _).trans ?_
  try simp only [kernelRun0_B.sl.r_47, kernelRun0_B.sl.v607, v206_eq, load_eq]
  rfl

theorem v1510_eq : kernelRun0_B.sl.v1510 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 1 7 (by decide) (by decide) 0 (by decide)) := by
  unfold kernelRun0_B.sl.v1510
  iterate 20 refine (View.readCov_skip _ _ _ _ _ rfl).trans ?_
  refine (View.readCov_cons_toLoadRect _ _ _ _).trans ?_
  try simp only [r_46_eq, load_eq]
  rfl

theorem r_99_eq : kernelRun0_B.sl.r_99 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 5 (by decide) (by decide) 1 (by decide) := by
  unfold kernelRun0_B.sl.r_99
  try simp only [kernelRun0_B.sl.r_97, kernelRun0_B.sl.r_98, v985_eq, v1350_eq, load_eq]
  rfl

theorem r_96_eq : kernelRun0_B.sl.r_96 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 5 (by decide) (by decide) 1 (by decide) := by
  unfold kernelRun0_B.sl.r_96
  try simp only [v985_eq, v1344_eq, load_eq]
  rfl

theorem v1575_eq : kernelRun0_B.sl.v1575 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 1 (by decide) 6 (by decide) := by
  unfold kernelRun0_B.sl.v1575
  refine (View.readCov_cons_toLoadRect _ _ _ _).trans ?_
  try simp only [kernelRun0_B.sl.r_106, kernelRun0_B.sl.r_104, kernelRun0_B.sl.r_105, v1495_eq, r_99_eq, r_96_eq, load_eq]
  rfl

theorem v1584_eq : kernelRun0_B.sl.v1584 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 0 8 (by decide) (by decide) 0 (by decide)) := by
  unfold kernelRun0_B.sl.v1584
  iterate 21 refine (View.readCov_skip _ _ _ _ _ rfl).trans ?_
  refine (View.readCov_cons_toLoadRect _ _ _ _).trans ?_
  try simp only [r_49_eq, load_eq]
  rfl

theorem v1590_eq : kernelRun0_B.sl.v1590 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 1 8 (by decide) (by decide) 0 (by decide)) := by
  unfold kernelRun0_B.sl.v1590
  iterate 20 refine (View.readCov_skip _ _ _ _ _ rfl).trans ?_
  refine (View.readCov_cons_toLoadRect _ _ _ _).trans ?_
  try simp only [kernelRun0_B.sl.v693, v206_eq, load_eq]
  rfl

theorem r_103_eq : kernelRun0_B.sl.r_103 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 6 (by decide) (by decide) 1 (by decide) := by
  unfold kernelRun0_B.sl.r_103
  try simp only [v985_eq, v1430_eq, load_eq]
  rfl

theorem r_102_eq : kernelRun0_B.sl.r_102 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 6 (by decide) (by decide) 1 (by decide) := by
  unfold kernelRun0_B.sl.r_102
  try simp only [v985_eq, v1424_eq, load_eq]
  rfl

theorem v1655_eq : kernelRun0_B.sl.v1655 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 1 (by decide) 7 (by decide) := by
  unfold kernelRun0_B.sl.v1655
  refine (View.readCov_cons_toLoadRect _ _ _ _).trans ?_
  try simp only [kernelRun0_B.sl.r_109, kernelRun0_B.sl.r_110, kernelRun0_B.sl.r_111, r_103_eq, v1575_eq, r_102_eq, load_eq]
  rfl

theorem v1664_eq : kernelRun0_B.sl.v1664 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 0 9 (by decide) (by decide) 0 (by decide)) := by
  unfold kernelRun0_B.sl.v1664
  iterate 21 refine (View.readCov_skip _ _ _ _ _ rfl).trans ?_
  refine (View.readCov_cons_toLoadRect _ _ _ _).trans ?_
  try simp only [kernelRun0_B.sl.v767, v206_eq, load_eq]
  rfl

theorem v1670_eq : kernelRun0_B.sl.v1670 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 1 9 (by decide) (by decide) 0 (by decide)) := by
  unfold kernelRun0_B.sl.v1670
  iterate 20 refine (View.readCov_skip _ _ _ _ _ rfl).trans ?_
  refine (View.readCov_cons_toLoadRect _ _ _ _).trans ?_
  try simp only [kernelRun0_B.sl.v773, v206_eq, load_eq]
  rfl

theorem r_108_eq : kernelRun0_B.sl.r_108 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 7 (by decide) (by decide) 1 (by decide) := by
  unfold kernelRun0_B.sl.r_108
  try simp only [v985_eq, v1510_eq, load_eq]
  rfl

theorem r_107_eq : kernelRun0_B.sl.r_107 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 7 (by decide) (by decide) 1 (by decide) := by
  unfold kernelRun0_B.sl.r_107
  try simp only [v985_eq, v1504_eq, load_eq]
  rfl

theorem v1735_eq : kernelRun0_B.sl.v1735 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 1 (by decide) 8 (by decide) := by
  unfold kernelRun0_B.sl.v1735
  refine (View.readCov_cons_toLoadRect _ _ _ _).trans ?_
  try simp only [kernelRun0_B.sl.r_115, kernelRun0_B.sl.r_116, r_108_eq, v1655_eq, r_107_eq, load_eq]
  rfl

theorem v1744_eq : kernelRun0_B.sl.v1744 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 0 10 (by decide) (by decide) 0 (by decide)) := by
  unfold kernelRun0_B.sl.v1744
  iterate 21 refine (View.readCov_skip _ _ _ _ _ rfl).trans ?_
  refine (View.readCov_cons_toLoadRect _ _ _ _).trans ?_
  try simp only [kernelRun0_B.sl.v847, v206_eq, load_eq]
  rfl

theorem v1750_eq : kernelRun0_B.sl.v1750 c arg1 harg1 arg2 harg2 arg3 harg3 arg4 harg4 arg5 harg5 arg6 harg6 arg7 harg7 arg8 harg8 arg14 arg16 harg16 x0 x1 x2 x3 x4 x5 x6 x7 xs2 = lastRows (hidden x0 x1 x2 x3 x4 x5 x6 x7 xs2 1 10 (by decide) (by decide) 0 (by decide)) := by
  unfold kernelRun0_B.sl.v1750
  iterate 20 refine (View.readCov_skip _ _ _ _ _ rfl).trans ?_
  refine (View.readCov_cons_toLoadRect _ _ _ _).trans ?_
  try simp only [kernelRun0_B.sl.r_63, kernelRun0_B.sl.v853, v206_eq, load_eq]
  rfl

theorem r_113_eq : kernelRun0_B.sl.r_113 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 8 (by decide) (by decide) 1 (by decide) := by
  unfold kernelRun0_B.sl.r_113
  try simp only [v985_eq, v1590_eq, load_eq]
  rfl

theorem r_112_eq : kernelRun0_B.sl.r_112 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 8 (by decide) (by decide) 1 (by decide) := by
  unfold kernelRun0_B.sl.r_112
  try simp only [v985_eq, v1584_eq, load_eq]
  rfl

theorem v1815_eq : kernelRun0_B.sl.v1815 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 1 (by decide) 9 (by decide) := by
  unfold kernelRun0_B.sl.v1815
  refine (View.readCov_cons_toLoadRect _ _ _ _).trans ?_
  try simp only [kernelRun0_B.sl.r_123, kernelRun0_B.sl.r_121, kernelRun0_B.sl.r_122, r_113_eq, v1735_eq, r_112_eq, load_eq]
  rfl

theorem r_119_eq : kernelRun0_B.sl.r_119 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 9 (by decide) (by decide) 1 (by decide) := by
  unfold kernelRun0_B.sl.r_119
  try simp only [kernelRun0_B.sl.r_117, kernelRun0_B.sl.r_118, v985_eq, v1664_eq, load_eq]
  rfl

theorem r_120_eq : kernelRun0_B.sl.r_120 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 9 (by decide) (by decide) 1 (by decide) := by
  unfold kernelRun0_B.sl.r_120
  try simp only [v985_eq, v1670_eq, load_eq]
  rfl

theorem v1874_eq : kernelRun0_B.sl.v1874 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 1 (by decide) 10 (by decide) := by
  unfold kernelRun0_B.sl.v1874
  refine (View.readCov_cons_toLoadRect _ _ _ _).trans ?_
  try simp only [kernelRun0_B.sl.r_128, kernelRun0_B.sl.r_129, kernelRun0_B.sl.r_126, kernelRun0_B.sl.r_127, v1815_eq, r_119_eq, r_120_eq, load_eq]
  rfl

theorem r_125_eq : kernelRun0_B.sl.r_125 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 1 10 (by decide) (by decide) 1 (by decide) := by
  unfold kernelRun0_B.sl.r_125
  try simp only [v985_eq, v1750_eq, load_eq]
  rfl

theorem r_124_eq : kernelRun0_B.sl.r_124 c arg1 harg1 arg2 harg2 arg3 harg3 arg4 harg4 arg5 harg5 arg6 harg6 arg7 harg7 arg8 harg8 arg14 arg16 harg16 x0 x1 x2 x3 x4 x5 x6 x7 xs2 = hidden x0 x1 x2 x3 x4 x5 x6 x7 xs2 0 10 (by decide) (by decide) 1 (by decide) := by
  unfold kernelRun0_B.sl.r_124
  try simp only [v985_eq, v1744_eq, load_eq]
  rfl

theorem v1882_eq : kernelRun0_B.sl.v1882 c arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xs2 = accum x0 x1 x2 x3 x4 x5 x6 x7 x8 x9 x10 xs2 1 (by decide) 11 (by decide) := by
  unfold kernelRun0_B.sl.v1882
  refine (View.readCov_cons_toLoadRect _ _ _ _).trans ?_
  try simp only [kernelRun0_B.sl.r_130, kernelRun0_B.sl.r_131, r_125_eq, v1874_eq, r_124_eq, load_eq]
  rfl

end Cert.FfnIdeal.RunB

end
-- ==== Proof.FfnOutB.lean ====
/- What the run of the mixer-and-feed-forward body in case B leaves in the result's block and in the carried rows. -/
module

public import proofs.«01_k».proof.Proof.FfnRunB

@[expose] public section

set_option maxRecDepth 4000

noncomputable section

namespace Cert.FfnIdeal.RunB

open Idealize.ShloMosaic Idealize.ShloMosaic.TcCoe
open Cert.FfnIdeal Cert.FfnIdeal.Gen Cert.FfnIdeal.Tile

variable {F : FTy → Type} [FloatOps F]
variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S11x2x16x256 .f32) (harg16 : arg16.IsWhole) (hc0 : ¬cond0_0 i)
    (x0 : Vec F S512x1024 .f32) (x1 : Vec F S512x512 .bf16) (x2 : Vec F S512x512 .bf16) (x3 : Vec F S512x1024 .bf16) (x4 : Vec F S512x1024 .bf16) (x5 : Vec F S1x1024 .f32) (x6 : Vec F S1x1024 .f32) (x7 : Vec F S1024x5632 .bf16) (x8 : Vec F S3x5632 .f32) (x9 : Vec F S1x5632 .f32) (x10 : Vec F S2816x1024 .bf16) (x11 : Vec F S1x1024 .f32) (xs2 : Vec F S11x2x16x256 .f32)

/-- The second group's result rows, as the run stores them. -/
theorem out_1 (v : View sig .tc .vmem S512x1024 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).1 (Rect.unit ![256, 0] S256x1024.size inb_S512x1024_S256x1024_256_0 : Rect S512x1024).toLoadRect = result x0 x1 x2 x3 x4 x5 x6 x7 x8 x9 x10 x11 xs2 1 (by decide) := by
  unfold kernelRun0_B
  dsimp only
  refine (View.readCov_cons_toLoadRect _ _ _ _).trans ?_
  try simp only [kernelRun0_B.sl.r_12, kernelRun0_B.sl.r_133, kernelRun0_B.sl.r_134, kernelRun0_B.sl.r_132, v1882_eq, load_eq]
  rfl

/-- The first group's. -/
theorem out_0 (v : View sig .tc .vmem S512x1024 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).1 (Rect.unit ![0, 0] S256x1024.size inb_S512x1024_S256x1024_0_0 : Rect S512x1024).toLoadRect = result x0 x1 x2 x3 x4 x5 x6 x7 x8 x9 x10 x11 xs2 0 (by decide) := by
  unfold kernelRun0_B
  dsimp only
  iterate 1 refine (View.readCov_skip _ _ _ _ _ rfl).trans ?_
  refine (View.readCov_cons_toLoadRect _ _ _ _).trans ?_
  try simp only [kernelRun0_B.sl.r_91, kernelRun0_B.sl.r_5, kernelRun0_B.sl.r_1, kernelRun0_B.sl.r_2, kernelRun0_B.sl.r_3, kernelRun0_B.sl.r_4, v1267_eq, load_eq]
  rfl

theorem tail_0_0 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![0, 0, 0, 0] S1x1x16x256.size inb_S11x2x16x256_S1x1x16x256_0_0_0_0 : Rect S11x2x16x256).toLoadRect
    = lastRows (hidden x0 x1 x2 x3 x4 x5 x6 x7 xs2 0 0 (by decide) (by decide) 1 (by decide)) := by
  unfold kernelRun0_B
  dsimp only
  iterate 21 refine (View.readCov_skip _ _ _ _ _ rfl).trans ?_
  refine (View.readCov_cons_toLoadRect _ _ _ _).trans ?_
  try simp only [v985_eq, v986_eq, load_eq]
  rfl

theorem tail_0_1 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![0, 1, 0, 0] S1x1x16x256.size inb_S11x2x16x256_S1x1x16x256_0_1_0_0 : Rect S11x2x16x256).toLoadRect
    = lastRows (hidden x0 x1 x2 x3 x4 x5 x6 x7 xs2 1 0 (by decide) (by decide) 1 (by decide)) := by
  unfold kernelRun0_B
  dsimp only
  iterate 20 refine (View.readCov_skip _ _ _ _ _ rfl).trans ?_
  refine (View.readCov_cons_toLoadRect _ _ _ _).trans ?_
  try simp only [v985_eq, v992_eq, load_eq]
  rfl

theorem tail_1_0 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![1, 0, 0, 0] S1x1x16x256.size inb_S11x2x16x256_S1x1x16x256_1_0_0_0 : Rect S11x2x16x256).toLoadRect
    = lastRows (hidden x0 x1 x2 x3 x4 x5 x6 x7 xs2 0 1 (by decide) (by decide) 1 (by decide)) := by
  unfold kernelRun0_B
  dsimp only
  iterate 19 refine (View.readCov_skip _ _ _ _ _ rfl).trans ?_
  refine (View.readCov_cons_toLoadRect _ _ _ _).trans ?_
  try simp only [v985_eq, v1007_eq, load_eq]
  rfl

theorem tail_1_1 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![1, 1, 0, 0] S1x1x16x256.size inb_S11x2x16x256_S1x1x16x256_1_1_0_0 : Rect S11x2x16x256).toLoadRect
    = lastRows (hidden x0 x1 x2 x3 x4 x5 x6 x7 xs2 1 1 (by decide) (by decide) 1 (by decide)) := by
  unfold kernelRun0_B
  dsimp only
  iterate 18 refine (View.readCov_skip _ _ _ _ _ rfl).trans ?_
  refine (View.readCov_cons_toLoadRect _ _ _ _).trans ?_
  try simp only [v985_eq, v1013_eq, load_eq]
  rfl

theorem tail_2_0 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![2, 0, 0, 0] S1x1x16x256.size inb_S11x2x16x256_S1x1x16x256_2_0_0_0 : Rect S11x2x16x256).toLoadRect
    = lastRows (hidden x0 x1 x2 x3 x4 x5 x6 x7 xs2 0 2 (by decide) (by decide) 1 (by decide)) := by
  unfold kernelRun0_B
  dsimp only
  iterate 17 refine (View.readCov_skip _ _ _ _ _ rfl).trans ?_
  refine (View.readCov_cons_toLoadRect _ _ _ _).trans ?_
  try simp only [v985_eq, v1087_eq, load_eq]
  rfl

theorem tail_2_1 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![2, 1, 0, 0] S1x1x16x256.size inb_S11x2x16x256_S1x1x16x256_2_1_0_0 : Rect S11x2x16x256).toLoadRect
    = lastRows (hidden x0 x1 x2 x3 x4 x5 x6 x7 xs2 1 2 (by decide) (by decide) 1 (by decide)) := by
  unfold kernelRun0_B
  dsimp only
  iterate 16 refine (View.readCov_skip _ _ _ _ _ rfl).trans ?_
  refine (View.readCov_cons_toLoadRect _ _ _ _).trans ?_
  try simp only [kernelRun0_B.sl.r_79, v985_eq, v1093_eq, load_eq]
  rfl

theorem tail_3_0 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![3, 0, 0, 0] S1x1x16x256.size inb_S11x2x16x256_S1x1x16x256_3_0_0_0 : Rect S11x2x16x256).toLoadRect
    = lastRows (hidden x0 x1 x2 x3 x4 x5 x6 x7 xs2 0 3 (by decide) (by decide) 1 (by decide)) := by
  unfold kernelRun0_B
  dsimp only
  iterate 15 refine (View.readCov_skip _ _ _ _ _ rfl).trans ?_
  refine (View.readCov_cons_toLoadRect _ _ _ _).trans ?_
  try simp only [r_82_eq, load_eq]
  rfl

theorem tail_3_1 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![3, 1, 0, 0] S1x1x16x256.size inb_S11x2x16x256_S1x1x16x256_3_1_0_0 : Rect S11x2x16x256).toLoadRect
    = lastRows (hidden x0 x1 x2 x3 x4 x5 x6 x7 xs2 1 3 (by decide) (by decide) 1 (by decide)) := by
  unfold kernelRun0_B
  dsimp only
  iterate 14 refine (View.readCov_skip _ _ _ _ _ rfl).trans ?_
  refine (View.readCov_cons_toLoadRect _ _ _ _).trans ?_
  try simp only [kernelRun0_B.sl.r_83, kernelRun0_B.sl.r_84, v1173_eq, v985_eq, load_eq]
  rfl

theorem tail_4_0 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![4, 0, 0, 0] S1x1x16x256.size inb_S11x2x16x256_S1x1x16x256_4_0_0_0 : Rect S11x2x16x256).toLoadRect
    = lastRows (hidden x0 x1 x2 x3 x4 x5 x6 x7 xs2 0 4 (by decide) (by decide) 1 (by decide)) := by
  unfold kernelRun0_B
  dsimp only
  iterate 13 refine (View.readCov_skip _ _ _ _ _ rfl).trans ?_
  refine (View.readCov_cons_toLoadRect _ _ _ _).trans ?_
  try simp only [kernelRun0_B.sl.r_88, v985_eq, v1247_eq, load_eq]
  rfl

theorem tail_4_1 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![4, 1, 0, 0] S1x1x16x256.size inb_S11x2x16x256_S1x1x16x256_4_1_0_0 : Rect S11x2x16x256).toLoadRect
    = lastRows (hidden x0 x1 x2 x3 x4 x5 x6 x7 xs2 1 4 (by decide) (by decide) 1 (by decide)) := by
  unfold kernelRun0_B
  dsimp only
  iterate 12 refine (View.readCov_skip _ _ _ _ _ rfl).trans ?_
  refine (View.readCov_cons_toLoadRect _ _ _ _).trans ?_
  try simp only [v985_eq, v1253_eq, load_eq]
  rfl

theorem tail_5_0 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![5, 0, 0, 0] S1x1x16x256.size inb_S11x2x16x256_S1x1x16x256_5_0_0_0 : Rect S11x2x16x256).toLoadRect
    = lastRows (hidden x0 x1 x2 x3 x4 x5 x6 x7 xs2 0 5 (by decide) (by decide) 1 (by decide)) := by
  unfold kernelRun0_B
  dsimp only
  iterate 11 refine (View.readCov_skip _ _ _ _ _ rfl).trans ?_
  refine (View.readCov_cons_toLoadRect _ _ _ _).trans ?_
  try simp only [r_96_eq, load_eq]
  rfl

theorem tail_5_1 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![5, 1, 0, 0] S1x1x16x256.size inb_S11x2x16x256_S1x1x16x256_5_1_0_0 : Rect S11x2x16x256).toLoadRect
    = lastRows (hidden x0 x1 x2 x3 x4 x5 x6 x7 xs2 1 5 (by decide) (by decide) 1 (by decide)) := by
  unfold kernelRun0_B
  dsimp only
  iterate 10 refine (View.readCov_skip _ _ _ _ _ rfl).trans ?_
  refine (View.readCov_cons_toLoadRect _ _ _ _).trans ?_
  try simp only [kernelRun0_B.sl.r_97, kernelRun0_B.sl.r_98, v985_eq, v1350_eq, load_eq]
  rfl

theorem tail_6_0 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![6, 0, 0, 0] S1x1x16x256.size inb_S11x2x16x256_S1x1x16x256_6_0_0_0 : Rect S11x2x16x256).toLoadRect
    = lastRows (hidden x0 x1 x2 x3 x4 x5 x6 x7 xs2 0 6 (by decide) (by decide) 1 (by decide)) := by
  unfold kernelRun0_B
  dsimp only
  iterate 9 refine (View.readCov_skip _ _ _ _ _ rfl).trans ?_
  refine (View.readCov_cons_toLoadRect _ _ _ _).trans ?_
  try simp only [v985_eq, v1424_eq, load_eq]
  rfl

theorem tail_6_1 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![6, 1, 0, 0] S1x1x16x256.size inb_S11x2x16x256_S1x1x16x256_6_1_0_0 : Rect S11x2x16x256).toLoadRect
    = lastRows (hidden x0 x1 x2 x3 x4 x5 x6 x7 xs2 1 6 (by decide) (by decide) 1 (by decide)) := by
  unfold kernelRun0_B
  dsimp only
  iterate 8 refine (View.readCov_skip _ _ _ _ _ rfl).trans ?_
  refine (View.readCov_cons_toLoadRect _ _ _ _).trans ?_
  try simp only [v985_eq, v1430_eq, load_eq]
  rfl

theorem tail_7_0 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![7, 0, 0, 0] S1x1x16x256.size inb_S11x2x16x256_S1x1x16x256_7_0_0_0 : Rect S11x2x16x256).toLoadRect
    = lastRows (hidden x0 x1 x2 x3 x4 x5 x6 x7 xs2 0 7 (by decide) (by decide) 1 (by decide)) := by
  unfold kernelRun0_B
  dsimp only
  iterate 7 refine (View.readCov_skip _ _ _ _ _ rfl).trans ?_
  refine (View.readCov_cons_toLoadRect _ _ _ _).trans ?_
  try simp only [v985_eq, v1504_eq, load_eq]
  rfl

theorem tail_7_1 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![7, 1, 0, 0] S1x1x16x256.size inb_S11x2x16x256_S1x1x16x256_7_1_0_0 : Rect S11x2x16x256).toLoadRect
    = lastRows (hidden x0 x1 x2 x3 x4 x5 x6 x7 xs2 1 7 (by decide) (by decide) 1 (by decide)) := by
  unfold kernelRun0_B
  dsimp only
  iterate 6 refine (View.readCov_skip _ _ _ _ _ rfl).trans ?_
  refine (View.readCov_cons_toLoadRect _ _ _ _).trans ?_
  try simp only [v985_eq, v1510_eq, load_eq]
  rfl

theorem tail_8_0 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![8, 0, 0, 0] S1x1x16x256.size inb_S11x2x16x256_S1x1x16x256_8_0_0_0 : Rect S11x2x16x256).toLoadRect
    = lastRows (hidden x0 x1 x2 x3 x4 x5 x6 x7 xs2 0 8 (by decide) (by decide) 1 (by decide)) := by
  unfold kernelRun0_B
  dsimp only
  iterate 5 refine (View.readCov_skip _ _ _ _ _ rfl).trans ?_
  refine (View.readCov_cons_toLoadRect _ _ _ _).trans ?_
  try simp only [kernelRun0_B.sl.r_114, v985_eq, v1584_eq, load_eq]
  rfl

theorem tail_8_1 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![8, 1, 0, 0] S1x1x16x256.size inb_S11x2x16x256_S1x1x16x256_8_1_0_0 : Rect S11x2x16x256).toLoadRect
    = lastRows (hidden x0 x1 x2 x3 x4 x5 x6 x7 xs2 1 8 (by decide) (by decide) 1 (by decide)) := by
  unfold kernelRun0_B
  dsimp only
  iterate 4 refine (View.readCov_skip _ _ _ _ _ rfl).trans ?_
  refine (View.readCov_cons_toLoadRect _ _ _ _).trans ?_
  try simp only [r_113_eq, load_eq]
  rfl

theorem tail_9_0 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![9, 0, 0, 0] S1x1x16x256.size inb_S11x2x16x256_S1x1x16x256_9_0_0_0 : Rect S11x2x16x256).toLoadRect
    = lastRows (hidden x0 x1 x2 x3 x4 x5 x6 x7 xs2 0 9 (by decide) (by decide) 1 (by decide)) := by
  unfold kernelRun0_B
  dsimp only
  iterate 3 refine (View.readCov_skip _ _ _ _ _ rfl).trans ?_
  refine (View.readCov_cons_toLoadRect _ _ _ _).trans ?_
  try simp only [kernelRun0_B.sl.r_117, kernelRun0_B.sl.r_118, v985_eq, v1664_eq, load_eq]
  rfl

theorem tail_9_1 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![9, 1, 0, 0] S1x1x16x256.size inb_S11x2x16x256_S1x1x16x256_9_1_0_0 : Rect S11x2x16x256).toLoadRect
    = lastRows (hidden x0 x1 x2 x3 x4 x5 x6 x7 xs2 1 9 (by decide) (by decide) 1 (by decide)) := by
  unfold kernelRun0_B
  dsimp only
  iterate 2 refine (View.readCov_skip _ _ _ _ _ rfl).trans ?_
  refine (View.readCov_cons_toLoadRect _ _ _ _).trans ?_
  try simp only [v985_eq, v1670_eq, load_eq]
  rfl

theorem tail_10_0 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![10, 0, 0, 0] S1x1x16x256.size inb_S11x2x16x256_S1x1x16x256_10_0_0_0 : Rect S11x2x16x256).toLoadRect
    = lastRows (hidden x0 x1 x2 x3 x4 x5 x6 x7 xs2 0 10 (by decide) (by decide) 1 (by decide)) := by
  unfold kernelRun0_B
  dsimp only
  iterate 1 refine (View.readCov_skip _ _ _ _ _ rfl).trans ?_
  refine (View.readCov_cons_toLoadRect _ _ _ _).trans ?_
  try simp only [v985_eq, v1744_eq, load_eq]
  rfl

theorem tail_10_1 (v : View sig .tc .vmem S11x2x16x256 .f32) : v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![10, 1, 0, 0] S1x1x16x256.size inb_S11x2x16x256_S1x1x16x256_10_1_0_0 : Rect S11x2x16x256).toLoadRect
    = lastRows (hidden x0 x1 x2 x3 x4 x5 x6 x7 xs2 1 10 (by decide) (by decide) 1 (by decide)) := by
  unfold kernelRun0_B
  dsimp only
  refine (View.readCov_cons_toLoadRect _ _ _ _).trans ?_
  try simp only [v985_eq, v1750_eq, load_eq]
  rfl

end Cert.FfnIdeal.RunB

end
-- ==== Proof.FfnSpec.lean ====
/- The mixer's output projection and the gated feed-forward layer as one function of their inputs, element by element over
   the extended reals. -/
module

public import Idealize.ShloMosaic.Lib.Pointwise

@[expose] public section

noncomputable section

namespace Cert.FfnSpec

open Idealize.ShloMosaic

/-- The inputs: the residual stream, the two mixer halves, the output projection, the gains and the feed-forward weights. -/
structure Inputs where
  h2 : Fin 32768 → Fin 1024 → EReal
  a1 : Fin 32768 → Fin 512 → EReal
  a2 : Fin 32768 → Fin 512 → EReal
  wo : Fin 1024 → Fin 1024 → EReal
  gm : Fin 1024 → EReal
  gp : Fin 1024 → EReal
  wu : Fin 1024 → Fin 5632 → EReal
  cw : Fin 3 → Fin 5632 → EReal
  cb : Fin 5632 → EReal
  wd : Fin 2816 → Fin 1024 → EReal
  gq : Fin 1024 → EReal

/-- A row divided by its root mean square and scaled by the gain, at one column. -/
def rms (x g : Fin 1024 → EReal) (d : Fin 1024) : EReal :=
  x d * FloatOps.rsqrt (F := Ideal) (φ := .f32) (FloatOps.divf (F := Ideal) (φ := .f32) (∑ k, x k * x k) (Ideal.ofBits .f32 0x44800000#32) + Ideal.ofBits .f32 0x358637BD#32) * g d

/-- The tanh form of gelu of `y`, times `z`. -/
def gate (y z : EReal) : EReal :=
  Ideal.ofBits .f32 0x3F000000#32 * y * (1 + FloatOps.tanh (F := Ideal) (φ := .f32)
    (Ideal.ofBits .f32 0x3F4C422A#32 * (y + Ideal.ofBits .f32 0x3D372713#32 * (y * y * y)))) * z

variable (A : Inputs)

/-- The residual stream after the mixer. -/
def res (n : Fin 32768) (d : Fin 1024) : EReal :=
  A.h2 n d + rms (fun k => (∑ e : Fin 512, A.a1 n e * A.wo ⟨e.val, by omega⟩ k) + ∑ e : Fin 512, A.a2 n e * A.wo ⟨512 + e.val, by omega⟩ k) A.gm d

/-- The up projection of its normalized rows. -/
def up (n : Fin 32768) (c : Fin 5632) : EReal := ∑ d, rms (res A n) A.gp d * A.wu d c

/-- The same `s` rows before, zero before the sequence's first row. -/
def upBack (s : ℕ) (n : Fin 32768) (c : Fin 5632) : EReal :=
  if n.val % 4096 < s then 0 else up A ⟨n.val - s, by omega⟩ c

/-- The causal convolution of three taps. -/
def conv (n : Fin 32768) (c : Fin 5632) : EReal :=
  A.cw 2 c * up A n c + A.cw 1 c * upBack A 1 n c + A.cw 0 c * upBack A 2 n c + A.cb c

/-- The gated hidden row. -/
def act (n : Fin 32768) (e : Fin 2816) : EReal := gate (conv A n ⟨e.val, by omega⟩) (conv A n ⟨2816 + e.val, by omega⟩)

/-- The layer's result. -/
def out (n : Fin 32768) (d : Fin 1024) : EReal := res A n d + rms (fun k => ∑ e, act A n e * A.wd e k) A.gq d

end Cert.FfnSpec

end
-- ==== Proof.FfnElem.lean ====
/- The functions of one tile read element by element at the ideal instance, where every operation is the extended reals'. -/
module

public import proofs.«01_k».proof.Proof.FfnTile
public import proofs.«01_k».proof.Proof.FfnSpec

@[expose] public section

set_option maxRecDepth 16384

noncomputable section

namespace Cert.FfnIdeal.Elem

open Idealize.ShloMosaic Idealize.ShloMosaic.TcCoe
open Cert.FfnIdeal Cert.FfnIdeal.Tile Cert.FfnSpec Facts₀ Facts

theorem rmsRows_at (x : FVec Ideal S256x1024 .f32) (g : FVec Ideal S1x1024 .f32) (i : Fin 256) (d : Fin 1024) :
    rmsRows x g (ix2 i d) = rms (fun k => x (ix2 i k)) (fun k => g (ix2 0 k)) d := by
  pointwise [rmsRows, rms]

theorem mixRows_at (h : Vec Ideal S256x1024 .f32) (a b : Vec Ideal S256x512 .bf16) (wa wb : Vec Ideal S512x1024 .bf16) (g : Vec Ideal S1x1024 .f32)
    (i : Fin 256) (d : Fin 1024) :
    mixRows h a b wa wb g (ix2 i d) = h (ix2 i d) + rms (fun k => (∑ e, a (ix2 i e) * wa (ix2 e k)) + ∑ e, b (ix2 i e) * wb (ix2 e k)) (fun k => g (ix2 0 k)) d := by
  pointwise [mixRows, rmsRows_at]

theorem normRows_at (x : FVec Ideal S256x1024 .f32) (g : Vec Ideal S1x1024 .f32) (i : Fin 256) (d : Fin 1024) :
    normRows x g (ix2 i d) = rms (fun k => x (ix2 i k)) (fun k => g (ix2 0 k)) d := by
  pointwise [normRows, rmsRows_at]

theorem upRows_at (t : Vec Ideal S1x1x16x256 .f32) (xn : Vec Ideal S256x1024 .bf16) (w : Vec Ideal S1024x256 .bf16) (i : Fin 272) (k : Fin 256) :
    upRows t xn w (ix2 i k) = if h : i.val < 16 then t (ix4 0 0 ⟨i.val, h⟩ k) else ∑ d, xn (ix2 ⟨i.val - 16, by omega⟩ d) * w (ix2 d k) := by
  pointwise [upRows]

theorem lastRows_at (u : FVec Ideal S272x256 .f32) (i : Fin 16) (k : Fin 256) : lastRows u (ix4 0 0 i k) = u (ix2 ⟨256 + i.val, by omega⟩ k) := by
  pointwise [lastRows]

theorem convRows_at (u : FVec Ideal S272x256 .f32) (w2 w1 w0 b : Vec Ideal S1x256 .f32) (i : Fin 256) (k : Fin 256) :
    convRows u w2 w1 w0 b (ix2 i k) = w2 (ix2 0 k) * u (ix2 ⟨i.val + 16, by omega⟩ k) + w1 (ix2 0 k) * u (ix2 ⟨i.val + 15, by omega⟩ k)
      + w0 (ix2 0 k) * u (ix2 ⟨i.val + 14, by omega⟩ k) + b (ix2 0 k) := by
  pointwise [convRows]
  simp only [show 16 + i.val = i.val + 16 by omega, show (i.val + 16 + 272 - 1) % 272 = i.val + 15 by omega,
    show (i.val + 16 + 272 - 2) % 272 = i.val + 14 by omega]

theorem gateRows_at (y z : FVec Ideal S256x256 .f32) (i k : Fin 256) : gateRows y z (ix2 i k) = gate (y (ix2 i k)) (z (ix2 i k)) := by
  pointwise [gateRows, gate]

theorem downRows_at (acc : Vec Ideal S256x1024 .f32) (act : FVec Ideal S256x256 .bf16) (w : Vec Ideal S256x1024 .bf16) (i : Fin 256) (d : Fin 1024) :
    downRows acc act w (ix2 i d) = acc (ix2 i d) + ∑ k, act (ix2 i k) * w (ix2 k d) := by
  pointwise [downRows]

theorem zeroRows_at (i : Fin 256) (d : Fin 1024) : zeroRows (F := Ideal) (ix2 i d) = 0 := by
  pointwise [zeroRows]

theorem zeroTails_at (a : Fin 11) (b : Fin 2) (i : Fin 16) (k : Fin 256) : zeroTails (F := Ideal) (ix4 a b i k) = 0 := by
  pointwise [zeroTails]

theorem outRows_at (x : FVec Ideal S256x1024 .f32) (acc : Vec Ideal S256x1024 .f32) (g : Vec Ideal S1x1024 .f32) (i : Fin 256) (d : Fin 1024) :
    outRows x acc g (ix2 i d) = x (ix2 i d) + rms (fun k => acc (ix2 i k)) (fun k => g (ix2 0 k)) d := by
  pointwise [outRows, rmsRows_at]

/-! ## The blocks of a tile, element by element -/

theorem rows_at (j : ℕ) (hj : j < 2) (x : Vec Ideal S512x1024 .f32) (i : Fin 256) (d : Fin 1024) :
    rows j hj x (ix2 i d) = x (ix2 ⟨256 * j + i.val, by omega⟩ d) := by
  pointwise [rows]

theorem halfRows_at (j : ℕ) (hj : j < 2) (x : Vec Ideal S512x512 .bf16) (i : Fin 256) (d : Fin 512) :
    halfRows j hj x (ix2 i d) = x (ix2 ⟨256 * j + i.val, by omega⟩ d) := by
  pointwise [halfRows]

theorem upCols_at (h k : ℕ) (hh : h < 2) (hk : k < 11) (w : Vec Ideal S1024x5632 .bf16) (d : Fin 1024) (e : Fin 256) :
    upCols h k hh hk w (ix2 d e) = w (ix2 d ⟨2816 * h + 256 * k + e.val, by omega⟩) := by
  pointwise [upCols]

theorem tapCols_at (d h k : ℕ) (hd : d < 3) (hh : h < 2) (hk : k < 11) (w : Vec Ideal S3x5632 .f32) (e : Fin 256) :
    tapCols d h k hd hh hk w (ix2 0 e) = w (ix2 ⟨d, hd⟩ ⟨2816 * h + 256 * k + e.val, by omega⟩) := by
  pointwise [tapCols]

theorem biasCols_at (h k : ℕ) (hh : h < 2) (hk : k < 11) (b : Vec Ideal S1x5632 .f32) (e : Fin 256) :
    biasCols h k hh hk b (ix2 0 e) = b (ix2 0 ⟨2816 * h + 256 * k + e.val, by omega⟩) := by
  pointwise [biasCols]

theorem downBlk_at (k : ℕ) (hk : k < 11) (w : Vec Ideal S2816x1024 .bf16) (e : Fin 256) (d : Fin 1024) :
    downBlk k hk w (ix2 e d) = w (ix2 ⟨256 * k + e.val, by omega⟩ d) := by
  pointwise [downBlk]

theorem tailIn_at (h k : ℕ) (hh : h < 2) (hk : k < 11) (T : Vec Ideal S11x2x16x256 .f32) (i : Fin 16) (e : Fin 256) :
    tailIn h k hh hk T (ix4 0 0 i e) = T (ix4 ⟨k, hk⟩ ⟨h, hh⟩ i e) := by
  pointwise [tailIn]

theorem gain_at (g : Vec Ideal S1x1024 .f32) (d : Fin 1024) : gain g (ix2 0 d) = g (ix2 0 d) := by
  pointwise [gain]

theorem proj_at (w : Vec Ideal S512x1024 .bf16) (e : Fin 512) (d : Fin 1024) : proj w (ix2 e d) = w (ix2 e d) := by
  pointwise [proj]

end Cert.FfnIdeal.Elem

end
-- ==== Proof.FfnGroup.lean ====
/- What a group of rows of one tile computes is the layer's function of those rows, given what its input blocks and the
   carried rows hold. -/
module

public import proofs.«01_k».proof.Proof.FfnElem

@[expose] public section

set_option maxRecDepth 16384

noncomputable section

namespace Cert.FfnIdeal.Group

open Idealize.ShloMosaic Idealize.ShloMosaic.TcCoe
open Cert.FfnIdeal Cert.FfnIdeal.Tile Cert.FfnIdeal.Elem Cert.FfnSpec

/-- The blocks of tile `t` hold the inputs' rows `512 t … 512 t + 511` and the weights. -/
structure Blocks (A : Inputs) (t : ℕ) (ht : t < 64) (x0 : Vec Ideal S512x1024 .f32) (x1 x2 : Vec Ideal S512x512 .bf16)
    (x3 x4 : Vec Ideal S512x1024 .bf16) (x5 x6 : Vec Ideal S1x1024 .f32) (x7 : Vec Ideal S1024x5632 .bf16) (x8 : Vec Ideal S3x5632 .f32)
    (x9 : Vec Ideal S1x5632 .f32) (x10 : Vec Ideal S2816x1024 .bf16) (x11 : Vec Ideal S1x1024 .f32) : Prop where
  e0 : ∀ (i : Fin 512) (d : Fin 1024), x0 (ix2 i d) = A.h2 ⟨512 * t + i.val, by omega⟩ d
  e1 : ∀ (i : Fin 512) (d : Fin 512), x1 (ix2 i d) = A.a1 ⟨512 * t + i.val, by omega⟩ d
  e2 : ∀ (i : Fin 512) (d : Fin 512), x2 (ix2 i d) = A.a2 ⟨512 * t + i.val, by omega⟩ d
  e3 : ∀ (e : Fin 512) (d : Fin 1024), x3 (ix2 e d) = A.wo ⟨e.val, by omega⟩ d
  e4 : ∀ (e : Fin 512) (d : Fin 1024), x4 (ix2 e d) = A.wo ⟨512 + e.val, by omega⟩ d
  e5 : ∀ d : Fin 1024, x5 (ix2 0 d) = A.gm d
  e6 : ∀ d : Fin 1024, x6 (ix2 0 d) = A.gp d
  e7 : ∀ (d : Fin 1024) (c : Fin 5632), x7 (ix2 d c) = A.wu d c
  e8 : ∀ (a : Fin 3) (c : Fin 5632), x8 (ix2 a c) = A.cw a c
  e9 : ∀ c : Fin 5632, x9 (ix2 0 c) = A.cb c
  e10 : ∀ (e : Fin 2816) (d : Fin 1024), x10 (ix2 e d) = A.wd e d
  e11 : ∀ d : Fin 1024, x11 (ix2 0 d) = A.gq d

/-- The rows carried into tile `t` are the sixteen hidden rows before it, and zero at the start of a sequence. -/
def Carried (A : Inputs) (t : ℕ) (ht : t < 64) (T : Vec Ideal S11x2x16x256 .f32) : Prop :=
  ∀ (k : Fin 11) (h : Fin 2) (r : Fin 16) (e : Fin 256), T (ix4 k h r e)
    = if t % 8 = 0 then 0 else up A ⟨512 * t + r.val - 16, by omega⟩ ⟨2816 * h.val + 256 * k.val + e.val, by omega⟩

variable {A : Inputs} {t : ℕ} {ht : t < 64} {x0 : Vec Ideal S512x1024 .f32} {x1 x2 : Vec Ideal S512x512 .bf16} {x3 x4 : Vec Ideal S512x1024 .bf16}
  {x5 x6 : Vec Ideal S1x1024 .f32} {x7 : Vec Ideal S1024x5632 .bf16} {x8 : Vec Ideal S3x5632 .f32} {x9 : Vec Ideal S1x5632 .f32}
  {x10 : Vec Ideal S2816x1024 .bf16} {x11 : Vec Ideal S1x1024 .f32} {T : Vec Ideal S11x2x16x256 .f32}
  (H : Blocks A t ht x0 x1 x2 x3 x4 x5 x6 x7 x8 x9 x10 x11) (hT : Carried A t ht T)

include H

theorem resid_at (j : ℕ) (hj : j < 2) (i : Fin 256) (d : Fin 1024) :
    resid x0 x1 x2 x3 x4 x5 j hj (ix2 i d) = res A ⟨512 * t + (256 * j + i.val), by omega⟩ d := by
  unfold resid
  rw [mixRows_at]
  simp only [rows_at, halfRows_at, proj_at, gain_at, H.e0, H.e1, H.e2, H.e3, H.e4, H.e5]
  rfl

theorem normed_at (j : ℕ) (hj : j < 2) (i : Fin 256) (d : Fin 1024) :
    normed x0 x1 x2 x3 x4 x5 x6 j hj (ix2 i d) = rms (res A ⟨512 * t + (256 * j + i.val), by omega⟩) A.gp d := by
  unfold normed
  rw [normRows_at]
  simp only [resid_at H, gain_at, H.e6]

/-- The hidden columns: the carried rows, then the rows' own up projection. -/
theorem hidden_at (h k : ℕ) (hh : h < 2) (hk : k < 11) (j : ℕ) (hj : j < 2) (i : Fin 272) (e : Fin 256) :
    hidden x0 x1 x2 x3 x4 x5 x6 x7 T h k hh hk j hj (ix2 i e)
      = if hi : i.val + 256 * j < 16 then T (ix4 ⟨k, hk⟩ ⟨h, hh⟩ ⟨i.val, by omega⟩ e)
        else up A ⟨512 * t + (256 * j + i.val) - 16, by omega⟩ ⟨2816 * h + 256 * k + e.val, by omega⟩ := by
  induction j generalizing i with
  | zero =>
    unfold Tile.hidden
    rw [upRows_at]
    by_cases hi : i.val < 16
    · rw [dif_pos hi, dif_pos (by omega), tailIn_at]
    · rw [dif_neg hi, dif_neg (by omega)]
      simp only [normed_at H, upCols_at, H.e7]
      exact congrArg (fun n => up A n _) (Fin.ext (by show 512 * t + (256 * 0 + (i.val - 16)) = 512 * t + (256 * 0 + i.val) - 16; omega))
  | succ j ih =>
    obtain rfl : j = 0 := by omega
    unfold Tile.hidden
    rw [upRows_at, dif_neg (show ¬ (i.val + 256 * (0 + 1) < 16) by omega)]
    by_cases hi : i.val < 16
    · rw [dif_pos hi, lastRows_at, ih, dif_neg (by show ¬ (256 + i.val + 256 * 0 < 16); omega)]
      exact congrArg (fun n => up A n _) (Fin.ext (by show 512 * t + (256 * 0 + (256 + i.val)) - 16 = 512 * t + (256 * (0 + 1) + i.val) - 16; omega))
    · rw [dif_neg hi]
      simp only [normed_at H, upCols_at, H.e7]
      exact congrArg (fun n => up A n _) (Fin.ext (by show 512 * t + (256 * (0 + 1) + (i.val - 16)) = 512 * t + (256 * (0 + 1) + i.val) - 16; omega))

/-- The last sixteen rows of the second group are those before the next tile. -/
theorem last_at (h k : ℕ) (hh : h < 2) (hk : k < 11) (r : Fin 16) (e : Fin 256) :
    lastRows (hidden x0 x1 x2 x3 x4 x5 x6 x7 T h k hh hk 1 (by decide)) (ix4 0 0 r e)
      = up A ⟨512 * (t + 1) + r.val - 16, by omega⟩ ⟨2816 * h + 256 * k + e.val, by omega⟩ := by
  rw [lastRows_at, hidden_at H, dif_neg (by show ¬ (256 + r.val + 256 * 1 < 16); omega)]
  exact congrArg (fun n => up A n _) (Fin.ext (by show 512 * t + (256 * 1 + (256 + r.val)) - 16 = 512 * (t + 1) + r.val - 16; omega))

include hT

/-- A hidden row `s` rows back, as the convolution reads it. -/
theorem back_at (h k : ℕ) (hh : h < 2) (hk : k < 11) (j : ℕ) (hj : j < 2) (s : ℕ) (hs : s ≤ 2) (i : Fin 256) (e : Fin 256) (q : ℕ) (hq : q + s = i.val + 16) :
    hidden x0 x1 x2 x3 x4 x5 x6 x7 T h k hh hk j hj (ix2 ⟨q, by omega⟩ e)
      = upBack A s ⟨512 * t + (256 * j + i.val), by omega⟩ ⟨2816 * h + 256 * k + e.val, by omega⟩ := by
  rw [hidden_at H]
  unfold upBack
  by_cases hi : q + 256 * j < 16
  · rw [dif_pos hi, hT]
    by_cases h8 : t % 8 = 0
    · rw [if_pos h8, if_pos (by show (512 * t + (256 * j + i.val)) % 4096 < s; omega)]
    · rw [if_neg h8, if_neg (by show ¬ (512 * t + (256 * j + i.val)) % 4096 < s; omega)]
      exact congrArg (fun n => up A n _) (Fin.ext (by show 512 * t + q - 16 = 512 * t + (256 * j + i.val) - s; omega))
  · rw [dif_neg hi, if_neg (by show ¬ (512 * t + (256 * j + i.val)) % 4096 < s; omega)]
    exact congrArg (fun n => up A n _) (Fin.ext (by show 512 * t + (256 * j + q) - 16 = 512 * t + (256 * j + i.val) - s; omega))

theorem conved_at (h k : ℕ) (hh : h < 2) (hk : k < 11) (j : ℕ) (hj : j < 2) (i : Fin 256) (e : Fin 256) :
    conved x0 x1 x2 x3 x4 x5 x6 x7 x8 x9 T h k hh hk j hj (ix2 i e)
      = conv A ⟨512 * t + (256 * j + i.val), by omega⟩ ⟨2816 * h + 256 * k + e.val, by omega⟩ := by
  unfold conved
  rw [convRows_at, back_at H hT h k hh hk j hj 0 (by omega) i e (i.val + 16) rfl, back_at H hT h k hh hk j hj 1 (by omega) i e (i.val + 15) rfl,
    back_at H hT h k hh hk j hj 2 (by omega) i e (i.val + 14) rfl]
  simp only [tapCols_at, biasCols_at, H.e8, H.e9]
  rfl

/-- One term of the down projection, the hidden columns numbered by natural numbers. -/
def term (A : Inputs) (n : Fin 32768) (d : Fin 1024) (c : ℕ) : EReal := if h : c < 2816 then act A n ⟨c, h⟩ * A.wd ⟨c, h⟩ d else 0

theorem accum_at (j : ℕ) (hj : j < 2) (k : ℕ) (hk : k ≤ 11) (i : Fin 256) (d : Fin 1024) :
    accum x0 x1 x2 x3 x4 x5 x6 x7 x8 x9 x10 T j hj k hk (ix2 i d)
      = ∑ c ∈ Finset.range (256 * k), term A ⟨512 * t + (256 * j + i.val), by omega⟩ d c := by
  induction k with
  | zero =>
    unfold accum
    rw [zeroRows_at]
    simp
  | succ k ih =>
    unfold accum
    rw [downRows_at, ih, show 256 * (k + 1) = 256 * k + 256 by omega, Finset.sum_range_add, Finset.sum_range (fun c => term _ _ _ (256 * k + c))]
    refine congrArg₂ (· + ·) rfl (Finset.sum_congr rfl fun e _ => ?_)
    rw [gateRows_at, conved_at H hT, conved_at H hT, downBlk_at, H.e10]
    unfold term
    rw [dif_pos (by omega)]
    unfold act
    refine congrArg₂ (· * ·) (congrArg₂ gate ?_ ?_) rfl
    · exact congrArg (conv A _) (Fin.ext (by show 2816 * 0 + 256 * k + e.val = 256 * k + e.val; omega))
    · exact congrArg (conv A _) (Fin.ext (by show 2816 * 1 + 256 * k + e.val = 2816 + (256 * k + e.val); omega))

/-- The result rows of a group are the layer's. -/
theorem result_at (j : ℕ) (hj : j < 2) (i : Fin 256) (d : Fin 1024) :
    result x0 x1 x2 x3 x4 x5 x6 x7 x8 x9 x10 x11 T j hj (ix2 i d) = out A ⟨512 * t + (256 * j + i.val), by omega⟩ d := by
  unfold result out
  rw [outRows_at, resid_at H]
  simp only [accum_at H hT, gain_at, H.e11]
  refine congrArg₂ (· + ·) rfl (congrArg (fun f => rms f _ d) (funext fun k => ?_))
  rw [show 256 * 11 = 2816 from rfl, Finset.sum_range]
  exact Finset.sum_congr rfl fun e _ => by unfold term; rw [dif_pos e.isLt]

end Cert.FfnIdeal.Group

end
-- ==== Proof.FfnBlocks.lean ====
/- What the windows' blocks of the call hold, in terms of the arguments, at the ideal instance. -/
module

public import proofs.«01_k».proof.Proof.FfnGroup
public import Idealize.ShloMosaic.Lib.Claim

@[expose] public section

set_option maxRecDepth 16384

noncomputable section

namespace Cert.FfnIdeal.Blk

open Idealize.ShloMosaic Idealize.ShloMosaic.TcCoe
open Cert.FfnIdeal Cert.FfnIdeal.Gen Cert.FfnSpec

variable (m : (ℓ : Loc nD τ sig) → Buf (Elt Ideal) ℓ) (c : Dev nD)

/-- The call's arguments, named. -/
def inputs : Inputs where
  h2 n d := m ((c : Thread nD τ).loc main_arg0) (ix2 n d)
  a1 n e := m ((c : Thread nD τ).loc main_arg1) (ix2 n e)
  a2 n e := m ((c : Thread nD τ).loc main_arg2) (ix2 n e)
  wo e d := m ((c : Thread nD τ).loc main_arg3) (ix2 e d)
  gm d := m ((c : Thread nD τ).loc main_arg4) (ix1 d)
  gp d := m ((c : Thread nD τ).loc main_arg5) (ix1 d)
  wu d k := m ((c : Thread nD τ).loc main_arg6) (ix2 d k)
  cw a k := m ((c : Thread nD τ).loc main_arg7) (ix2 a k)
  cb k := m ((c : Thread nD τ).loc main_arg8) (ix1 k)
  wd e d := m ((c : Thread nD τ).loc main_arg9) (ix2 e d)
  gq d := m ((c : Thread nD τ).loc main_arg10) (ix1 d)

/-! ## The operands the host prepares -/

theorem main_v1_at (e : Fin 512) (d : Fin 1024) : (V m c main_v1 : Vec Ideal S512x1024 .bf16) (ix2 e d) = (inputs m c).wo ⟨e.val, by omega⟩ d := by
  entry_read
  pointwise [inputs]

theorem main_v3_at (e : Fin 512) (d : Fin 1024) : (V m c main_v3 : Vec Ideal S512x1024 .bf16) (ix2 e d) = (inputs m c).wo ⟨512 + e.val, by omega⟩ d := by
  entry_read
  pointwise [inputs]

theorem main_v4_at (d : Fin 1024) : (V m c main_v4 : Vec Ideal S1x1024 .f32) (ix2 0 d) = (inputs m c).gm d := by
  entry_read
  pointwise [inputs]

theorem main_v5_at (d : Fin 1024) : (V m c main_v5 : Vec Ideal S1x1024 .f32) (ix2 0 d) = (inputs m c).gp d := by
  entry_read
  pointwise [inputs]

theorem main_v6_at (d : Fin 1024) (k : Fin 5632) : (V m c main_v6 : Vec Ideal S1024x5632 .bf16) (ix2 d k) = (inputs m c).wu d k := by
  entry_read
  pointwise [inputs]

theorem main_v7_at (k : Fin 5632) : (V m c main_v7 : Vec Ideal S1x5632 .f32) (ix2 0 k) = (inputs m c).cb k := by
  entry_read
  pointwise [inputs]

theorem main_v8_at (e : Fin 2816) (d : Fin 1024) : (V m c main_v8 : Vec Ideal S2816x1024 .bf16) (ix2 e d) = (inputs m c).wd e d := by
  entry_read
  pointwise [inputs]

theorem main_v9_at (d : Fin 1024) : (V m c main_v9 : Vec Ideal S1x1024 .f32) (ix2 0 d) = (inputs m c).gq d := by
  entry_read
  pointwise [inputs]

/-! ## The blocks -/

theorem index_0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t

theorem blk_0 (t : Fin cfg0.N) (ht : t.val < 64) (i : Fin 512) (d : Fin 1024) :
    (iblk m c 0 t : Vec Ideal S512x1024 .f32) (ix2 i d) = (inputs m c).h2 ⟨512 * t.val + i.val, by omega⟩ d := by
  have hi := index_0 t
  unfold iblk
  rw [View.read_apply]
  show V m c main_arg0 _ = m ((c : Thread nD τ).loc main_arg0) (ix2 _ d)
  rw [V_main_arg0]
  congr 1
  funext a
  apply Fin.ext
  match a with
  | ⟨0, _⟩ => show win0_0.index t (0 : Fin 2) * 512 + 1 * i.val = 512 * t.val + i.val; rw [hi.1]; omega
  | ⟨1, _⟩ => show win0_0.index t (1 : Fin 2) * 1024 + 1 * d.val = d.val; rw [hi.2]; omega

theorem index_1 (t : Fin cfg0.N) : win0_1.index t (0 : Fin 2) = t.val ∧ win0_1.index t (1 : Fin 2) = 0 :=
  (by decide +kernel : ∀ t : Fin grid0.N, win0_1.index t (0 : Fin 2) = t.val ∧ win0_1.index t (1 : Fin 2) = 0) t

theorem blk_1 (t : Fin cfg0.N) (ht : t.val < 64) (i : Fin 512) (d : Fin 512) :
    (iblk m c 1 t : Vec Ideal S512x512 .bf16) (ix2 i d) = (inputs m c).a1 ⟨512 * t.val + i.val, by omega⟩ d := by
  have hi := index_1 t
  unfold iblk
  rw [View.read_apply]
  show V m c main_arg1 _ = m ((c : Thread nD τ).loc main_arg1) (ix2 _ d)
  rw [V_main_arg1]
  congr 1
  funext a
  apply Fin.ext
  match a with
  | ⟨0, _⟩ => show win0_1.index t (0 : Fin 2) * 512 + 1 * i.val = 512 * t.val + i.val; rw [hi.1]; omega
  | ⟨1, _⟩ => show win0_1.index t (1 : Fin 2) * 512 + 1 * d.val = d.val; rw [hi.2]; omega

theorem index_2 (t : Fin cfg0.N) : win0_2.index t (0 : Fin 2) = t.val ∧ win0_2.index t (1 : Fin 2) = 0 :=
  (by decide +kernel : ∀ t : Fin grid0.N, win0_2.index t (0 : Fin 2) = t.val ∧ win0_2.index t (1 : Fin 2) = 0) t

theorem blk_2 (t : Fin cfg0.N) (ht : t.val < 64) (i : Fin 512) (d : Fin 512) :
    (iblk m c 2 t : Vec Ideal S512x512 .bf16) (ix2 i d) = (inputs m c).a2 ⟨512 * t.val + i.val, by omega⟩ d := by
  have hi := index_2 t
  unfold iblk
  rw [View.read_apply]
  show V m c main_arg2 _ = m ((c : Thread nD τ).loc main_arg2) (ix2 _ d)
  rw [V_main_arg2]
  congr 1
  funext a
  apply Fin.ext
  match a with
  | ⟨0, _⟩ => show win0_2.index t (0 : Fin 2) * 512 + 1 * i.val = 512 * t.val + i.val; rw [hi.1]; omega
  | ⟨1, _⟩ => show win0_2.index t (1 : Fin 2) * 512 + 1 * d.val = d.val; rw [hi.2]; omega

theorem index_3 (t : Fin cfg0.N) : win0_3.index t (0 : Fin 2) = 0 ∧ win0_3.index t (1 : Fin 2) = 0 :=
  (by decide +kernel : ∀ t : Fin grid0.N, win0_3.index t (0 : Fin 2) = 0 ∧ win0_3.index t (1 : Fin 2) = 0) t

theorem blk_3 (t : Fin cfg0.N) (i : Fin 512) (d : Fin 1024) :
    (iblk m c 3 t : Vec Ideal S512x1024 .bf16) (ix2 i d) = (V m c main_v1 : Vec Ideal S512x1024 .bf16) (ix2 i d) := by
  have hi := index_3 t
  unfold iblk
  rw [View.read_apply]
  show V m c main_v1 _ = V m c main_v1 (ix2 i d)
  congr 1
  funext a
  apply Fin.ext
  match a with
  | ⟨0, _⟩ => show win0_3.index t (0 : Fin 2) * 512 + 1 * i.val = i.val; rw [hi.1]; omega
  | ⟨1, _⟩ => show win0_3.index t (1 : Fin 2) * 1024 + 1 * d.val = d.val; rw [hi.2]; omega

theorem index_4 (t : Fin cfg0.N) : win0_4.index t (0 : Fin 2) = 0 ∧ win0_4.index t (1 : Fin 2) = 0 :=
  (by decide +kernel : ∀ t : Fin grid0.N, win0_4.index t (0 : Fin 2) = 0 ∧ win0_4.index t (1 : Fin 2) = 0) t

theorem blk_4 (t : Fin cfg0.N) (i : Fin 512) (d : Fin 1024) :
    (iblk m c 4 t : Vec Ideal S512x1024 .bf16) (ix2 i d) = (V m c main_v3 : Vec Ideal S512x1024 .bf16) (ix2 i d) := by
  have hi := index_4 t
  unfold iblk
  rw [View.read_apply]
  show V m c main_v3 _ = V m c main_v3 (ix2 i d)
  congr 1
  funext a
  apply Fin.ext
  match a with
  | ⟨0, _⟩ => show win0_4.index t (0 : Fin 2) * 512 + 1 * i.val = i.val; rw [hi.1]; omega
  | ⟨1, _⟩ => show win0_4.index t (1 : Fin 2) * 1024 + 1 * d.val = d.val; rw [hi.2]; omega

theorem index_5 (t : Fin cfg0.N) : win0_5.index t (0 : Fin 2) = 0 ∧ win0_5.index t (1 : Fin 2) = 0 :=
  (by decide +kernel : ∀ t : Fin grid0.N, win0_5.index t (0 : Fin 2) = 0 ∧ win0_5.index t (1 : Fin 2) = 0) t

theorem blk_5 (t : Fin cfg0.N) (i : Fin 1) (d : Fin 1024) :
    (iblk m c 5 t : Vec Ideal S1x1024 .f32) (ix2 i d) = (V m c main_v4 : Vec Ideal S1x1024 .f32) (ix2 i d) := by
  have hi := index_5 t
  unfold iblk
  rw [View.read_apply]
  show V m c main_v4 _ = V m c main_v4 (ix2 i d)
  congr 1
  funext a
  apply Fin.ext
  match a with
  | ⟨0, _⟩ => show win0_5.index t (0 : Fin 2) * 1 + 1 * i.val = i.val; rw [hi.1]; omega
  | ⟨1, _⟩ => show win0_5.index t (1 : Fin 2) * 1024 + 1 * d.val = d.val; rw [hi.2]; omega

theorem index_6 (t : Fin cfg0.N) : win0_6.index t (0 : Fin 2) = 0 ∧ win0_6.index t (1 : Fin 2) = 0 :=
  (by decide +kernel : ∀ t : Fin grid0.N, win0_6.index t (0 : Fin 2) = 0 ∧ win0_6.index t (1 : Fin 2) = 0) t

theorem blk_6 (t : Fin cfg0.N) (i : Fin 1) (d : Fin 1024) :
    (iblk m c 6 t : Vec Ideal S1x1024 .f32) (ix2 i d) = (V m c main_v5 : Vec Ideal S1x1024 .f32) (ix2 i d) := by
  have hi := index_6 t
  unfold iblk
  rw [View.read_apply]
  show V m c main_v5 _ = V m c main_v5 (ix2 i d)
  congr 1
  funext a
  apply Fin.ext
  match a with
  | ⟨0, _⟩ => show win0_6.index t (0 : Fin 2) * 1 + 1 * i.val = i.val; rw [hi.1]; omega
  | ⟨1, _⟩ => show win0_6.index t (1 : Fin 2) * 1024 + 1 * d.val = d.val; rw [hi.2]; omega

theorem index_7 (t : Fin cfg0.N) : win0_7.index t (0 : Fin 2) = 0 ∧ win0_7.index t (1 : Fin 2) = 0 :=
  (by decide +kernel : ∀ t : Fin grid0.N, win0_7.index t (0 : Fin 2) = 0 ∧ win0_7.index t (1 : Fin 2) = 0) t

theorem blk_7 (t : Fin cfg0.N) (i : Fin 1024) (d : Fin 5632) :
    (iblk m c 7 t : Vec Ideal S1024x5632 .bf16) (ix2 i d) = (V m c main_v6 : Vec Ideal S1024x5632 .bf16) (ix2 i d) := by
  have hi := index_7 t
  unfold iblk
  rw [View.read_apply]
  show V m c main_v6 _ = V m c main_v6 (ix2 i d)
  congr 1
  funext a
  apply Fin.ext
  match a with
  | ⟨0, _⟩ => show win0_7.index t (0 : Fin 2) * 1024 + 1 * i.val = i.val; rw [hi.1]; omega
  | ⟨1, _⟩ => show win0_7.index t (1 : Fin 2) * 5632 + 1 * d.val = d.val; rw [hi.2]; omega

theorem index_8 (t : Fin cfg0.N) : win0_8.index t (0 : Fin 2) = 0 ∧ win0_8.index t (1 : Fin 2) = 0 :=
  (by decide +kernel : ∀ t : Fin grid0.N, win0_8.index t (0 : Fin 2) = 0 ∧ win0_8.index t (1 : Fin 2) = 0) t

theorem blk_8 (t : Fin cfg0.N) (i : Fin 3) (d : Fin 5632) :
    (iblk m c 8 t : Vec Ideal S3x5632 .f32) (ix2 i d) = (V m c main_arg7 : Vec Ideal S3x5632 .f32) (ix2 i d) := by
  have hi := index_8 t
  unfold iblk
  rw [View.read_apply]
  show V m c main_arg7 _ = V m c main_arg7 (ix2 i d)
  congr 1
  funext a
  apply Fin.ext
  match a with
  | ⟨0, _⟩ => show win0_8.index t (0 : Fin 2) * 3 + 1 * i.val = i.val; rw [hi.1]; omega
  | ⟨1, _⟩ => show win0_8.index t (1 : Fin 2) * 5632 + 1 * d.val = d.val; rw [hi.2]; omega

theorem index_9 (t : Fin cfg0.N) : win0_9.index t (0 : Fin 2) = 0 ∧ win0_9.index t (1 : Fin 2) = 0 :=
  (by decide +kernel : ∀ t : Fin grid0.N, win0_9.index t (0 : Fin 2) = 0 ∧ win0_9.index t (1 : Fin 2) = 0) t

theorem blk_9 (t : Fin cfg0.N) (i : Fin 1) (d : Fin 5632) :
    (iblk m c 9 t : Vec Ideal S1x5632 .f32) (ix2 i d) = (V m c main_v7 : Vec Ideal S1x5632 .f32) (ix2 i d) := by
  have hi := index_9 t
  unfold iblk
  rw [View.read_apply]
  show V m c main_v7 _ = V m c main_v7 (ix2 i d)
  congr 1
  funext a
  apply Fin.ext
  match a with
  | ⟨0, _⟩ => show win0_9.index t (0 : Fin 2) * 1 + 1 * i.val = i.val; rw [hi.1]; omega
  | ⟨1, _⟩ => show win0_9.index t (1 : Fin 2) * 5632 + 1 * d.val = d.val; rw [hi.2]; omega

theorem index_10 (t : Fin cfg0.N) : win0_10.index t (0 : Fin 2) = 0 ∧ win0_10.index t (1 : Fin 2) = 0 :=
  (by decide +kernel : ∀ t : Fin grid0.N, win0_10.index t (0 : Fin 2) = 0 ∧ win0_10.index t (1 : Fin 2) = 0) t

theorem blk_10 (t : Fin cfg0.N) (i : Fin 2816) (d : Fin 1024) :
    (iblk m c 10 t : Vec Ideal S2816x1024 .bf16) (ix2 i d) = (V m c main_v8 : Vec Ideal S2816x1024 .bf16) (ix2 i d) := by
  have hi := index_10 t
  unfold iblk
  rw [View.read_apply]
  show V m c main_v8 _ = V m c main_v8 (ix2 i d)
  congr 1
  funext a
  apply Fin.ext
  match a with
  | ⟨0, _⟩ => show win0_10.index t (0 : Fin 2) * 2816 + 1 * i.val = i.val; rw [hi.1]; omega
  | ⟨1, _⟩ => show win0_10.index t (1 : Fin 2) * 1024 + 1 * d.val = d.val; rw [hi.2]; omega

theorem index_11 (t : Fin cfg0.N) : win0_11.index t (0 : Fin 2) = 0 ∧ win0_11.index t (1 : Fin 2) = 0 :=
  (by decide +kernel : ∀ t : Fin grid0.N, win0_11.index t (0 : Fin 2) = 0 ∧ win0_11.index t (1 : Fin 2) = 0) t

theorem blk_11 (t : Fin cfg0.N) (i : Fin 1) (d : Fin 1024) :
    (iblk m c 11 t : Vec Ideal S1x1024 .f32) (ix2 i d) = (V m c main_v9 : Vec Ideal S1x1024 .f32) (ix2 i d) := by
  have hi := index_11 t
  unfold iblk
  rw [View.read_apply]
  show V m c main_v9 _ = V m c main_v9 (ix2 i d)
  congr 1
  funext a
  apply Fin.ext
  match a with
  | ⟨0, _⟩ => show win0_11.index t (0 : Fin 2) * 1 + 1 * i.val = i.val; rw [hi.1]; omega
  | ⟨1, _⟩ => show win0_11.index t (1 : Fin 2) * 1024 + 1 * d.val = d.val; rw [hi.2]; omega

/-- The blocks of a point hold the arguments' rows of its tile, and the weights. -/
theorem blocks (t : Fin cfg0.N) (ht : t.val < 64) : Group.Blocks (inputs m c) t.val ht (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) where
  e0 i d := blk_0 m c t ht i d
  e1 i d := blk_1 m c t ht i d
  e2 i d := blk_2 m c t ht i d
  e3 e d := (blk_3 m c t e d).trans (main_v1_at m c e d)
  e4 e d := (blk_4 m c t e d).trans (main_v3_at m c e d)
  e5 d := (blk_5 m c t 0 d).trans (main_v4_at m c d)
  e6 d := (blk_6 m c t 0 d).trans (main_v5_at m c d)
  e7 d k := (blk_7 m c t d k).trans (main_v6_at m c d k)
  e8 a k := (blk_8 m c t a k).trans (congrFun (V_main_arg7 m c) _)
  e9 k := (blk_9 m c t 0 k).trans (main_v7_at m c k)
  e10 e d := (blk_10 m c t e d).trans (main_v8_at m c e d)
  e11 d := (blk_11 m c t 0 d).trans (main_v9_at m c d)

end Cert.FfnIdeal.Blk

end
-- ==== Proof.FfnPoint.lean ====
/- What each grid point of the call leaves in the result's block and in the carried rows, element by element. -/
module

public import proofs.«01_k».proof.Proof.FfnOutA
public import proofs.«01_k».proof.Proof.FfnOutB
public import proofs.«01_k».proof.Proof.FfnBlocks
public import proofs.«01_k».proof.Proof.Gen.FfnIdeal.Value

@[expose] public section

set_option maxRecDepth 4000

noncomputable section

namespace Cert.FfnIdeal.Point

open Idealize.ShloMosaic Idealize.ShloMosaic.TcCoe
open Cert.FfnIdeal Cert.FfnIdeal.Gen Cert.FfnIdeal.Tile Cert.FfnIdeal.Group Cert.FfnSpec Cert.FfnIdeal.Value

theorem fst_of {α β : Type} {p : α × β} {a : α} {b : β} (h : p = (a, b)) : p.1 = a := by rw [h]

theorem snd_of {α β : Type} {p : α × β} {a : α} {b : β} (h : p = (a, b)) : p.2 = b := by rw [h]

/-- What a buffer holds at a row under a store that a load of its rectangle reads back. -/
theorem rows_of_load (v : View sig .tc .vmem S512x1024 .f32) (L : List (View.Piece (Elt Ideal) S512x1024 .f32)) (o : ℕ)
    (inb : ∀ a : Fin 2, (![o, 0] : Fin 2 → ℕ) a + S256x1024.size a ≤ S512x1024.size a) (W : Vec Ideal S256x1024 .f32)
    (h : v.readCov L (Rect.unit ![o, 0] S256x1024.size inb : Rect S512x1024).toLoadRect = W) (i : Fin 256) (d : Fin 1024) (hi : o + i.val < 512) :
    v.read (Elt Ideal) (v.writes (Elt Ideal) v.junk L) (ix2 ⟨o + i.val, hi⟩ d) = W (ix2 i d) := by
  rw [View.read_writes_junk_eq_canon, ← h, View.readCov_eq_canon']
  refine congrArg (View.canon L) (funext fun a => Fin.ext ?_)
  match a with
  | ⟨0, _⟩ => show o + i.val = o + 1 * i.val; omega
  | ⟨1, _⟩ => show d.val = 0 + 1 * d.val; omega

/-- The same of the carried rows. -/
theorem tails_of_load (v : View sig .tc .vmem S11x2x16x256 .f32) (L : List (View.Piece (Elt Ideal) S11x2x16x256 .f32)) (k h : ℕ) (hk : k < 11) (hh : h < 2)
    (inb : ∀ a : Fin 4, (![k, h, 0, 0] : Fin 4 → ℕ) a + S1x1x16x256.size a ≤ S11x2x16x256.size a) (W : Vec Ideal S1x1x16x256 .f32)
    (e : v.readCov L (Rect.unit ![k, h, 0, 0] S1x1x16x256.size inb : Rect S11x2x16x256).toLoadRect = W) (r : Fin 16) (l : Fin 256) :
    v.read (Elt Ideal) (v.writes (Elt Ideal) v.junk L) (ix4 ⟨k, hk⟩ ⟨h, hh⟩ r l) = W (ix4 0 0 r l) := by
  rw [View.read_writes_junk_eq_canon, ← e, View.readCov_eq_canon']
  refine congrArg (View.canon L) (funext fun a => Fin.ext ?_)
  match a with
  | ⟨0, _⟩ => show k = k + 1 * 0; omega
  | ⟨1, _⟩ => show h = h + 1 * 0; omega
  | ⟨2, _⟩ => show r.val = 0 + 1 * r.val; omega
  | ⟨3, _⟩ => show l.val = 0 + 1 * l.val; omega

section CaseA

variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S11x2x16x256 .f32) (harg16 : arg16.IsWhole) (hc0 : cond0_0 i)
    (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S1x1024 .f32) (x6 : Vec Ideal S1x1024 .f32) (x7 : Vec Ideal S1024x5632 .bf16) (x8 : Vec Ideal S3x5632 .f32) (x9 : Vec Ideal S1x5632 .f32) (x10 : Vec Ideal S2816x1024 .bf16) (x11 : Vec Ideal S1x1024 .f32)

/-- What the run leaves in each of the carried blocks of rows. -/
theorem tail_A (v : View sig .tc .vmem S11x2x16x256 .f32) : ∀ (k : ℕ) (hk : k < 11) (h : ℕ) (hh : h < 2),
    v.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 (Rect.unit ![k, h, 0, 0] S1x1x16x256.size (inb4 (by omega) (by omega) (by omega) (by omega)) : Rect S11x2x16x256).toLoadRect
      = lastRows (hidden x0 x1 x2 x3 x4 x5 x6 x7 (zeroTails (F := Ideal)) h k hh hk 1 (by decide))
  | 0, _, 0, _ => RunA.tail_0_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 0, _, 1, _ => RunA.tail_0_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 1, _, 0, _ => RunA.tail_1_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 1, _, 1, _ => RunA.tail_1_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 2, _, 0, _ => RunA.tail_2_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 2, _, 1, _ => RunA.tail_2_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 3, _, 0, _ => RunA.tail_3_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 3, _, 1, _ => RunA.tail_3_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 4, _, 0, _ => RunA.tail_4_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 4, _, 1, _ => RunA.tail_4_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 5, _, 0, _ => RunA.tail_5_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 5, _, 1, _ => RunA.tail_5_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 6, _, 0, _ => RunA.tail_6_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 6, _, 1, _ => RunA.tail_6_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 7, _, 0, _ => RunA.tail_7_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 7, _, 1, _ => RunA.tail_7_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 8, _, 0, _ => RunA.tail_8_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 8, _, 1, _ => RunA.tail_8_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 9, _, 0, _ => RunA.tail_9_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 9, _, 1, _ => RunA.tail_9_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 10, _, 0, _ => RunA.tail_10_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | 10, _, 1, _ => RunA.tail_10_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 v
  | _, _, h + 2, hh => absurd hh (by omega)
  | k + 11, hk, _, _ => absurd hk (by omega)

variable {A : Inputs} {t : ℕ} {ht : t < 64} (H : Blocks A t ht x0 x1 x2 x3 x4 x5 x6 x7 x8 x9 x10 x11)

include H in
/-- The carried rows after the point: the last sixteen hidden rows of the tile. -/
theorem sout_A (k : Fin 11) (h : Fin 2) (r : Fin 16) (e : Fin 256) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 (ix4 k h r e)
      = up A ⟨512 * (t + 1) + r.val - 16, by omega⟩ ⟨2816 * h.val + 256 * k.val + e.val, by omega⟩ :=
  (tails_of_load VS0_2 _ k.val h.val k.isLt h.isLt _ _ (tail_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 VS0_2 k.val k.isLt h.val h.isLt) r e).trans
    (last_at H h.val k.val h.isLt k.isLt r e)

include H in
/-- The result's block after the point, from carried rows that are the ones before the tile. -/
theorem out_A (hT : Carried A t ht (zeroTails (F := Ideal))) (w : Fin 512) (d : Fin 1024) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 (ix2 w d) = out A ⟨512 * t + w.val, by omega⟩ d := by
  by_cases hi : w.val < 256
  · have e := (rows_of_load VO0_12 _ 0 _ _ (RunA.out_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 VO0_12) ⟨w.val, hi⟩ d (by show 0 + w.val < 512; omega)).trans
      (result_at H hT 0 (by decide) ⟨w.val, hi⟩ d)
    have h1 : (⟨0 + w.val, by omega⟩   : Fin 512) = w := Fin.ext (Nat.zero_add _)
    rw [← h1]
    refine e.trans (congrArg (fun n => out A n d) (Fin.ext ?_))
    show 512 * t + (256 * 0 + w.val) = 512 * t + (0 + w.val)
    omega
  · have hj : w.val - 256 < 256 := by omega
    have e := (rows_of_load VO0_12 _ 256 _ _ (RunA.out_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 VO0_12) ⟨w.val - 256, hj⟩ d (by show 256 + (w.val - 256) < 512; omega)).trans
      (result_at H hT 1 (by decide) ⟨w.val - 256, hj⟩ d)
    have h1 : (⟨256 + (w.val - 256), by omega⟩   : Fin 512) = w := Fin.ext (by show 256 + (w.val - 256) = w.val; omega)
    rw [← h1]
    refine e.trans (congrArg (fun n => out A n d) (Fin.ext ?_))
    show 512 * t + (256 * 1 + (w.val - 256)) = 512 * t + (256 + (w.val - 256))
    omega

end CaseA

section CaseB

variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S11x2x16x256 .f32) (harg16 : arg16.IsWhole) (hc0 : ¬cond0_0 i)
    (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S1x1024 .f32) (x6 : Vec Ideal S1x1024 .f32) (x7 : Vec Ideal S1024x5632 .bf16) (x8 : Vec Ideal S3x5632 .f32) (x9 : Vec Ideal S1x5632 .f32) (x10 : Vec Ideal S2816x1024 .bf16) (x11 : Vec Ideal S1x1024 .f32) (xs2 : Vec Ideal S11x2x16x256 .f32)

/-- What the run leaves in each of the carried blocks of rows. -/
theorem tail_B (v : View sig .tc .vmem S11x2x16x256 .f32) : ∀ (k : ℕ) (hk : k < 11) (h : ℕ) (hh : h < 2),
    v.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2).2.1 (Rect.unit ![k, h, 0, 0] S1x1x16x256.size (inb4 (by omega) (by omega) (by omega) (by omega)) : Rect S11x2x16x256).toLoadRect
      = lastRows (hidden x0 x1 x2 x3 x4 x5 x6 x7 xs2 h k hh hk 1 (by decide))
  | 0, _, 0, _ => RunB.tail_0_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 0, _, 1, _ => RunB.tail_0_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 1, _, 0, _ => RunB.tail_1_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 1, _, 1, _ => RunB.tail_1_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 2, _, 0, _ => RunB.tail_2_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 2, _, 1, _ => RunB.tail_2_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 3, _, 0, _ => RunB.tail_3_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 3, _, 1, _ => RunB.tail_3_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 4, _, 0, _ => RunB.tail_4_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 4, _, 1, _ => RunB.tail_4_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 5, _, 0, _ => RunB.tail_5_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 5, _, 1, _ => RunB.tail_5_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 6, _, 0, _ => RunB.tail_6_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 6, _, 1, _ => RunB.tail_6_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 7, _, 0, _ => RunB.tail_7_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 7, _, 1, _ => RunB.tail_7_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 8, _, 0, _ => RunB.tail_8_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 8, _, 1, _ => RunB.tail_8_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 9, _, 0, _ => RunB.tail_9_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 9, _, 1, _ => RunB.tail_9_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 10, _, 0, _ => RunB.tail_10_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | 10, _, 1, _ => RunB.tail_10_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 v
  | _, _, h + 2, hh => absurd hh (by omega)
  | k + 11, hk, _, _ => absurd hk (by omega)

variable {A : Inputs} {t : ℕ} {ht : t < 64} (H : Blocks A t ht x0 x1 x2 x3 x4 x5 x6 x7 x8 x9 x10 x11)

include H in
/-- The carried rows after the point: the last sixteen hidden rows of the tile. -/
theorem sout_B (k : Fin 11) (h : Fin 2) (r : Fin 16) (e : Fin 256) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 (ix4 k h r e)
      = up A ⟨512 * (t + 1) + r.val - 16, by omega⟩ ⟨2816 * h.val + 256 * k.val + e.val, by omega⟩ :=
  (tails_of_load VS0_2 _ k.val h.val k.isLt h.isLt _ _ (tail_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 VS0_2 k.val k.isLt h.val h.isLt) r e).trans
    (last_at H h.val k.val h.isLt k.isLt r e)

include H in
/-- The result's block after the point, from carried rows that are the ones before the tile. -/
theorem out_B (hT : Carried A t ht xs2) (w : Fin 512) (d : Fin 1024) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 (ix2 w d) = out A ⟨512 * t + w.val, by omega⟩ d := by
  by_cases hi : w.val < 256
  · have e := (rows_of_load VO0_12 _ 0 _ _ (RunB.out_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 VO0_12) ⟨w.val, hi⟩ d (by show 0 + w.val < 512; omega)).trans
      (result_at H hT 0 (by decide) ⟨w.val, hi⟩ d)
    have h1 : (⟨0 + w.val, by omega⟩   : Fin 512) = w := Fin.ext (Nat.zero_add _)
    rw [← h1]
    refine e.trans (congrArg (fun n => out A n d) (Fin.ext ?_))
    show 512 * t + (256 * 0 + w.val) = 512 * t + (0 + w.val)
    omega
  · have hj : w.val - 256 < 256 := by omega
    have e := (rows_of_load VO0_12 _ 256 _ _ (RunB.out_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs2 VO0_12) ⟨w.val - 256, hj⟩ d (by show 256 + (w.val - 256) < 512; omega)).trans
      (result_at H hT 1 (by decide) ⟨w.val - 256, hj⟩ d)
    have h1 : (⟨256 + (w.val - 256), by omega⟩   : Fin 512) = w := Fin.ext (by show 256 + (w.val - 256) = w.val; omega)
    rw [← h1]
    refine e.trans (congrArg (fun n => out A n d) (Fin.ext ?_))
    show 512 * t + (256 * 1 + (w.val - 256)) = 512 * t + (256 + (w.val - 256))
    omega

end CaseB

variable (m : (ℓ : Loc nD τ sig) → Buf (Elt Ideal) ℓ) (c : Dev nD)

/-- A point that opens a sequence: its tile sees zeros before it. -/
theorem outs_A (t : Fin cfg0.N) (ht : t.val < 64) (h0 : t.val % 8 = 0) :
    (∀ (i : Fin 512) (d : Fin 1024), (outsAt0 m c t.val t.isLt).1 (ix2 i d) = out (Blk.inputs m c) ⟨512 * t.val + i.val, by omega⟩ d)
    ∧ ∀ (k : Fin 11) (h : Fin 2) (r : Fin 16) (e : Fin 256), (outsAt0 m c t.val t.isLt).2 (ix4 k h r e)
      = up (Blk.inputs m c) ⟨512 * (t.val + 1) + r.val - 16, by omega⟩ ⟨2816 * h.val + 256 * k.val + e.val, by omega⟩ := by
  have hT : Carried (Blk.inputs m c) t.val ht (zeroTails (F := Ideal)) := fun k h r e => by
    rw [if_pos h0]; exact Elem.zeroTails_at k h r e
  have E := outsAt0_A m c t h0
  refine ⟨fun i d => ?_, fun k h r e => ?_⟩
  · have e := out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (Blk.blocks m c t ht) hT i d
    exact (congrFun (fst_of E) (ix2 i d)).trans e
  · have q := sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (Blk.blocks m c t ht) k h r e
    exact (congrFun (snd_of E) (ix4 k h r e)).trans q

/-- Every other point: its tile sees the rows carried from the point before. -/
theorem outs_B (t : Fin cfg0.N) (ht : t.val < 64) (h0 : ¬ t.val % 8 = 0)
    (hT : Carried (Blk.inputs m c) t.val ht (outsAt0 m c (t.val - 1) (lt_of_le_of_lt (Nat.sub_le _ _) t.isLt)).2) :
    (∀ (i : Fin 512) (d : Fin 1024), (outsAt0 m c t.val t.isLt).1 (ix2 i d) = out (Blk.inputs m c) ⟨512 * t.val + i.val, by omega⟩ d)
    ∧ ∀ (k : Fin 11) (h : Fin 2) (r : Fin 16) (e : Fin 256), (outsAt0 m c t.val t.isLt).2 (ix4 k h r e)
      = up (Blk.inputs m c) ⟨512 * (t.val + 1) + r.val - 16, by omega⟩ ⟨2816 * h.val + 256 * k.val + e.val, by omega⟩ := by
  have E := outsAt0_B m c t h0
  refine ⟨fun i d => ?_, fun k h r e => ?_⟩
  · have e := out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2 (Blk.blocks m c t ht) hT i d
    exact (congrFun (fst_of E) (ix2 i d)).trans e
  · have q := sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2 (Blk.blocks m c t ht) k h r e
    exact (congrFun (snd_of E) (ix4 k h r e)).trans q

/-- After every point the result's block holds the layer's rows, and the carried rows are the sixteen hidden rows before the
    next tile. -/
theorem outs_at (n : ℕ) (hn : n < cfg0.N) (ht : n < 64) :
    (∀ (i : Fin 512) (d : Fin 1024), (outsAt0 m c n hn).1 (ix2 i d) = out (Blk.inputs m c) ⟨512 * n + i.val, by omega⟩ d)
    ∧ ∀ (k : Fin 11) (h : Fin 2) (r : Fin 16) (e : Fin 256), (outsAt0 m c n hn).2 (ix4 k h r e)
      = up (Blk.inputs m c) ⟨512 * (n + 1) + r.val - 16, by omega⟩ ⟨2816 * h.val + 256 * k.val + e.val, by omega⟩ := by
  induction n with
  | zero => exact outs_A m c ⟨0, hn⟩ ht (Nat.zero_mod _)
  | succ n ih =>
    by_cases h0 : (n + 1) % 8 = 0
    · exact outs_A m c ⟨n + 1, hn⟩ ht h0
    · exact outs_B m c ⟨n + 1, hn⟩ ht h0 fun k h r e => by
        rw [if_neg h0]; exact (ih (Nat.lt_of_succ_lt hn) (by omega)).2 k h r e

/-- The array the call leaves is the layer's result. -/
theorem array_at (n : Fin 32768) (d : Fin 1024) : (G12 m c : Vec Ideal S32768x1024 .f32) (ix2 n d) = out (Blk.inputs m c) n d := by
  have hN : cfg0.N = 64 := N_0
  have hp : pt12Of (ix2 n d) = n.val / 512 := by show 1 * (n.val / 512 - 0) + 1 * (d.val / 1024 - 0) = n.val / 512; omega
  have hlt : n.val / 512 < 64 := by omega
  have hl : loc12Of (ix2 n d) = ix2 ⟨n.val % 512, by omega⟩ d := funext fun a => Fin.ext (by
    match a with
    | ⟨0, _⟩ => rfl
    | ⟨1, _⟩ => show d.val % 1024 = d.val; omega)
  unfold G12
  rw [dif_pos (by rw [hp, hN]; exact hlt), ← outsAt0_sweep, hl]
  have e := (outs_at m c (pt12Of (ix2 n d)) (by rw [hp, hN]; exact hlt) (by rw [hp]; exact hlt)).1 ⟨n.val % 512, by omega⟩ d
  refine e.trans (congrArg (fun k => out (Blk.inputs m c) k d) (Fin.ext ?_))
  show 512 * pt12Of (ix2 n d) + n.val % 512 = n.val
  rw [hp]
  omega

end Cert.FfnIdeal.Point

end
-- ==== Proof.FfnRefElem.lean ====
/- The reference's result, element by element. -/
module

public import proofs.«01_k».proof.Proof.Gen.FfnReferenceIdeal.Run
public import proofs.«01_k».proof.Proof.FfnSpec

@[expose] public section

set_option maxRecDepth 16384

noncomputable section

namespace Cert.FfnReferenceIdeal.Elem

open Idealize.ShloMosaic Idealize.ShloMosaic.TcCoe
open Cert.FfnReferenceIdeal Cert.FfnReferenceIdeal.Value Cert.FfnSpec

variable (V : Valuation τ sig (Elt Ideal))

/-- The reference's arguments, named. -/
def inputs : Inputs where
  h2 n d := V (Proc.devRef .tc main_arg0) (ix2 n d)
  a1 n e := V (Proc.devRef .tc main_arg1) (ix2 n e)
  a2 n e := V (Proc.devRef .tc main_arg2) (ix2 n e)
  wo e d := V (Proc.devRef .tc main_arg3) (ix2 e d)
  gm d := V (Proc.devRef .tc main_arg4) (ix1 d)
  gp d := V (Proc.devRef .tc main_arg5) (ix1 d)
  wu d c := V (Proc.devRef .tc main_arg6) (ix2 d c)
  cw t c := V (Proc.devRef .tc main_arg7) (ix2 t c)
  cb c := V (Proc.devRef .tc main_arg8) (ix1 c)
  wd e d := V (Proc.devRef .tc main_arg9) (ix2 e d)
  gq d := V (Proc.devRef .tc main_arg10) (ix1 d)

theorem v3_at (n : Fin 32768) (k : Fin 1024) : res_main_v3 V (ix2 n k)
    = (∑ e : Fin 512, (inputs V).a1 n e * (inputs V).wo ⟨e.val, by omega⟩ k) + ∑ e : Fin 512, (inputs V).a2 n e * (inputs V).wo ⟨512 + e.val, by omega⟩ k := by
  pointwise [res_main_v3, inputs]

theorem v17_at (n : Fin 32768) (d : Fin 1024) : res_main_v17 V (ix2 n d) = res (inputs V) n d := by
  pointwise [res_main_v17, v3_at, res, rms]
  rfl

theorem v33_at (b : Fin 8) (s : Fin 4098) (c : Fin 5632) : res_main_v33 V (ix3 b s c)
    = if h : s.val < 2 then 0 else up (inputs V) ⟨b.val * 4096 + (s.val - 2), by omega⟩ c := by
  pointwise [res_main_v33, v17_at, up, rms]
  by_cases h : s.val < 2
  · rw [dif_neg (by omega), dif_pos h]
    first
    | exact Ideal.sitofp_zero _
    | (show ((((0#32 : BitVec 32).toInt : ℝ)) : EReal) = 0; simp)
  · rw [dif_pos ⟨by omega, by omega⟩, dif_neg h]
    rfl

theorem upBack_eq (s : ℕ) (hs : s ≤ 2) (n : Fin 32768) (c : Fin 5632) (r : ℕ) (hr : r + s = n.val % 4096 + 2) :
    (if h : r < 2 then 0 else up (inputs V) ⟨n.val / 4096 * 4096 + (r - 2), by omega⟩ c) = upBack (inputs V) s n c := by
  unfold upBack
  by_cases h : r < 2
  · rw [dif_pos h, if_pos (by omega)]
  · rw [dif_neg h, if_neg (by omega)]
    exact congrArg (fun k => up (inputs V) k c) (Fin.ext (by show n.val / 4096 * 4096 + (r - 2) = n.val - s; omega))

theorem v59_at (n : Fin 32768) (c : Fin 5632) : res_main_v59 V (ix2 n c) = conv (inputs V) n c := by
  pointwise [res_main_v59, v33_at, conv]
  have h2 := upBack_eq V 2 le_rfl n c (n.val % 4096) rfl
  have h1 := upBack_eq V 1 (by omega) n c (1 + n.val % 4096) (by omega)
  have h0 : (⟨n.val / 4096 * 4096 + n.val % 4096, by omega⟩ : Fin 32768) = n := Fin.ext (by show n.val / 4096 * 4096 + n.val % 4096 = n.val; omega)
  have key : ∀ x y z b : EReal, x + y + z + b = z + y + x + b := fun x y z b => by
    rw [add_comm (x + y) z, add_comm x y, add_assoc z y x]
  rw [h2, h1, h0]
  exact key _ _ _ _

theorem v76_at (n : Fin 32768) (d : Fin 1024) : res_main_v76 V (ix2 n d) = ∑ e, act (inputs V) n e * (inputs V).wd e d := by
  pointwise [res_main_v76, res_main_v60, v59_at, act, gate]
  rfl

/-- The reference's result is the layer's. -/
theorem v90_at (n : Fin 32768) (d : Fin 1024) : val2 V (Proc.devRef .tc main_v90) (ix2 n d) = out (inputs V) n d := by
  rw [val2_main_v90]
  pointwise [v17_at, v76_at, out, rms]
  rfl

end Cert.FfnReferenceIdeal.Elem

end
-- ==== Proof.FfnValue.lean ====
/- The call and its reference, side by side: on equal arguments they leave the same array. -/
module

public import proofs.«01_k».proof.Proof.FfnPoint
public import proofs.«01_k».proof.Proof.FfnRefElem

@[expose] public section

noncomputable section

namespace Cert.FfnValue

open Idealize.ShloMosaic Idealize.ShloMosaic.TcCoe Idealize.SL.Sem
open Cert.FfnSpec Idealize.ShloMosaic.StableHlo

variable (m : (ℓ : Loc Cert.FfnIdeal.nD Cert.FfnIdeal.τ Cert.FfnIdeal.sig) → Buf (Elt Ideal) ℓ)
  (m' : (ℓ : Loc Cert.FfnReferenceIdeal.nD Cert.FfnReferenceIdeal.τ Cert.FfnReferenceIdeal.sig) → Buf (Elt Ideal) ℓ)
  (c : Dev Cert.FfnIdeal.nD)

/-- The two programs' arguments, read from two memories that agree on them, are one record. -/
theorem inputs_eq
    (h0 : m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0))
    (h1 : m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1))
    (h2 : m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2))
    (h3 : m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3))
    (h4 : m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4))
    (h5 : m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5))
    (h6 : m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6))
    (h7 : m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7))
    (h8 : m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8))
    (h9 : m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9))
    (h10 : m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)) :
    Cert.FfnReferenceIdeal.Elem.inputs (launchContents m' c) = Cert.FfnIdeal.Blk.inputs m c := by
  unfold Cert.FfnReferenceIdeal.Elem.inputs Cert.FfnIdeal.Blk.inputs
  rw [Inputs.mk.injEq]
  refine ⟨?_, ?_, ?_, ?_, ?_, ?_, ?_, ?_, ?_, ?_, ?_⟩
  · exact funext fun n => funext fun d => congrFun h0 (ix2 n d)
  · exact funext fun n => funext fun d => congrFun h1 (ix2 n d)
  · exact funext fun n => funext fun d => congrFun h2 (ix2 n d)
  · exact funext fun n => funext fun d => congrFun h3 (ix2 n d)
  · exact funext fun d => congrFun h4 (ix1 d)
  · exact funext fun d => congrFun h5 (ix1 d)
  · exact funext fun n => funext fun d => congrFun h6 (ix2 n d)
  · exact funext fun n => funext fun d => congrFun h7 (ix2 n d)
  · exact funext fun d => congrFun h8 (ix1 d)
  · exact funext fun n => funext fun d => congrFun h9 (ix2 n d)
  · exact funext fun d => congrFun h10 (ix1 d)

/-- The reference's array is the call's. -/
theorem arrays_eq (h : Cert.FfnReferenceIdeal.Elem.inputs (launchContents m' c) = Cert.FfnIdeal.Blk.inputs m c) :
    (Cert.FfnReferenceIdeal.Value.val2 (launchContents m' c) (Proc.devRef .tc Cert.FfnReferenceIdeal.main_v90) : Vec Ideal Cert.FfnIdeal.S32768x1024 .f32)
      = (Cert.FfnIdeal.Value.G12 m c : Vec Ideal Cert.FfnIdeal.S32768x1024 .f32) := by
  funext i
  have e : i = ix2 (n0 := 32768) (n1 := 1024) (i 0) (i 1) := funext fun a => by
    match a with
    | ⟨0, _⟩ => rfl
    | ⟨1, _⟩ => rfl
  rw [e]
  exact (Cert.FfnReferenceIdeal.Elem.v90_at (launchContents m' c) (i 0) (i 1)).trans
    ((congrArg (fun A => out A (i 0) (i 1)) h).trans (Cert.FfnIdeal.Point.array_at m c (i 0) (i 1)).symm)

end Cert.FfnValue

end
-- ==== Proof.ProjBody.lean ====
/- What one tile of the input projection leaves in its three result blocks, element by element. -/
module

public import proofs.«01_k».proof.Proof.FfnSpec
public import proofs.«01_k».proof.Proof.Gen.ProjIdeal.Frame
public import Idealize.ShloMosaic.Lib.Pipeline.ReadBack
public import Idealize.ShloMosaic.Lib.WholeRead
public import Idealize.ShloMosaic.Lib.Pointwise

@[expose] public section

set_option maxRecDepth 16384

noncomputable section

namespace Cert.ProjIdeal.Body

open Idealize.ShloMosaic Idealize.ShloMosaic.TcCoe
open Cert.ProjIdeal Cert.ProjIdeal.Gen
open Cert.FfnSpec (rms)

/-- A load of a rectangle of a whole buffer reads the rectangle of its contents. -/
theorem load_eq {κ : Kind} {sp : Space} {s : Shape} {e : EltTy} {w : Memref sig κ sp s e} (h : w.IsWhole) (X : s.Idx → Elt Ideal e) (r : Rect s) :
    View.readAt (Elt Ideal) w.view r.toLoadRect (h.unread X) = View.ld X r :=
  funext fun x => h.readAt_unread X r.toLoadRect x

/-- A rectangle of a matrix, at an index. -/
theorem ld_at {A B p q : ℕ} {e : EltTy} (X : (⟨2, ![A, B]⟩ : Shape).Idx → Elt Ideal e) (a b : ℕ)
    (inb : ∀ k : Fin 2, (![a, b] : Fin 2 → ℕ) k + (![p, q] : Fin 2 → ℕ) k ≤ (⟨2, ![A, B]⟩ : Shape).size k) (i : Fin p) (j : Fin q)
    (hi : a + i.val < A) (hj : b + j.val < B) :
    View.ld X (Rect.unit (s := ⟨2, ![A, B]⟩) ![a, b] ![p, q] inb) (ix2 i j) = X (ix2 ⟨a + i.val, hi⟩ ⟨b + j.val, hj⟩) := by
  refine congrArg X (funext fun k => Fin.ext ?_)
  match k with
  | ⟨0, _⟩ => show a + 1 * i.val = a + i.val; omega
  | ⟨1, _⟩ => show b + 1 * j.val = b + j.val; omega

/-- What a buffer holds where a store put a value that a load of its rectangle reads back. -/
theorem at_of_load {s : Shape} {e : EltTy} (v : View sig .tc .vmem s e) (L : List (View.Piece (Elt Ideal) s e)) (r : Rect s) (W : r.shape.Idx → Elt Ideal e)
    (h : v.readCov L r.toLoadRect = W) (j : r.shape.Idx) (y : s.Idx) (hy : r.toLoadRect.idx j = y) :
    v.read (Elt Ideal) (v.writes (Elt Ideal) v.junk L) y = W j := by
  rw [View.read_writes_junk_eq_canon, ← h, View.readCov_eq_canon', ← hy]

/-! ## The payloads at an index -/

theorem norm_at (x : Vec Ideal S512x1024 .f32) (g : Vec Ideal S1x1024 .f32) (i : Fin 512) (d : Fin 1024) :
    k0_pay1 x g (ix2 i d) = rms (fun k => x (ix2 i k)) (fun k => g (ix2 0 k)) d := by
  pointwise [k0_pay1, rms]

theorem rows2_at (x : Vec Ideal S512x1024 .f32) (g : Vec Ideal S1x1024 .f32) (w : Vec Ideal S1024x512 .bf16) (i : Fin 512) (k : Fin 512) :
    k0_pay2 x g w (ix2 i k) = ∑ d, k0_pay1 x g (ix2 i d) * w (ix2 d k) := by
  pointwise [k0_pay2]

theorem rows3_at (x : Vec Ideal S512x1024 .f32) (g : Vec Ideal S1x1024 .f32) (w : Vec Ideal S1024x512 .bf16) (i : Fin 512) (k : Fin 512) :
    k0_pay3 x g w (ix2 i k) = ∑ d, k0_pay1 x g (ix2 i d) * w (ix2 d k) := by
  pointwise [k0_pay3]

theorem rows4_at (x : Vec Ideal S512x1024 .f32) (g : Vec Ideal S1x1024 .f32) (w : Vec Ideal S1024x256 .bf16) (i : Fin 512) (k : Fin 256) :
    k0_pay4 x g w (ix2 i k) = ∑ d, k0_pay1 x g (ix2 i d) * w (ix2 d k) := by
  pointwise [k0_pay4]

theorem rows5_at (x : FVec Ideal S512x1024 .bf16) (w : Vec Ideal S1024x512 .bf16) (i : Fin 512) (k : Fin 512) :
    k0_pay5 x w (ix2 i k) = ∑ d, x (ix2 i d) * w (ix2 d k) := by
  pointwise [k0_pay5]

theorem rows6_at (x : FVec Ideal S512x1024 .bf16) (w : Vec Ideal S1024x384 .bf16) (i : Fin 512) (k : Fin 384) :
    k0_pay6 x w (ix2 i k) = ∑ d, x (ix2 i d) * w (ix2 d k) := by
  pointwise [k0_pay6]

theorem cols7_at (x : FVec Ideal S512x1024 .bf16) (w : Vec Ideal S512x1024 .bf16) (k : Fin 512) (i : Fin 512) :
    k0_pay7 x w (ix3 0 k i) = ∑ d, w (ix2 k d) * x (ix2 i d) := by
  pointwise [k0_pay7]

theorem cols8_at (x : FVec Ideal S512x1024 .bf16) (w : Vec Ideal S512x1024 .bf16) (k : Fin 512) (i : Fin 512) :
    k0_pay8 x w (ix3 0 k i) = ∑ d, w (ix2 k d) * x (ix2 i d) := by
  pointwise [k0_pay8]

theorem cols9_at (x : FVec Ideal S512x1024 .bf16) (w : Vec Ideal S256x1024 .bf16) (k : Fin 256) (i : Fin 512) :
    k0_pay9 x w (ix3 0 k i) = ∑ d, w (ix2 k d) * x (ix2 i d) := by
  pointwise [k0_pay9]

/-! ## The three blocks -/

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1280 .bf16) (harg3 : arg3.IsWhole) (arg4 : Memref sig .tc .vmem S1024x896 .bf16) (harg4 : arg4.IsWhole) (arg5 : Memref sig .tc .vmem S1280x1024 .bf16) (harg5 : arg5.IsWhole) (arg6 : Memref sig .tc .vmem S512x1280 .bf16) (harg6 : arg6.IsWhole) (arg7 : Memref sig .tc .vmem S512x896 .f32) (harg7 : arg7.IsWhole) (arg8 : Memref sig .tc .vmem S1x1280x512 .bf16) (harg8 : arg8.IsWhole)
    (x0 : Vec Ideal S512x1024 .f32) (x1 : Vec Ideal S1x1024 .f32) (x2 : Vec Ideal S1024x1280 .bf16) (x3 : Vec Ideal S1024x896 .bf16) (x4 : Vec Ideal S1280x1024 .bf16)

/-- A tile's rows, normalized. -/
def xn : FVec Ideal S512x1024 .bf16 :=
  k0_pay1 (View.ld x0 (Rect.unit ![0, 0] S512x1024.size inb_S512x1024_S512x1024_0_0 : Rect S512x1024))
    (View.ld x1 (Rect.unit ![0, 0] S1x1024.size inb_S1x1024_S1x1024_0_0 : Rect S1x1024))

theorem xn_at (w : Fin 512) (d : Fin 1024) : xn x0 x1 (ix2 w d) = rms (fun e => x0 (ix2 w e)) (fun e => x1 (ix2 0 e)) d := by
  refine (norm_at _ _ w d).trans ?_
  congr 1
  · funext e
    exact (ld_at x0 0 0 _ w e (by omega) (by omega)).trans (congrArg x0 (by congr 1 <;> exact Fin.ext (Nat.zero_add _)))
  · funext e
    exact (ld_at x1 0 0 _ (0 : Fin 1) e (by decide) (by omega)).trans (congrArg x1 (by congr 1 <;> exact Fin.ext (Nat.zero_add _)))

theorem store5_0 (v : View sig .tc .vmem S512x1280 .bf16) : v.readCov (kernelRun0_A c i arg1 harg1 arg2 harg2 arg3 harg3 arg4 harg4 arg5 harg5 arg6 harg6 arg7 harg7 arg8 harg8 x0 x1 x2 x3 x4).1 (Rect.unit ![0, 0] S512x512.size inb_S512x1280_S512x512_0_0 : Rect S512x1280).toLoadRect
    = k0_pay2 (View.ld x0 (Rect.unit ![0, 0] S512x1024.size inb_S512x1024_S512x1024_0_0 : Rect S512x1024))
        (View.ld x1 (Rect.unit ![0, 0] S1x1024.size inb_S1x1024_S1x1024_0_0 : Rect S1x1024)) (View.ld x2 (Rect.unit ![0, 0] S1024x512.size inb_S1024x1280_S1024x512_0_0 : Rect S1024x1280)) := by
  unfold kernelRun0_A
  dsimp only
  iterate 2 refine (View.readCov_skip _ _ _ _ _ rfl).trans ?_
  refine (View.readCov_cons_toLoadRect _ _ _ _).trans ?_
  simp only [load_eq]

theorem store5_512 (v : View sig .tc .vmem S512x1280 .bf16) : v.readCov (kernelRun0_A c i arg1 harg1 arg2 harg2 arg3 harg3 arg4 harg4 arg5 harg5 arg6 harg6 arg7 harg7 arg8 harg8 x0 x1 x2 x3 x4).1 (Rect.unit ![0, 512] S512x512.size inb_S512x1280_S512x512_0_512 : Rect S512x1280).toLoadRect
    = k0_pay3 (View.ld x0 (Rect.unit ![0, 0] S512x1024.size inb_S512x1024_S512x1024_0_0 : Rect S512x1024))
        (View.ld x1 (Rect.unit ![0, 0] S1x1024.size inb_S1x1024_S1x1024_0_0 : Rect S1x1024)) (View.ld x2 (Rect.unit ![0, 512] S1024x512.size inb_S1024x1280_S1024x512_0_512 : Rect S1024x1280)) := by
  unfold kernelRun0_A
  dsimp only
  iterate 1 refine (View.readCov_skip _ _ _ _ _ rfl).trans ?_
  refine (View.readCov_cons_toLoadRect _ _ _ _).trans ?_
  simp only [load_eq]

theorem store5_1024 (v : View sig .tc .vmem S512x1280 .bf16) : v.readCov (kernelRun0_A c i arg1 harg1 arg2 harg2 arg3 harg3 arg4 harg4 arg5 harg5 arg6 harg6 arg7 harg7 arg8 harg8 x0 x1 x2 x3 x4).1 (Rect.unit ![0, 1024] S512x256.size inb_S512x1280_S512x256_0_1024 : Rect S512x1280).toLoadRect
    = k0_pay4 (View.ld x0 (Rect.unit ![0, 0] S512x1024.size inb_S512x1024_S512x1024_0_0 : Rect S512x1024))
        (View.ld x1 (Rect.unit ![0, 0] S1x1024.size inb_S1x1024_S1x1024_0_0 : Rect S1x1024)) (View.ld x2 (Rect.unit ![0, 1024] S1024x256.size inb_S1024x1280_S1024x256_0_1024 : Rect S1024x1280)) := by
  unfold kernelRun0_A
  dsimp only
  refine (View.readCov_cons_toLoadRect _ _ _ _).trans ?_
  simp only [load_eq]

/-- Output 5 holds the normalized rows times its weights. -/
theorem out5_at (w : Fin 512) (k : Fin 1280) :
    out0_A_5 c i arg1 harg1 arg2 harg2 arg3 harg3 arg4 harg4 arg5 harg5 arg6 harg6 arg7 harg7 arg8 harg8 x0 x1 x2 x3 x4 (ix2 w k) = ∑ d, rms (fun e => x0 (ix2 w e)) (fun e => x1 (ix2 0 e)) d * x2 (ix2 d k) := by
  by_cases h0 : k.val < 512
  · refine (at_of_load VO0_5 _ _ _ (store5_0 c i arg1 harg1 arg2 harg2 arg3 harg3 arg4 harg4 arg5 harg5 arg6 harg6 arg7 harg7 arg8 harg8 x0 x1 x2 x3 x4 VO0_5) (ix2 w ⟨k.val - 0, by omega⟩) (ix2 w k) (funext fun a => Fin.ext ?_)).trans ?_
    · match a with
      | ⟨0, _⟩ => show 0 + 1 * w.val = w.val; omega
      | ⟨1, _⟩ => show 0 + 1 * (k.val - 0) = k.val; omega
    refine (rows2_at _ _ _ w ⟨k.val - 0, by omega⟩).trans (Finset.sum_congr rfl fun d _ => ?_)
    refine congrArg₂ (· * ·) (xn_at x0 x1 w d) ?_
    refine (ld_at x2 0 0 _ d ⟨k.val - 0, by omega⟩ (by omega) (by show 0 + (k.val - 0) < 1280; omega)).trans (congrArg x2 ?_)
    congr 1
    · exact Fin.ext (Nat.zero_add _)
    · exact Fin.ext (by show 0 + (k.val - 0) = k.val; omega)
  by_cases h1 : k.val < 1024
  · refine (at_of_load VO0_5 _ _ _ (store5_512 c i arg1 harg1 arg2 harg2 arg3 harg3 arg4 harg4 arg5 harg5 arg6 harg6 arg7 harg7 arg8 harg8 x0 x1 x2 x3 x4 VO0_5) (ix2 w ⟨k.val - 512, by omega⟩) (ix2 w k) (funext fun a => Fin.ext ?_)).trans ?_
    · match a with
      | ⟨0, _⟩ => show 0 + 1 * w.val = w.val; omega
      | ⟨1, _⟩ => show 512 + 1 * (k.val - 512) = k.val; omega
    refine (rows3_at _ _ _ w ⟨k.val - 512, by omega⟩).trans (Finset.sum_congr rfl fun d _ => ?_)
    refine congrArg₂ (· * ·) (xn_at x0 x1 w d) ?_
    refine (ld_at x2 0 512 _ d ⟨k.val - 512, by omega⟩ (by omega) (by show 512 + (k.val - 512) < 1280; omega)).trans (congrArg x2 ?_)
    congr 1
    · exact Fin.ext (Nat.zero_add _)
    · exact Fin.ext (by show 512 + (k.val - 512) = k.val; omega)
  refine (at_of_load VO0_5 _ _ _ (store5_1024 c i arg1 harg1 arg2 harg2 arg3 harg3 arg4 harg4 arg5 harg5 arg6 harg6 arg7 harg7 arg8 harg8 x0 x1 x2 x3 x4 VO0_5) (ix2 w ⟨k.val - 1024, by omega⟩) (ix2 w k) (funext fun a => Fin.ext ?_)).trans ?_
  · match a with
    | ⟨0, _⟩ => show 0 + 1 * w.val = w.val; omega
    | ⟨1, _⟩ => show 1024 + 1 * (k.val - 1024) = k.val; omega
  refine (rows4_at _ _ _ w ⟨k.val - 1024, by omega⟩).trans (Finset.sum_congr rfl fun d _ => ?_)
  refine congrArg₂ (· * ·) (xn_at x0 x1 w d) ?_
  refine (ld_at x2 0 1024 _ d ⟨k.val - 1024, by omega⟩ (by omega) (by show 1024 + (k.val - 1024) < 1280; omega)).trans (congrArg x2 ?_)
  congr 1
  · exact Fin.ext (Nat.zero_add _)
  · exact Fin.ext (by show 1024 + (k.val - 1024) = k.val; omega)

theorem store6_0 (v : View sig .tc .vmem S512x896 .f32) : v.readCov (kernelRun0_A c i arg1 harg1 arg2 harg2 arg3 harg3 arg4 harg4 arg5 harg5 arg6 harg6 arg7 harg7 arg8 harg8 x0 x1 x2 x3 x4).2.1 (Rect.unit ![0, 0] S512x512.size inb_S512x896_S512x512_0_0 : Rect S512x896).toLoadRect
    = k0_pay5 (xn x0 x1) (View.ld x3 (Rect.unit ![0, 0] S1024x512.size inb_S1024x896_S1024x512_0_0 : Rect S1024x896)) := by
  unfold kernelRun0_A
  dsimp only
  iterate 1 refine (View.readCov_skip _ _ _ _ _ rfl).trans ?_
  refine (View.readCov_cons_toLoadRect _ _ _ _).trans ?_
  simp only [xn, kernelRun0_A.sl.r, kernelRun0_A.sl.r_1, load_eq]
  try rfl

theorem store6_512 (v : View sig .tc .vmem S512x896 .f32) : v.readCov (kernelRun0_A c i arg1 harg1 arg2 harg2 arg3 harg3 arg4 harg4 arg5 harg5 arg6 harg6 arg7 harg7 arg8 harg8 x0 x1 x2 x3 x4).2.1 (Rect.unit ![0, 512] S512x384.size inb_S512x896_S512x384_0_512 : Rect S512x896).toLoadRect
    = k0_pay6 (xn x0 x1) (View.ld x3 (Rect.unit ![0, 512] S1024x384.size inb_S1024x896_S1024x384_0_512 : Rect S1024x896)) := by
  unfold kernelRun0_A
  dsimp only
  refine (View.readCov_cons_toLoadRect _ _ _ _).trans ?_
  simp only [xn, kernelRun0_A.sl.r, load_eq]
  try rfl

/-- Output 6 holds the normalized rows times its weights. -/
theorem out6_at (w : Fin 512) (k : Fin 896) :
    out0_A_6 c i arg1 harg1 arg2 harg2 arg3 harg3 arg4 harg4 arg5 harg5 arg6 harg6 arg7 harg7 arg8 harg8 x0 x1 x2 x3 x4 (ix2 w k) = ∑ d, rms (fun e => x0 (ix2 w e)) (fun e => x1 (ix2 0 e)) d * x3 (ix2 d k) := by
  by_cases h0 : k.val < 512
  · refine (at_of_load VO0_6 _ _ _ (store6_0 c i arg1 harg1 arg2 harg2 arg3 harg3 arg4 harg4 arg5 harg5 arg6 harg6 arg7 harg7 arg8 harg8 x0 x1 x2 x3 x4 VO0_6) (ix2 w ⟨k.val - 0, by omega⟩) (ix2 w k) (funext fun a => Fin.ext ?_)).trans ?_
    · match a with
      | ⟨0, _⟩ => show 0 + 1 * w.val = w.val; omega
      | ⟨1, _⟩ => show 0 + 1 * (k.val - 0) = k.val; omega
    refine (rows5_at _ _ w ⟨k.val - 0, by omega⟩).trans (Finset.sum_congr rfl fun d _ => ?_)
    refine congrArg₂ (· * ·) (xn_at x0 x1 w d) ?_
    refine (ld_at x3 0 0 _ d ⟨k.val - 0, by omega⟩ (by omega) (by show 0 + (k.val - 0) < 896; omega)).trans (congrArg x3 ?_)
    congr 1
    · exact Fin.ext (Nat.zero_add _)
    · exact Fin.ext (by show 0 + (k.val - 0) = k.val; omega)
  refine (at_of_load VO0_6 _ _ _ (store6_512 c i arg1 harg1 arg2 harg2 arg3 harg3 arg4 harg4 arg5 harg5 arg6 harg6 arg7 harg7 arg8 harg8 x0 x1 x2 x3 x4 VO0_6) (ix2 w ⟨k.val - 512, by omega⟩) (ix2 w k) (funext fun a => Fin.ext ?_)).trans ?_
  · match a with
    | ⟨0, _⟩ => show 0 + 1 * w.val = w.val; omega
    | ⟨1, _⟩ => show 512 + 1 * (k.val - 512) = k.val; omega
  refine (rows6_at _ _ w ⟨k.val - 512, by omega⟩).trans (Finset.sum_congr rfl fun d _ => ?_)
  refine congrArg₂ (· * ·) (xn_at x0 x1 w d) ?_
  refine (ld_at x3 0 512 _ d ⟨k.val - 512, by omega⟩ (by omega) (by show 512 + (k.val - 512) < 896; omega)).trans (congrArg x3 ?_)
  congr 1
  · exact Fin.ext (Nat.zero_add _)
  · exact Fin.ext (by show 512 + (k.val - 512) = k.val; omega)

theorem store7_0 (v : View sig .tc .vmem S1x1280x512 .bf16) : v.readCov (kernelRun0_A c i arg1 harg1 arg2 harg2 arg3 harg3 arg4 harg4 arg5 harg5 arg6 harg6 arg7 harg7 arg8 harg8 x0 x1 x2 x3 x4).2.2.1 (Rect.unit ![0, 0, 0] S1x512x512.size inb_S1x1280x512_S1x512x512_0_0_0 : Rect S1x1280x512).toLoadRect
    = k0_pay7 (xn x0 x1) (View.ld x4 (Rect.unit ![0, 0] S512x1024.size inb_S1280x1024_S512x1024_0_0 : Rect S1280x1024)) := by
  unfold kernelRun0_A
  dsimp only
  iterate 2 refine (View.readCov_skip _ _ _ _ _ rfl).trans ?_
  refine (View.readCov_cons_toLoadRect _ _ _ _).trans ?_
  simp only [xn, kernelRun0_A.sl.r, load_eq]
  try rfl

theorem store7_512 (v : View sig .tc .vmem S1x1280x512 .bf16) : v.readCov (kernelRun0_A c i arg1 harg1 arg2 harg2 arg3 harg3 arg4 harg4 arg5 harg5 arg6 harg6 arg7 harg7 arg8 harg8 x0 x1 x2 x3 x4).2.2.1 (Rect.unit ![0, 512, 0] S1x512x512.size inb_S1x1280x512_S1x512x512_0_512_0 : Rect S1x1280x512).toLoadRect
    = k0_pay8 (xn x0 x1) (View.ld x4 (Rect.unit ![512, 0] S512x1024.size inb_S1280x1024_S512x1024_512_0 : Rect S1280x1024)) := by
  unfold kernelRun0_A
  dsimp only
  iterate 1 refine (View.readCov_skip _ _ _ _ _ rfl).trans ?_
  refine (View.readCov_cons_toLoadRect _ _ _ _).trans ?_
  simp only [xn, kernelRun0_A.sl.r, load_eq]
  try rfl

theorem store7_1024 (v : View sig .tc .vmem S1x1280x512 .bf16) : v.readCov (kernelRun0_A c i arg1 harg1 arg2 harg2 arg3 harg3 arg4 harg4 arg5 harg5 arg6 harg6 arg7 harg7 arg8 harg8 x0 x1 x2 x3 x4).2.2.1 (Rect.unit ![0, 1024, 0] S1x256x512.size inb_S1x1280x512_S1x256x512_0_1024_0 : Rect S1x1280x512).toLoadRect
    = k0_pay9 (xn x0 x1) (View.ld x4 (Rect.unit ![1024, 0] S256x1024.size inb_S1280x1024_S256x1024_1024_0 : Rect S1280x1024)) := by
  unfold kernelRun0_A
  dsimp only
  refine (View.readCov_cons_toLoadRect _ _ _ _).trans ?_
  simp only [xn, kernelRun0_A.sl.r, load_eq]
  try rfl

/-- Output 7 holds the same with the two axes exchanged. -/
theorem out7_at (k : Fin 1280) (w : Fin 512) :
    out0_A_7 c i arg1 harg1 arg2 harg2 arg3 harg3 arg4 harg4 arg5 harg5 arg6 harg6 arg7 harg7 arg8 harg8 x0 x1 x2 x3 x4 (ix3 0 k w) = ∑ d, rms (fun e => x0 (ix2 w e)) (fun e => x1 (ix2 0 e)) d * x4 (ix2 k d) := by
  by_cases h0 : k.val < 512
  · refine (at_of_load VO0_7 _ _ _ (store7_0 c i arg1 harg1 arg2 harg2 arg3 harg3 arg4 harg4 arg5 harg5 arg6 harg6 arg7 harg7 arg8 harg8 x0 x1 x2 x3 x4 VO0_7) (ix3 0 ⟨k.val - 0, by omega⟩ w) (ix3 0 k w) (funext fun a => Fin.ext ?_)).trans ?_
    · match a with
      | ⟨0, _⟩ => show 0 + 1 * 0 = 0; omega
      | ⟨1, _⟩ => show 0 + 1 * (k.val - 0) = k.val; omega
      | ⟨2, _⟩ => show 0 + 1 * w.val = w.val; omega
    refine (cols7_at _ _ ⟨k.val - 0, by omega⟩ w).trans (Finset.sum_congr rfl fun d _ => ?_)
    refine (mul_comm _ _).trans (congrArg₂ (· * ·) (xn_at x0 x1 w d) ?_)
    refine (ld_at x4 0 0 _ ⟨k.val - 0, by omega⟩ d (by show 0 + (k.val - 0) < 1280; omega) (by omega)).trans (congrArg x4 ?_)
    congr 1
    · exact Fin.ext (by show 0 + (k.val - 0) = k.val; omega)
    · exact Fin.ext (Nat.zero_add _)
  by_cases h1 : k.val < 1024
  · refine (at_of_load VO0_7 _ _ _ (store7_512 c i arg1 harg1 arg2 harg2 arg3 harg3 arg4 harg4 arg5 harg5 arg6 harg6 arg7 harg7 arg8 harg8 x0 x1 x2 x3 x4 VO0_7) (ix3 0 ⟨k.val - 512, by omega⟩ w) (ix3 0 k w) (funext fun a => Fin.ext ?_)).trans ?_
    · match a with
      | ⟨0, _⟩ => show 0 + 1 * 0 = 0; omega
      | ⟨1, _⟩ => show 512 + 1 * (k.val - 512) = k.val; omega
      | ⟨2, _⟩ => show 0 + 1 * w.val = w.val; omega
    refine (cols8_at _ _ ⟨k.val - 512, by omega⟩ w).trans (Finset.sum_congr rfl fun d _ => ?_)
    refine (mul_comm _ _).trans (congrArg₂ (· * ·) (xn_at x0 x1 w d) ?_)
    refine (ld_at x4 512 0 _ ⟨k.val - 512, by omega⟩ d (by show 512 + (k.val - 512) < 1280; omega) (by omega)).trans (congrArg x4 ?_)
    congr 1
    · exact Fin.ext (by show 512 + (k.val - 512) = k.val; omega)
    · exact Fin.ext (Nat.zero_add _)
  refine (at_of_load VO0_7 _ _ _ (store7_1024 c i arg1 harg1 arg2 harg2 arg3 harg3 arg4 harg4 arg5 harg5 arg6 harg6 arg7 harg7 arg8 harg8 x0 x1 x2 x3 x4 VO0_7) (ix3 0 ⟨k.val - 1024, by omega⟩ w) (ix3 0 k w) (funext fun a => Fin.ext ?_)).trans ?_
  · match a with
    | ⟨0, _⟩ => show 0 + 1 * 0 = 0; omega
    | ⟨1, _⟩ => show 1024 + 1 * (k.val - 1024) = k.val; omega
    | ⟨2, _⟩ => show 0 + 1 * w.val = w.val; omega
  refine (cols9_at _ _ ⟨k.val - 1024, by omega⟩ w).trans (Finset.sum_congr rfl fun d _ => ?_)
  refine (mul_comm _ _).trans (congrArg₂ (· * ·) (xn_at x0 x1 w d) ?_)
  refine (ld_at x4 1024 0 _ ⟨k.val - 1024, by omega⟩ d (by show 1024 + (k.val - 1024) < 1280; omega) (by omega)).trans (congrArg x4 ?_)
  congr 1
  · exact Fin.ext (by show 1024 + (k.val - 1024) = k.val; omega)
  · exact Fin.ext (Nat.zero_add _)

end Cert.ProjIdeal.Body

end
-- ==== Proof.ProjBlocks.lean ====
/- The input projection's three result arrays, element by element, in terms of the call's arguments. -/
module

public import proofs.«01_k».proof.Proof.ProjBody
public import proofs.«01_k».proof.Proof.Gen.ProjIdeal.Value
public import Idealize.ShloMosaic.Lib.Claim

@[expose] public section

set_option maxRecDepth 16384

noncomputable section

namespace Cert.ProjIdeal.Blk

open Idealize.ShloMosaic Idealize.ShloMosaic.TcCoe
open Cert.ProjIdeal Cert.ProjIdeal.Gen
open Cert.FfnSpec (rms)

/-- A row's dot product with a column of weights, the row normalized first. -/
def dotRow (x g w : Fin 1024 → EReal) : EReal := ∑ d, rms x g d * w d

theorem dotRow_congr {x x' g g' w w' : Fin 1024 → EReal} (hx : ∀ d, x d = x' d) (hg : ∀ d, g d = g' d) (hw : ∀ d, w d = w' d) :
    ∑ d, rms x g d * w d = dotRow x' g' w' := by
  rw [funext hx, funext hg, funext hw]
  rfl

variable (m : (ℓ : Loc nD τ sig) → Buf (Elt Ideal) ℓ) (c : Dev nD)

/-- Row `n` of the residual stream. -/
def rowOf (n : Fin 32768) (d : Fin 1024) : EReal := (m ((c : Thread nD τ).loc main_arg0) : Vec Ideal S32768x1024 .f32) (ix2 n d)

/-- The norm's gain. -/
def gain (d : Fin 1024) : EReal := (m ((c : Thread nD τ).loc main_arg1) : Vec Ideal S1024 .f32) (ix1 d)

/-- A column of each of the three weight matrices. -/
def colB (k : Fin 1280) (d : Fin 1024) : EReal := (m ((c : Thread nD τ).loc main_arg2) : Vec Ideal S1024x1280 .f32) (ix2 d k)

@[inherit_doc colB]
def colF (k : Fin 896) (d : Fin 1024) : EReal := (m ((c : Thread nD τ).loc main_arg3) : Vec Ideal S1024x896 .f32) (ix2 d k)

@[inherit_doc colB]
def colT (k : Fin 1280) (d : Fin 1024) : EReal := (m ((c : Thread nD τ).loc main_arg4) : Vec Ideal S1024x1280 .f32) (ix2 d k)

/-! ## The operands the host prepares -/

theorem main_v0_at (d : Fin 1024) (k : Fin 1280) : (V m c main_v0 : Vec Ideal S1024x1280 .bf16) (ix2 d k) = colB m c k d := by
  entry_read
  pointwise [colB]

theorem main_v1_at (d : Fin 1024) (k : Fin 896) : (V m c main_v1 : Vec Ideal S1024x896 .bf16) (ix2 d k) = colF m c k d := by
  entry_read
  pointwise [colF]

theorem main_v3_at (k : Fin 1280) (d : Fin 1024) : (V m c main_v3 : Vec Ideal S1280x1024 .bf16) (ix2 k d) = colT m c k d := by
  entry_read
  pointwise [colT]

theorem main_v4_at (d : Fin 1024) : (V m c main_v4 : Vec Ideal S1x1024 .f32) (ix2 0 d) = gain m c d := by
  entry_read
  pointwise [gain]

/-! ## The blocks -/

theorem index_0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t

theorem blk_0 (t : Fin cfg0.N) (ht : t.val < 64) (i : Fin 512) (d : Fin 1024) :
    (iblk m c 0 t : Vec Ideal S512x1024 .f32) (ix2 i d) = rowOf m c ⟨512 * t.val + i.val, by omega⟩ d := by
  have hi := index_0 t
  unfold iblk
  rw [View.read_apply]
  show V m c main_arg0 _ = m ((c : Thread nD τ).loc main_arg0) (ix2 _ d)
  rw [V_main_arg0]
  congr 1
  funext a
  apply Fin.ext
  match a with
  | ⟨0, _⟩ => show win0_0.index t (0 : Fin 2) * 512 + 1 * i.val = 512 * t.val + i.val; rw [hi.1]; omega
  | ⟨1, _⟩ => show win0_0.index t (1 : Fin 2) * 1024 + 1 * d.val = d.val; rw [hi.2]; omega

theorem index_1 (t : Fin cfg0.N) : win0_1.index t (0 : Fin 2) = 0 ∧ win0_1.index t (1 : Fin 2) = 0 :=
  (by decide +kernel : ∀ t : Fin grid0.N, win0_1.index t (0 : Fin 2) = 0 ∧ win0_1.index t (1 : Fin 2) = 0) t

theorem blk_1 (t : Fin cfg0.N) (i : Fin 1) (d : Fin 1024) :
    (iblk m c 1 t : Vec Ideal S1x1024 .f32) (ix2 i d) = (V m c main_v4 : Vec Ideal S1x1024 .f32) (ix2 i d) := by
  have hi := index_1 t
  unfold iblk
  rw [View.read_apply]
  show V m c main_v4 _ = V m c main_v4 (ix2 i d)
  congr 1
  funext a
  apply Fin.ext
  match a with
  | ⟨0, _⟩ => show win0_1.index t (0 : Fin 2) * 1 + 1 * i.val = i.val; rw [hi.1]; omega
  | ⟨1, _⟩ => show win0_1.index t (1 : Fin 2) * 1024 + 1 * d.val = d.val; rw [hi.2]; omega

theorem index_2 (t : Fin cfg0.N) : win0_2.index t (0 : Fin 2) = 0 ∧ win0_2.index t (1 : Fin 2) = 0 :=
  (by decide +kernel : ∀ t : Fin grid0.N, win0_2.index t (0 : Fin 2) = 0 ∧ win0_2.index t (1 : Fin 2) = 0) t

theorem blk_2 (t : Fin cfg0.N) (i : Fin 1024) (d : Fin 1280) :
    (iblk m c 2 t : Vec Ideal S1024x1280 .bf16) (ix2 i d) = (V m c main_v0 : Vec Ideal S1024x1280 .bf16) (ix2 i d) := by
  have hi := index_2 t
  unfold iblk
  rw [View.read_apply]
  show V m c main_v0 _ = V m c main_v0 (ix2 i d)
  congr 1
  funext a
  apply Fin.ext
  match a with
  | ⟨0, _⟩ => show win0_2.index t (0 : Fin 2) * 1024 + 1 * i.val = i.val; rw [hi.1]; omega
  | ⟨1, _⟩ => show win0_2.index t (1 : Fin 2) * 1280 + 1 * d.val = d.val; rw [hi.2]; omega

theorem index_3 (t : Fin cfg0.N) : win0_3.index t (0 : Fin 2) = 0 ∧ win0_3.index t (1 : Fin 2) = 0 :=
  (by decide +kernel : ∀ t : Fin grid0.N, win0_3.index t (0 : Fin 2) = 0 ∧ win0_3.index t (1 : Fin 2) = 0) t

theorem blk_3 (t : Fin cfg0.N) (i : Fin 1024) (d : Fin 896) :
    (iblk m c 3 t : Vec Ideal S1024x896 .bf16) (ix2 i d) = (V m c main_v1 : Vec Ideal S1024x896 .bf16) (ix2 i d) := by
  have hi := index_3 t
  unfold iblk
  rw [View.read_apply]
  show V m c main_v1 _ = V m c main_v1 (ix2 i d)
  congr 1
  funext a
  apply Fin.ext
  match a with
  | ⟨0, _⟩ => show win0_3.index t (0 : Fin 2) * 1024 + 1 * i.val = i.val; rw [hi.1]; omega
  | ⟨1, _⟩ => show win0_3.index t (1 : Fin 2) * 896 + 1 * d.val = d.val; rw [hi.2]; omega

theorem index_4 (t : Fin cfg0.N) : win0_4.index t (0 : Fin 2) = 0 ∧ win0_4.index t (1 : Fin 2) = 0 :=
  (by decide +kernel : ∀ t : Fin grid0.N, win0_4.index t (0 : Fin 2) = 0 ∧ win0_4.index t (1 : Fin 2) = 0) t

theorem blk_4 (t : Fin cfg0.N) (i : Fin 1280) (d : Fin 1024) :
    (iblk m c 4 t : Vec Ideal S1280x1024 .bf16) (ix2 i d) = (V m c main_v3 : Vec Ideal S1280x1024 .bf16) (ix2 i d) := by
  have hi := index_4 t
  unfold iblk
  rw [View.read_apply]
  show V m c main_v3 _ = V m c main_v3 (ix2 i d)
  congr 1
  funext a
  apply Fin.ext
  match a with
  | ⟨0, _⟩ => show win0_4.index t (0 : Fin 2) * 1280 + 1 * i.val = i.val; rw [hi.1]; omega
  | ⟨1, _⟩ => show win0_4.index t (1 : Fin 2) * 1024 + 1 * d.val = d.val; rw [hi.2]; omega

/-! ## The arrays -/

theorem index_5 (t : Fin cfg0.N) : win0_5.index t (0 : Fin 2) = t.val ∧ win0_5.index t (1 : Fin 2) = 0 :=
  (by decide +kernel : ∀ t : Fin grid0.N, win0_5.index t (0 : Fin 2) = t.val ∧ win0_5.index t (1 : Fin 2) = 0) t

theorem flush_5 (t : Fin cfg0.N) : (cfg0.win 5).flush t = true :=
  (by decide +kernel : ∀ t : Fin grid0.N, win0_5.flush t = true) t

/-- Result 0 of the call. -/
def G5 : Vec Ideal S32768x1280 .bf16 := fun i => dotRow (rowOf m c (i 0)) (gain m c) (colB m c (i 1))

theorem flushed_eq5 (t : Fin cfg0.N) : (dats m 0 c).flushed 5 t = ((cfg0.win 5).blk t).view.read (Elt Ideal) (G5 m c) := by
  have ht : t.val < 64 := t.isLt
  have hi := index_5 t
  rw [Value.flushed5_A]
  funext y
  have hy0 : (y 0).val < 512 := (y 0).isLt
  have hy1 : (y 1).val < 1280 := (y 1).isLt
  have hx : (cfg0.win 5).xinj (grid0.coords t) y = (ix2 ⟨(y 0).val, hy0⟩ ⟨(y 1).val, hy1⟩ : S512x1280.Idx) := by
    funext a
    match a with
    | ⟨0, _⟩ => rfl
    | ⟨1, _⟩ => rfl
  have he : ((cfg0.win 5).blk t).view.emb y = (ix2 ⟨512 * t.val + (y 0).val, by omega⟩ ⟨(y 1).val, hy1⟩ : S32768x1280.Idx) := by
    funext a
    apply Fin.ext
    match a with
    | ⟨0, _⟩ => show win0_5.index t (0 : Fin 2) * 512 + 1 * (y 0).val = 512 * t.val + (y 0).val; rw [hi.1]; omega
    | ⟨1, _⟩ => show win0_5.index t (1 : Fin 2) * 1280 + 1 * (y 1).val = (y 1).val; rw [hi.2]; omega
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((cfg0.win 5).xinj (grid0.coords t) y) = G5 m c (((cfg0.win 5).blk t).view.emb y)
  rw [hx, he]
  refine (Body.out5_at _ _ _ _ _ _ _ _ _ _ _ _ _ _ _ _ _ _ _ _ _ _ _ _ _).trans ?_
  exact dotRow_congr (fun d => blk_0 m c t ht _ d) (fun d => (blk_1 m c t 0 d).trans (main_v4_at m c d))
    (fun d => (blk_2 m c t d _).trans (main_v0_at m c d _))

theorem covered_5 (i : S32768x1280.Idx) : ∃ t : Fin cfg0.N, (cfg0.win 5).flush t = true ∧ i ∈ ((cfg0.win 5).blk t).view.set := by
  have h0 : (i 0).val < 32768 := (i 0).isLt
  have h1 : (i 1).val < 1280 := (i 1).isLt
  have hN : (i 0).val / 512 < 64 := by omega
  let t : Fin cfg0.N := ⟨(i 0).val / 512, hN⟩
  have ht : t.val = (i 0).val / 512 := rfl
  have hi := index_5 t
  refine ⟨t, flush_5 t, ?_⟩
  show i ∈ ((View.whole main_v5_0).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1280 ≤ (i 1).val ∧ (i 1).val < win0_5.index t (1 : Fin 2) * 1280 + 1280; omega

theorem final_5 : (dats m 0 c).arrAt 5 cfg0.N = G5 m c :=
  (dats m 0 c).arrAt_eq_of_cover 5 _ (fun t _ => flushed_eq5 m c t) covered_5

theorem index_6 (t : Fin cfg0.N) : win0_6.index t (0 : Fin 2) = t.val ∧ win0_6.index t (1 : Fin 2) = 0 :=
  (by decide +kernel : ∀ t : Fin grid0.N, win0_6.index t (0 : Fin 2) = t.val ∧ win0_6.index t (1 : Fin 2) = 0) t

theorem flush_6 (t : Fin cfg0.N) : (cfg0.win 6).flush t = true :=
  (by decide +kernel : ∀ t : Fin grid0.N, win0_6.flush t = true) t

/-- Result 1 of the call. -/
def G6 : Vec Ideal S32768x896 .f32 := fun i => dotRow (rowOf m c (i 0)) (gain m c) (colF m c (i 1))

theorem flushed_eq6 (t : Fin cfg0.N) : (dats m 0 c).flushed 6 t = ((cfg0.win 6).blk t).view.read (Elt Ideal) (G6 m c) := by
  have ht : t.val < 64 := t.isLt
  have hi := index_6 t
  rw [Value.flushed6_A]
  funext y
  have hy0 : (y 0).val < 512 := (y 0).isLt
  have hy1 : (y 1).val < 896 := (y 1).isLt
  have hx : (cfg0.win 6).xinj (grid0.coords t) y = (ix2 ⟨(y 0).val, hy0⟩ ⟨(y 1).val, hy1⟩ : S512x896.Idx) := by
    funext a
    match a with
    | ⟨0, _⟩ => rfl
    | ⟨1, _⟩ => rfl
  have he : ((cfg0.win 6).blk t).view.emb y = (ix2 ⟨512 * t.val + (y 0).val, by omega⟩ ⟨(y 1).val, hy1⟩ : S32768x896.Idx) := by
    funext a
    apply Fin.ext
    match a with
    | ⟨0, _⟩ => show win0_6.index t (0 : Fin 2) * 512 + 1 * (y 0).val = 512 * t.val + (y 0).val; rw [hi.1]; omega
    | ⟨1, _⟩ => show win0_6.index t (1 : Fin 2) * 896 + 1 * (y 1).val = (y 1).val; rw [hi.2]; omega
  show out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((cfg0.win 6).xinj (grid0.coords t) y) = G6 m c (((cfg0.win 6).blk t).view.emb y)
  rw [hx, he]
  refine (Body.out6_at _ _ _ _ _ _ _ _ _ _ _ _ _ _ _ _ _ _ _ _ _ _ _ _ _).trans ?_
  exact dotRow_congr (fun d => blk_0 m c t ht _ d) (fun d => (blk_1 m c t 0 d).trans (main_v4_at m c d))
    (fun d => (blk_3 m c t d _).trans (main_v1_at m c d _))

theorem covered_6 (i : S32768x896.Idx) : ∃ t : Fin cfg0.N, (cfg0.win 6).flush t = true ∧ i ∈ ((cfg0.win 6).blk t).view.set := by
  have h0 : (i 0).val < 32768 := (i 0).isLt
  have h1 : (i 1).val < 896 := (i 1).isLt
  have hN : (i 0).val / 512 < 64 := by omega
  let t : Fin cfg0.N := ⟨(i 0).val / 512, hN⟩
  have ht : t.val = (i 0).val / 512 := rfl
  have hi := index_6 t
  refine ⟨t, flush_6 t, ?_⟩
  show i ∈ ((View.whole main_v5_1).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 896 ≤ (i 1).val ∧ (i 1).val < win0_6.index t (1 : Fin 2) * 896 + 896; omega

theorem final_6 : (dats m 0 c).arrAt 6 cfg0.N = G6 m c :=
  (dats m 0 c).arrAt_eq_of_cover 6 _ (fun t _ => flushed_eq6 m c t) covered_6

theorem index_7 (t : Fin cfg0.N) : win0_7.index t (0 : Fin 3) = t.val / 8 ∧ win0_7.index t (1 : Fin 3) = 0 ∧ win0_7.index t (2 : Fin 3) = t.val % 8 :=
  (by decide +kernel : ∀ t : Fin grid0.N, win0_7.index t (0 : Fin 3) = t.val / 8 ∧ win0_7.index t (1 : Fin 3) = 0 ∧ win0_7.index t (2 : Fin 3) = t.val % 8) t

theorem flush_7 (t : Fin cfg0.N) : (cfg0.win 7).flush t = true :=
  (by decide +kernel : ∀ t : Fin grid0.N, win0_7.flush t = true) t

/-- Result 2 of the call, transposed within each sequence. -/
def G7 : Vec Ideal S8x1280x4096 .bf16 := fun i =>
  dotRow (rowOf m c ⟨(i 0).val * 4096 + (i 2).val, by
    have h0 : (i 0).val < 8 := (i 0).isLt
    have h2 : (i 2).val < 4096 := (i 2).isLt
    omega⟩) (gain m c) (colT m c (i 1))

theorem flushed_eq7 (t : Fin cfg0.N) : (dats m 0 c).flushed 7 t = ((cfg0.win 7).blk t).view.read (Elt Ideal) (G7 m c) := by
  have ht : t.val < 64 := t.isLt
  have hi := index_7 t
  rw [Value.flushed7_A]
  funext y
  have hy0 : (y 0).val < 1 := (y 0).isLt
  have hy1 : (y 1).val < 1280 := (y 1).isLt
  have hy2 : (y 2).val < 512 := (y 2).isLt
  have hx : (cfg0.win 7).xinj (grid0.coords t) y = (ix3 0 ⟨(y 1).val, hy1⟩ ⟨(y 2).val, hy2⟩ : S1x1280x512.Idx) := by
    funext a
    apply Fin.ext
    match a with
    | ⟨0, _⟩ => show (y 0).val = 0; omega
    | ⟨1, _⟩ => rfl
    | ⟨2, _⟩ => rfl
  have he : ((cfg0.win 7).blk t).view.emb y
      = (ix3 ⟨t.val / 8, by omega⟩ ⟨(y 1).val, hy1⟩ ⟨512 * (t.val % 8) + (y 2).val, by omega⟩ : S8x1280x4096.Idx) := by
    funext a
    apply Fin.ext
    match a with
    | ⟨0, _⟩ => show win0_7.index t (0 : Fin 3) * 1 + 1 * (y 0).val = t.val / 8; rw [hi.1]; omega
    | ⟨1, _⟩ => show win0_7.index t (1 : Fin 3) * 1280 + 1 * (y 1).val = (y 1).val; rw [hi.2.1]; omega
    | ⟨2, _⟩ => show win0_7.index t (2 : Fin 3) * 512 + 1 * (y 2).val = 512 * (t.val % 8) + (y 2).val; rw [hi.2.2]; omega
  show out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((cfg0.win 7).xinj (grid0.coords t) y) = G7 m c (((cfg0.win 7).blk t).view.emb y)
  rw [hx, he]
  refine (Body.out7_at _ _ _ _ _ _ _ _ _ _ _ _ _ _ _ _ _ _ _ _ _ _ _ _ _).trans ?_
  refine dotRow_congr (fun d => (blk_0 m c t ht _ d).trans ?_) (fun d => (blk_1 m c t 0 d).trans (main_v4_at m c d))
    (fun d => (blk_4 m c t _ d).trans (main_v3_at m c _ d))
  refine congrArg (fun n => rowOf m c n d) (Fin.ext ?_)
  show 512 * t.val + (y 2).val = t.val / 8 * 4096 + (512 * (t.val % 8) + (y 2).val)
  omega

theorem covered_7 (i : S8x1280x4096.Idx) : ∃ t : Fin cfg0.N, (cfg0.win 7).flush t = true ∧ i ∈ ((cfg0.win 7).blk t).view.set := by
  have h0 : (i 0).val < 8 := (i 0).isLt
  have h1 : (i 1).val < 1280 := (i 1).isLt
  have h2 : (i 2).val < 4096 := (i 2).isLt
  have hN : 8 * (i 0).val + (i 2).val / 512 < 64 := by omega
  let t : Fin cfg0.N := ⟨8 * (i 0).val + (i 2).val / 512, hN⟩
  have ht : t.val = 8 * (i 0).val + (i 2).val / 512 := rfl
  have hi := index_7 t
  refine ⟨t, flush_7 t, ?_⟩
  show i ∈ ((View.whole main_v5_2).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1280 ≤ (i 1).val ∧ (i 1).val < win0_7.index t (1 : Fin 3) * 1280 + 1280; omega
  | ⟨2, _⟩ => show win0_7.index t (2 : Fin 3) * 512 ≤ (i 2).val ∧ (i 2).val < win0_7.index t (2 : Fin 3) * 512 + 512; omega

theorem final_7 : (dats m 0 c).arrAt 7 cfg0.N = G7 m c :=
  (dats m 0 c).arrAt_eq_of_cover 7 _ (fun t _ => flushed_eq7 m c t) covered_7

end Cert.ProjIdeal.Blk

end
-- ==== Proof.ProjValue.lean ====
/- The plain text of the input projection, element by element, and the call beside it. -/
module

public import proofs.«01_k».proof.Proof.ProjBlocks
public import proofs.«01_k».proof.Proof.Gen.ProjReferenceIdeal.Run

@[expose] public section

set_option maxRecDepth 16384

noncomputable section

namespace Cert.ProjReferenceIdeal.Elem

open Idealize.ShloMosaic Idealize.ShloMosaic.TcCoe
open Cert.ProjReferenceIdeal Cert.ProjReferenceIdeal.Gen
open Cert.FfnSpec (rms)
open Cert.ProjIdeal.Blk (dotRow)

variable (x0 : Vec Ideal S32768x1024 .f32) (x1 : Vec Ideal S1024 .f32)

/-- The reference's text for this result. -/
def refB (x2 : Vec Ideal S1024x1280 .f32) : Vec Ideal S32768x1280 .bf16 :=
  truncf (F := Ideal) .bf16 (Host.dotGeneral (F := Ideal) (φ₁ := .f32) (φ₂ := .f32) dot_S32768x1024_S1024x1280_S32768x1280_1_0_0_1_n_n none (mulf (F := Ideal) (mulf (F := Ideal) x0 (broadcastInDim S32768x1024 ![0, 1] bcast_S32768x1_S32768x1024_0_1 (Host.rsqrt (F := Ideal) (addf (F := Ideal) (Host.divf (F := Ideal) (broadcastInDim S32768x1 ![0] bcast_S32768_S32768x1_0 (Host.reduceAdd (F := Ideal) (mulf (F := Ideal) x0 x0) (constant (F := Ideal) S_ .f32 0x00000000#32) reducesTo_S32768x1024_S32768_d1 h_S_)) (broadcastInDim S32768x1 ![] bcast_S_S32768x1 (constant (F := Ideal) S_ .f32 0x44800000#32))) (broadcastInDim S32768x1 ![] bcast_S_S32768x1 (constant (F := Ideal) S_ .f32 0x358637BD#32)))))) (broadcastInDim S32768x1024 ![0, 1] bcast_S1x1024_S32768x1024_0_1 (broadcastInDim S1x1024 ![1] bcast_S1024_S1x1024_1 x1))) x2) bitsLt_bf16_f32

theorem refB_at (x2 : Vec Ideal S1024x1280 .f32) (n : Fin 32768) (k : Fin 1280) :
    refB x0 x1 x2 (ix2 n k) = dotRow (fun d => x0 (ix2 n d)) (fun d => x1 (ix1 d)) (fun d => x2 (ix2 d k)) := by
  pointwise [refB, dotRow, rms]

/-- The reference's text for this result. -/
def refF (x3 : Vec Ideal S1024x896 .f32) : Vec Ideal S32768x896 .f32 :=
  Host.dotGeneral (F := Ideal) (φ₁ := .f32) (φ₂ := .f32) dot_S32768x1024_S1024x896_S32768x896_1_0_0_1_n_n none (mulf (F := Ideal) (mulf (F := Ideal) x0 (broadcastInDim S32768x1024 ![0, 1] bcast_S32768x1_S32768x1024_0_1 (Host.rsqrt (F := Ideal) (addf (F := Ideal) (Host.divf (F := Ideal) (broadcastInDim S32768x1 ![0] bcast_S32768_S32768x1_0 (Host.reduceAdd (F := Ideal) (mulf (F := Ideal) x0 x0) (constant (F := Ideal) S_ .f32 0x00000000#32) reducesTo_S32768x1024_S32768_d1 h_S_)) (broadcastInDim S32768x1 ![] bcast_S_S32768x1 (constant (F := Ideal) S_ .f32 0x44800000#32))) (broadcastInDim S32768x1 ![] bcast_S_S32768x1 (constant (F := Ideal) S_ .f32 0x358637BD#32)))))) (broadcastInDim S32768x1024 ![0, 1] bcast_S1x1024_S32768x1024_0_1 (broadcastInDim S1x1024 ![1] bcast_S1024_S1x1024_1 x1))) x3

theorem refF_at (x3 : Vec Ideal S1024x896 .f32) (n : Fin 32768) (k : Fin 896) :
    refF x0 x1 x3 (ix2 n k) = dotRow (fun d => x0 (ix2 n d)) (fun d => x1 (ix1 d)) (fun d => x3 (ix2 d k)) := by
  pointwise [refF, dotRow, rms]

/-- The reference's text for this result. -/
def refT (x4 : Vec Ideal S1024x1280 .f32) : Vec Ideal S8x1280x4096 .bf16 :=
  truncf (F := Ideal) .bf16 (transpose S8x1280x4096 [0, 2, 1] (shapeCast _ (Host.dotGeneral (F := Ideal) (φ₁ := .f32) (φ₂ := .f32) dot_S32768x1024_S1024x1280_S32768x1280_1_0_0_1_n_n none (mulf (F := Ideal) (mulf (F := Ideal) x0 (broadcastInDim S32768x1024 ![0, 1] bcast_S32768x1_S32768x1024_0_1 (Host.rsqrt (F := Ideal) (addf (F := Ideal) (Host.divf (F := Ideal) (broadcastInDim S32768x1 ![0] bcast_S32768_S32768x1_0 (Host.reduceAdd (F := Ideal) (mulf (F := Ideal) x0 x0) (constant (F := Ideal) S_ .f32 0x00000000#32) reducesTo_S32768x1024_S32768_d1 h_S_)) (broadcastInDim S32768x1 ![] bcast_S_S32768x1 (constant (F := Ideal) S_ .f32 0x44800000#32))) (broadcastInDim S32768x1 ![] bcast_S_S32768x1 (constant (F := Ideal) S_ .f32 0x358637BD#32)))))) (broadcastInDim S32768x1024 ![0, 1] bcast_S1x1024_S32768x1024_0_1 (broadcastInDim S1x1024 ![1] bcast_S1024_S1x1024_1 x1))) x4) shapeCasts_S32768x1280_S8x4096x1280) transposes_S8x4096x1280_S8x1280x4096_0_2_1) bitsLt_bf16_f32

theorem refT_at (x4 : Vec Ideal S1024x1280 .f32) (b : Fin 8) (k : Fin 1280) (j : Fin 4096) :
    refT x0 x1 x4 (ix3 b k j)
      = dotRow (fun d => x0 (ix2 ⟨b.val * 4096 + j.val, by omega⟩ d)) (fun d => x1 (ix1 d)) (fun d => x4 (ix2 d k)) := by
  pointwise [refT, dotRow, rms]

end Cert.ProjReferenceIdeal.Elem

namespace Cert.ProjValue

open Idealize.ShloMosaic Idealize.ShloMosaic.TcCoe
open Cert.ProjIdeal Cert.ProjReferenceIdeal.Elem

variable (m : (ℓ : Loc nD τ sig) → Buf (Elt Ideal) ℓ) (c : Dev nD)

/-- The reference's first array is the call's. -/
theorem b_eq : refB (m ((c : Thread nD τ).loc main_arg0)) (m ((c : Thread nD τ).loc main_arg1)) (m ((c : Thread nD τ).loc main_arg2)) = Blk.G5 m c := by
  funext i
  have e : i = ix2 (n0 := 32768) (n1 := 1280) (i 0) (i 1) := funext fun a => by
    match a with
    | ⟨0, _⟩ => rfl
    | ⟨1, _⟩ => rfl
  exact (congrArg _ e).trans (refB_at _ _ _ (i 0) (i 1))

/-- So is its second. -/
theorem f_eq : refF (m ((c : Thread nD τ).loc main_arg0)) (m ((c : Thread nD τ).loc main_arg1)) (m ((c : Thread nD τ).loc main_arg3)) = Blk.G6 m c := by
  funext i
  have e : i = ix2 (n0 := 32768) (n1 := 896) (i 0) (i 1) := funext fun a => by
    match a with
    | ⟨0, _⟩ => rfl
    | ⟨1, _⟩ => rfl
  exact (congrArg _ e).trans (refF_at _ _ _ (i 0) (i 1))

/-- So is its third. -/
theorem t_eq : refT (m ((c : Thread nD τ).loc main_arg0)) (m ((c : Thread nD τ).loc main_arg1)) (m ((c : Thread nD τ).loc main_arg4)) = Blk.G7 m c := by
  funext i
  have e : i = ix3 (n0 := 8) (n1 := 1280) (n2 := 4096) (i 0) (i 1) (i 2) := funext fun a => by
    match a with
    | ⟨0, _⟩ => rfl
    | ⟨1, _⟩ => rfl
    | ⟨2, _⟩ => rfl
  exact (congrArg _ e).trans (refT_at _ _ _ (i 0) (i 1) (i 2))

end Cert.ProjValue

end
-- ==== Proof.SguTile.lean ====
/- The spatial gate's tile, element by element: its gated rows, its normalized rows and its masked weights. -/
module

public import proofs.«01_k».proof.Proof.FfnSpec
public import proofs.«01_k».proof.Proof.Gen.SguIdeal.Frame
public import Idealize.ShloMosaic.Lib.Pipeline.ReadBack
public import Idealize.ShloMosaic.Lib.Pipeline.ValueKit.Tiles
public import Idealize.ShloMosaic.Lib.Pointwise

@[expose] public section

set_option maxRecDepth 16384

noncomputable section

namespace Cert.SguSpec

open Idealize.ShloMosaic
open Cert.FfnSpec (rms)

/-- The tanh form of gelu. -/
def gelu (y : EReal) : EReal :=
  Ideal.ofBits .f32 0x3F000000#32 * y * (1 + FloatOps.tanh (F := Ideal) (φ := .f32)
    (Ideal.ofBits .f32 0x3F4C422A#32 * (y + Ideal.ofBits .f32 0x3D372713#32 * (y * y * y))))

/-- A normalized row's product with a column of weights, through gelu. -/
def proj (x g w : Fin 1024 → EReal) : EReal := gelu (∑ d, rms x g d * w d)

/-- A group's weights, those of later rows zero. -/
def masked (w : Fin 8 → Fin 128 → Fin 128 → EReal) (g : Fin 8) (t s : Fin 128) : EReal := if s.val ≤ t.val then w g t s else 0

/-- The mean of a row. -/
def mean (v : Fin 512 → EReal) : EReal := FloatOps.divf (F := Ideal) (φ := .f32) (∑ k, v k) (Ideal.ofBits .f32 0x44000000#32)

/-- A row less its mean, divided by its deviation, scaled and shifted. -/
def layer (v g b : Fin 512 → EReal) (k : Fin 512) : EReal :=
  (v k - mean v) * FloatOps.rsqrt (F := Ideal) (φ := .f32) (mean (fun j => (v j - mean v) * (v j - mean v)) + Ideal.ofBits .f32 0x358637BD#32) * g k + b k

/-- The call's result at row `n` of one sequence, column `k`: the gate times the weighted sum of the normalized rows of the row's chunk. -/
def out (row : Fin 4096 → Fin 1024 → EReal) (g : Fin 1024 → EReal) (wu wv : Fin 512 → Fin 1024 → EReal) (lg lb : Fin 512 → EReal)
    (w : Fin 8 → Fin 128 → Fin 128 → EReal) (b : Fin 8 → Fin 128 → EReal) (n : Fin 4096) (k : Fin 512) : EReal :=
  proj (row n) g (wu k) * (∑ s : Fin 128, masked w ⟨k.val / 64, by omega⟩ ⟨n.val % 128, by omega⟩ s
    * layer (fun j => proj (row ⟨n.val - n.val % 128 + s.val, by omega⟩) g (wv j)) lg lb k + b ⟨k.val / 64, by omega⟩ ⟨n.val % 128, by omega⟩)

end Cert.SguSpec

namespace Cert.SguIdeal.Tile

open Idealize.ShloMosaic Idealize.ShloMosaic.TcCoe
open Cert.SguIdeal Cert.SguIdeal.Gen
open Cert.FfnSpec (rms)
open Cert.SguSpec

variable (x0 : Vec Ideal S1x1024x1024 .f32) (x1 : Vec Ideal S1x1024 .f32) (x2 x3 : Vec Ideal S1024x512 .bf16) (x4 x5 : Vec Ideal S1x512 .f32)
    (x6 : Vec Ideal S8x128x128 .f32) (x7 : Vec Ideal S128x512 .f32)

/-- The gated row `n` of the tile. -/
def U (n : Fin 1024) (k : Fin 512) : EReal := proj (fun d => x0 (ix3 0 n d)) (fun d => x1 (ix2 0 d)) (fun d => x2 (ix2 d k))

/-- The normalized row `n` of the tile. -/
def N (n : Fin 1024) (k : Fin 512) : EReal := layer (U x0 x1 x3 n) (fun j => x4 (ix2 0 j)) (fun j => x5 (ix2 0 j)) k

/-- The weights of group `g`, those of later rows masked. -/
def M (g : Fin 8) (t s : Fin 128) : EReal := masked (fun g t s => x6 (ix3 g t s)) g t s

theorem ld3_at {A B C p q r : ℕ} {e : EltTy} (X : (⟨3, ![A, B, C]⟩ : Shape).Idx → Elt Ideal e) (a b c : ℕ)
    (inb : ∀ k : Fin 3, (![a, b, c] : Fin 3 → ℕ) k + (![p, q, r] : Fin 3 → ℕ) k ≤ (⟨3, ![A, B, C]⟩ : Shape).size k) (i : Fin p) (j : Fin q) (k : Fin r)
    (I : Fin A) (J : Fin B) (K : Fin C) (hi : I.val = a + i.val) (hj : J.val = b + j.val) (hk : K.val = c + k.val) :
    View.ld X (Rect.unit (s := ⟨3, ![A, B, C]⟩) ![a, b, c] ![p, q, r] inb) (ix3 i j k) = X (ix3 I J K) := by
  refine View.ld_unit_apply_of X _ _ _ _ _ fun k => ?_
  match k with
  | ⟨0, _⟩ => exact hi
  | ⟨1, _⟩ => exact hj
  | ⟨2, _⟩ => exact hk

theorem ld2_at {A B p q : ℕ} {e : EltTy} (X : (⟨2, ![A, B]⟩ : Shape).Idx → Elt Ideal e) (a b : ℕ)
    (inb : ∀ k : Fin 2, (![a, b] : Fin 2 → ℕ) k + (![p, q] : Fin 2 → ℕ) k ≤ (⟨2, ![A, B]⟩ : Shape).size k) (i : Fin p) (j : Fin q)
    (I : Fin A) (J : Fin B) (hi : I.val = a + i.val) (hj : J.val = b + j.val) :
    View.ld X (Rect.unit (s := ⟨2, ![A, B]⟩) ![a, b] ![p, q] inb) (ix2 i j) = X (ix2 I J) := by
  refine View.ld_unit_apply_of X _ _ _ _ _ fun k => ?_
  match k with
  | ⟨0, _⟩ => exact hi
  | ⟨1, _⟩ => exact hj

/-- The mask's comparison of two positions. -/
theorem sle_at (a b : EReal) (t s : Fin 128) :
    Scalar.select (IntOp.cmpi CmpIPredicate.sle (BitVec.ofNat 32 s.val) (BitVec.ofNat 32 t.val)) a b = if s.val ≤ t.val then a else b := by
  have h : IntOp.cmpi CmpIPredicate.sle (BitVec.ofNat 32 s.val) (BitVec.ofNat 32 t.val) = if s.val ≤ t.val then 1#1 else 0#1 :=
    (by decide +kernel : ∀ s t : Fin 128, IntOp.cmpi CmpIPredicate.sle (BitVec.ofNat 32 s.val) (BitVec.ofNat 32 t.val) = if s.val ≤ t.val then 1#1 else 0#1) s t
  rw [h]
  split <;> rfl

/-! ## What the body loads -/

theorem ldx0 (w : Fin 256) (d : Fin 1024) : View.ld x0 r0_8 (ix3 0 w d) = x0 (ix3 0 ⟨0 + w.val, by omega⟩ d) :=
  ld3_at x0 0 0 0 _ 0 w d 0 _ d rfl rfl (Nat.zero_add _).symm

theorem ldx1 (w : Fin 256) (d : Fin 1024) : View.ld x0 r0_11 (ix3 0 w d) = x0 (ix3 0 ⟨256 + w.val, by omega⟩ d) :=
  ld3_at x0 0 256 0 _ 0 w d 0 _ d rfl rfl (Nat.zero_add _).symm

theorem ldx2 (w : Fin 256) (d : Fin 1024) : View.ld x0 r0_37 (ix3 0 w d) = x0 (ix3 0 ⟨512 + w.val, by omega⟩ d) :=
  ld3_at x0 0 512 0 _ 0 w d 0 _ d rfl rfl (Nat.zero_add _).symm

theorem ldx3 (w : Fin 256) (d : Fin 1024) : View.ld x0 r0_54 (ix3 0 w d) = x0 (ix3 0 ⟨768 + w.val, by omega⟩ d) :=
  ld3_at x0 0 768 0 _ 0 w d 0 _ d rfl rfl (Nat.zero_add _).symm

theorem ldg (d : Fin 1024) : View.ld x1 r0_9 (ix2 0 d) = x1 (ix2 0 d) := ld2_at x1 0 0 _ 0 d 0 d rfl (Nat.zero_add _).symm

theorem ldw (X : Vec Ideal S1024x512 .bf16) (d : Fin 1024) (k : Fin 512) : View.ld X r0_10 (ix2 d k) = X (ix2 d k) :=
  ld2_at X 0 0 _ d k d k (Nat.zero_add _).symm (Nat.zero_add _).symm

theorem ldb (X : Vec Ideal S1x512 .f32) (k : Fin 512) : View.ld X r0_12 (ix2 0 k) = X (ix2 0 k) := ld2_at X 0 0 _ 0 k 0 k rfl (Nat.zero_add _).symm

theorem ldm0 (t s : Fin 128) : View.ld x6 r0_0 (ix3 0 t s) = x6 (ix3 0 t s) :=
  ld3_at x6 0 0 0 _ 0 t s 0 t s rfl (Nat.zero_add _).symm (Nat.zero_add _).symm

theorem ldm1 (t s : Fin 128) : View.ld x6 r0_1 (ix3 0 t s) = x6 (ix3 1 t s) :=
  ld3_at x6 1 0 0 _ 0 t s 1 t s rfl (Nat.zero_add _).symm (Nat.zero_add _).symm

theorem ldm2 (t s : Fin 128) : View.ld x6 r0_2 (ix3 0 t s) = x6 (ix3 2 t s) :=
  ld3_at x6 2 0 0 _ 0 t s 2 t s rfl (Nat.zero_add _).symm (Nat.zero_add _).symm

theorem ldm3 (t s : Fin 128) : View.ld x6 r0_3 (ix3 0 t s) = x6 (ix3 3 t s) :=
  ld3_at x6 3 0 0 _ 0 t s 3 t s rfl (Nat.zero_add _).symm (Nat.zero_add _).symm

theorem ldm4 (t s : Fin 128) : View.ld x6 r0_4 (ix3 0 t s) = x6 (ix3 4 t s) :=
  ld3_at x6 4 0 0 _ 0 t s 4 t s rfl (Nat.zero_add _).symm (Nat.zero_add _).symm

theorem ldm5 (t s : Fin 128) : View.ld x6 r0_5 (ix3 0 t s) = x6 (ix3 5 t s) :=
  ld3_at x6 5 0 0 _ 0 t s 5 t s rfl (Nat.zero_add _).symm (Nat.zero_add _).symm

theorem ldm6 (t s : Fin 128) : View.ld x6 r0_6 (ix3 0 t s) = x6 (ix3 6 t s) :=
  ld3_at x6 6 0 0 _ 0 t s 6 t s rfl (Nat.zero_add _).symm (Nat.zero_add _).symm

theorem ldm7 (t s : Fin 128) : View.ld x6 r0_7 (ix3 0 t s) = x6 (ix3 7 t s) :=
  ld3_at x6 7 0 0 _ 0 t s 7 t s rfl (Nat.zero_add _).symm (Nat.zero_add _).symm

/-! ## The values the stores share -/

theorem u0_at (w : Fin 256) (k : Fin 512) : k0_pay136 x0 x1 x2 x3 x4 x5 x6 x7 (ix2 w k) = U x0 x1 x2 ⟨0 + w.val, by omega⟩ k := by
  pointwise [k0_pay136, k0_pay19, k0_pay13, k0_pay12, U, proj, gelu, rms, ldx0, ldg, ldw]

theorem n0_at (w : Fin 256) (k : Fin 512) : k0_pay139 x0 x1 x2 x3 x4 x5 x6 x7 (ix2 w k) = N x0 x1 x3 x4 x5 ⟨0 + w.val, by omega⟩ k := by
  pointwise [k0_pay139, k0_pay132, k0_pay133, k0_pay128, k0_pay134, k0_pay137, k0_pay138, k0_pay12, k0_pay14, k0_pay15, k0_pay20, k0_pay21, k0_pay22, N, U, layer, mean, proj, gelu, rms, ldx0, ldg, ldw, ldb]

theorem u1_at (w : Fin 256) (k : Fin 512) : k0_pay143 x0 x1 x2 x3 x4 x5 x6 x7 (ix2 w k) = U x0 x1 x2 ⟨256 + w.val, by omega⟩ k := by
  pointwise [k0_pay143, k0_pay47, k0_pay17, k0_pay16, U, proj, gelu, rms, ldx1, ldg, ldw]

theorem n1_at (w : Fin 256) (k : Fin 512) : k0_pay146 x0 x1 x2 x3 x4 x5 x6 x7 (ix2 w k) = N x0 x1 x3 x4 x5 ⟨256 + w.val, by omega⟩ k := by
  pointwise [k0_pay146, k0_pay144, k0_pay145, k0_pay135, k0_pay48, k0_pay49, k0_pay50, k0_pay18, k0_pay16, N, U, layer, mean, proj, gelu, rms, ldx1, ldg, ldw, ldb]

theorem u2_at (w : Fin 256) (k : Fin 512) : k0_pay148 x0 x1 x2 x3 x4 x5 x6 x7 (ix2 w k) = U x0 x1 x2 ⟨512 + w.val, by omega⟩ k := by
  pointwise [k0_pay148, k0_pay141, k0_pay140, k0_pay74, k0_pay75, k0_pay76, k0_pay44, k0_pay45, U, proj, gelu, rms, ldx2, ldg, ldw]

theorem n2_at (w : Fin 256) (k : Fin 512) : k0_pay149 x0 x1 x2 x3 x4 x5 x6 x7 (ix2 w k) = N x0 x1 x3 x4 x5 ⟨512 + w.val, by omega⟩ k := by
  pointwise [k0_pay149, k0_pay142, k0_pay140, k0_pay44, k0_pay46, k0_pay77, N, U, layer, mean, proj, gelu, rms, ldx2, ldg, ldw, ldb]

theorem u3_at (w : Fin 256) (k : Fin 512) : k0_pay150 x0 x1 x2 x3 x4 x5 x6 x7 (ix2 w k) = U x0 x1 x2 ⟨768 + w.val, by omega⟩ k := by
  pointwise [k0_pay150, k0_pay99, k0_pay72, k0_pay71, U, proj, gelu, rms, ldx3, ldg, ldw]

theorem n3_at (w : Fin 256) (k : Fin 512) : k0_pay152 x0 x1 x2 x3 x4 x5 x6 x7 (ix2 w k) = N x0 x1 x3 x4 x5 ⟨768 + w.val, by omega⟩ k := by
  pointwise [k0_pay152, k0_pay147, k0_pay151, k0_pay73, k0_pay100, k0_pay101, k0_pay71, N, U, layer, mean, proj, gelu, rms, ldx3, ldg, ldw, ldb]

theorem i0_at (w : Fin 256) (k : Fin 512) :
    k0_pay22 (k0_pay134 x0 x1 x2 x3 x4 x5 x6 x7) (k0_pay137 x0 x1 x2 x3 x4 x5 x6 x7) (k0_pay138 x0 x1 x2 x3 x4 x5 x6 x7) (View.ld x4 r0_12) (View.ld x5 r0_12) (ix2 w k) = N x0 x1 x3 x4 x5 ⟨0 + w.val, by omega⟩ k :=
  n0_at x0 x1 x2 x3 x4 x5 x6 x7 w k

theorem i1_at (w : Fin 256) (k : Fin 512) :
    k0_pay50 (k0_pay144 x0 x1 x2 x3 x4 x5 x6 x7) (k0_pay145 x0 x1 x2 x3 x4 x5 x6 x7) (View.ld x4 r0_12) (View.ld x5 r0_12) (ix2 w k) = N x0 x1 x3 x4 x5 ⟨256 + w.val, by omega⟩ k :=
  n1_at x0 x1 x2 x3 x4 x5 x6 x7 w k

theorem i2_at (w : Fin 256) (k : Fin 512) :
    k0_pay77 (k0_pay142 x0 x1 x2 x3 x4 x5 x6 x7) (View.ld x4 r0_12) (View.ld x5 r0_12) (ix2 w k) = N x0 x1 x3 x4 x5 ⟨512 + w.val, by omega⟩ k :=
  n2_at x0 x1 x2 x3 x4 x5 x6 x7 w k

theorem i3_at (w : Fin 256) (k : Fin 512) :
    k0_pay101 (k0_pay147 x0 x1 x2 x3 x4 x5 x6 x7) (k0_pay151 x0 x1 x2 x3 x4 x5 x6 x7) (View.ld x4 r0_12) (View.ld x5 r0_12) (ix2 w k) = N x0 x1 x3 x4 x5 ⟨768 + w.val, by omega⟩ k :=
  n3_at x0 x1 x2 x3 x4 x5 x6 x7 w k

theorem m0_at (t s : Fin 128) : k0_pay123 x0 x1 x2 x3 x4 x5 x6 x7 (ix2 t s) = M x6 0 t s := by
  pointwise [k0_pay123, k0_pay2, M, masked, ldm0, sle_at]

theorem m1_at (t s : Fin 128) : k0_pay124 x0 x1 x2 x3 x4 x5 x6 x7 (ix2 t s) = M x6 1 t s := by
  pointwise [k0_pay124, k0_pay3, M, masked, ldm1, sle_at]

theorem m2_at (t s : Fin 128) : k0_pay125 x0 x1 x2 x3 x4 x5 x6 x7 (ix2 t s) = M x6 2 t s := by
  pointwise [k0_pay125, k0_pay4, M, masked, ldm2, sle_at]

theorem m3_at (t s : Fin 128) : k0_pay126 x0 x1 x2 x3 x4 x5 x6 x7 (ix2 t s) = M x6 3 t s := by
  pointwise [k0_pay126, k0_pay5, M, masked, ldm3, sle_at]

theorem m4_at (t s : Fin 128) : k0_pay127 x0 x1 x2 x3 x4 x5 x6 x7 (ix2 t s) = M x6 4 t s := by
  pointwise [k0_pay127, k0_pay6, M, masked, ldm4, sle_at]

theorem m5_at (t s : Fin 128) : k0_pay129 x0 x1 x2 x3 x4 x5 x6 x7 (ix2 t s) = M x6 5 t s := by
  pointwise [k0_pay129, k0_pay7, k0_pay8, k0_pay9, M, masked, ldm5, sle_at]

theorem m6_at (t s : Fin 128) : k0_pay130 x0 x1 x2 x3 x4 x5 x6 x7 (ix2 t s) = M x6 6 t s := by
  pointwise [k0_pay130, k0_pay121, k0_pay122, k0_pay10, M, masked, ldm6, sle_at]

theorem m7_at (t s : Fin 128) : k0_pay131 x0 x1 x2 x3 x4 x5 x6 x7 (ix2 t s) = M x6 7 t s := by
  pointwise [k0_pay131, k0_pay121, k0_pay122, k0_pay11, M, masked, ldm7, sle_at]

theorem ldv0 (t : Fin 128) (e : Fin 64) : View.ld x7 r0_13 (ix2 t e) = x7 (ix2 t ⟨0 + e.val, by omega⟩) :=
  ld2_at x7 0 0 _ t e t _ (Nat.zero_add _).symm rfl

theorem ldv1 (t : Fin 128) (e : Fin 64) : View.ld x7 r0_16 (ix2 t e) = x7 (ix2 t ⟨64 + e.val, by omega⟩) :=
  ld2_at x7 0 64 _ t e t _ (Nat.zero_add _).symm rfl

theorem ldv2 (t : Fin 128) (e : Fin 64) : View.ld x7 r0_19 (ix2 t e) = x7 (ix2 t ⟨128 + e.val, by omega⟩) :=
  ld2_at x7 0 128 _ t e t _ (Nat.zero_add _).symm rfl

theorem ldv3 (t : Fin 128) (e : Fin 64) : View.ld x7 r0_22 (ix2 t e) = x7 (ix2 t ⟨192 + e.val, by omega⟩) :=
  ld2_at x7 0 192 _ t e t _ (Nat.zero_add _).symm rfl

theorem ldv4 (t : Fin 128) (e : Fin 64) : View.ld x7 r0_25 (ix2 t e) = x7 (ix2 t ⟨256 + e.val, by omega⟩) :=
  ld2_at x7 0 256 _ t e t _ (Nat.zero_add _).symm rfl

theorem ldv5 (t : Fin 128) (e : Fin 64) : View.ld x7 r0_28 (ix2 t e) = x7 (ix2 t ⟨320 + e.val, by omega⟩) :=
  ld2_at x7 0 320 _ t e t _ (Nat.zero_add _).symm rfl

theorem ldv6 (t : Fin 128) (e : Fin 64) : View.ld x7 r0_31 (ix2 t e) = x7 (ix2 t ⟨384 + e.val, by omega⟩) :=
  ld2_at x7 0 384 _ t e t _ (Nat.zero_add _).symm rfl

theorem ldv7 (t : Fin 128) (e : Fin 64) : View.ld x7 r0_34 (ix2 t e) = x7 (ix2 t ⟨448 + e.val, by omega⟩) :=
  ld2_at x7 0 448 _ t e t _ (Nat.zero_add _).symm rfl

end Cert.SguIdeal.Tile

end
-- ==== Proof.SguOut.lean ====
/- The spatial gate's tile: its 64 stores read back as one array. -/
module

public import proofs.«01_k».proof.Proof.SguTile
public import Idealize.ShloMosaic.Lib.Pipeline.ReadBack
public import Idealize.ShloMosaic.Lib.Pipeline.ValueKit.Tiles
public import Idealize.ShloMosaic.Lib.Pointwise

@[expose] public section

set_option maxRecDepth 16384

noncomputable section

namespace Cert.SguIdeal.Tile

open Idealize.ShloMosaic Idealize.ShloMosaic.TcCoe
open Cert.SguIdeal Cert.SguIdeal.Gen
open Cert.SguSpec

variable (x0 : Vec Ideal S1x1024x1024 .f32) (x1 : Vec Ideal S1x1024 .f32) (x2 x3 : Vec Ideal S1024x512 .bf16) (x4 x5 : Vec Ideal S1x512 .f32)
    (x6 : Vec Ideal S8x128x128 .f32) (x7 : Vec Ideal S128x512 .f32)

/-- The tile's result at row `n`, column `k`. -/
def E (n : Fin 1024) (k : Fin 512) : EReal :=
  U x0 x1 x2 n k * (∑ s : Fin 128, M x6 ⟨k.val / 64, by omega⟩ ⟨n.val % 128, by omega⟩ s * N x0 x1 x3 x4 x5 ⟨n.val - n.val % 128 + s.val, by omega⟩ k
    + x7 (ix2 ⟨n.val % 128, by omega⟩ k))

/-- A store of 128 rows and one group's columns that has the result's elements. -/
theorem tile (n : Fin 1024) (k : Fin 512) (A C R G : ℕ) (g : Fin 8) (h : R = A + C ∧ R % 128 = 0 ∧ R ≤ 896 ∧ G = 64 * g.val) (W : Vec Ideal S1x128x64 .bf16)
    (hW : ∀ (t : Fin 128) (e : Fin 64), W (ix3 0 t e) = U x0 x1 x2 ⟨A + (C + t.val), by omega⟩ ⟨G + e.val, by omega⟩
      * (∑ s : Fin 128, M x6 g t s * N x0 x1 x3 x4 x5 ⟨A + (C + s.val), by omega⟩ ⟨G + e.val, by omega⟩ + x7 (ix2 t ⟨G + e.val, by omega⟩))) :
    View.TileAt (S := S1x1024x512) (Val := Elt Ideal) (e := .bf16) (ix3 0 n k) ![0, R, G] S1x128x64.size W (E x0 x1 x2 x3 x4 x5 x6 x7 n k) := by
  intro x hx
  have hn : n.val = R + (x 1).val := hx 1
  have hk : k.val = G + (x 2).val := hx 2
  have b1 : (x 1).val < 128 := (x 1).isLt
  have b2 : (x 2).val < 64 := (x 2).isLt
  have ex : x = ix3 (n0 := 1) (n1 := 128) (n2 := 64) 0 ⟨(x 1).val, b1⟩ ⟨(x 2).val, b2⟩ := funext fun a => by
    match a with
    | ⟨0, _⟩ => exact Subsingleton.elim (α := Fin 1) _ _
    | ⟨1, _⟩ => rfl
    | ⟨2, _⟩ => rfl
  have e1 : (⟨k.val / 64, by omega⟩ : Fin 8) = g := Fin.ext (by show k.val / 64 = g.val; omega)
  have e2 : (⟨n.val % 128, by omega⟩ : Fin 128) = ⟨(x 1).val, b1⟩ := Fin.ext (by show n.val % 128 = (x 1).val; omega)
  have e3 : ∀ s : Fin 128, (⟨n.val - n.val % 128 + s.val, by omega⟩ : Fin 1024) = ⟨A + (C + s.val), by omega⟩ :=
    fun s => Fin.ext (by show n.val - n.val % 128 + s.val = A + (C + s.val); omega)
  have e4 : n = ⟨A + (C + (x 1).val), by omega⟩ := Fin.ext (by show n.val = A + (C + (x 1).val); omega)
  have e5 : k = ⟨G + (x 2).val, by omega⟩ := Fin.ext hk
  refine (congrArg W ex).trans ((hW _ _).trans ?_)
  unfold E
  simp only [e1, e2, e3]
  rw [← e4, ← e5]

/-- The body's stores leave the result in the whole tile. -/
theorem out_at (n : Fin 1024) (k : Fin 512) : out0_8 x0 x1 x2 x3 x4 x5 x6 x7 (ix3 0 n k) = E x0 x1 x2 x3 x4 x5 x6 x7 n k := by
  unfold out0_8
  refine View.canon_eq_of_allAt _ _ _ (cover0_8 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) ?_
  refine View.allAt_cons_unit _ _ _ _ _ (tile x0 x1 x2 x3 x4 x5 x6 x7 n k 768 128 896 448 7 (by decide) _ fun t e => by pointwise [k0_pay1, k0_pay120, u3_at, m7_at, ldv7, n3_at]) ?_
  refine View.allAt_cons_unit _ _ _ _ _ (tile x0 x1 x2 x3 x4 x5 x6 x7 n k 768 0 768 448 7 (by decide) _ fun t e => by pointwise [k0_pay119, u3_at, m7_at, ldv7, n3_at]) ?_
  refine View.allAt_cons_unit _ _ _ _ _ (tile x0 x1 x2 x3 x4 x5 x6 x7 n k 768 128 896 384 6 (by decide) _ fun t e => by pointwise [k0_pay118, u3_at, m6_at, ldv6, n3_at]) ?_
  refine View.allAt_cons_unit _ _ _ _ _ (tile x0 x1 x2 x3 x4 x5 x6 x7 n k 768 0 768 384 6 (by decide) _ fun t e => by pointwise [k0_pay117, u3_at, m6_at, ldv6, n3_at]) ?_
  refine View.allAt_cons_unit _ _ _ _ _ (tile x0 x1 x2 x3 x4 x5 x6 x7 n k 768 128 896 320 5 (by decide) _ fun t e => by pointwise [k0_pay116, u3_at, m5_at, ldv5, n3_at]) ?_
  refine View.allAt_cons_unit _ _ _ _ _ (tile x0 x1 x2 x3 x4 x5 x6 x7 n k 768 0 768 320 5 (by decide) _ fun t e => by pointwise [k0_pay115, k0_pay114, u3_at, m5_at, ldv5, n3_at]) ?_
  refine View.allAt_cons_unit _ _ _ _ _ (tile x0 x1 x2 x3 x4 x5 x6 x7 n k 768 128 896 256 4 (by decide) _ fun t e => by pointwise [k0_pay113, u3_at, m4_at, ldv4, n3_at]) ?_
  refine View.allAt_cons_unit _ _ _ _ _ (tile x0 x1 x2 x3 x4 x5 x6 x7 n k 768 0 768 256 4 (by decide) _ fun t e => by pointwise [k0_pay112, u3_at, m4_at, ldv4, n3_at]) ?_
  refine View.allAt_cons_unit _ _ _ _ _ (tile x0 x1 x2 x3 x4 x5 x6 x7 n k 768 128 896 192 3 (by decide) _ fun t e => by pointwise [k0_pay111, k0_pay110, u3_at, m3_at, ldv3, n3_at]) ?_
  refine View.allAt_cons_unit _ _ _ _ _ (tile x0 x1 x2 x3 x4 x5 x6 x7 n k 768 0 768 192 3 (by decide) _ fun t e => by pointwise [k0_pay109, u3_at, m3_at, ldv3, n3_at]) ?_
  refine View.allAt_cons_unit _ _ _ _ _ (tile x0 x1 x2 x3 x4 x5 x6 x7 n k 768 128 896 128 2 (by decide) _ fun t e => by pointwise [k0_pay108, u3_at, m2_at, ldv2, n3_at]) ?_
  refine View.allAt_cons_unit _ _ _ _ _ (tile x0 x1 x2 x3 x4 x5 x6 x7 n k 768 0 768 128 2 (by decide) _ fun t e => by pointwise [k0_pay107, u3_at, m2_at, ldv2, n3_at]) ?_
  refine View.allAt_cons_unit _ _ _ _ _ (tile x0 x1 x2 x3 x4 x5 x6 x7 n k 768 128 896 64 1 (by decide) _ fun t e => by pointwise [k0_pay106, u3_at, m1_at, ldv1, n3_at]) ?_
  refine View.allAt_cons_unit _ _ _ _ _ (tile x0 x1 x2 x3 x4 x5 x6 x7 n k 768 0 768 64 1 (by decide) _ fun t e => by pointwise [k0_pay105, u3_at, m1_at, ldv1, n3_at]) ?_
  refine View.allAt_cons_unit _ _ _ _ _ (tile x0 x1 x2 x3 x4 x5 x6 x7 n k 768 128 896 0 0 (by decide) _ fun t e => by pointwise [k0_pay104, u3_at, m0_at, ldv0, n3_at]) ?_
  refine View.allAt_cons_unit _ _ _ _ _ (tile x0 x1 x2 x3 x4 x5 x6 x7 n k 768 0 768 0 0 (by decide) _ fun t e => by pointwise [k0_pay103, k0_pay102, u3_at, m0_at, ldv0, i3_at]) ?_
  refine View.allAt_cons_unit _ _ _ _ _ (tile x0 x1 x2 x3 x4 x5 x6 x7 n k 512 128 640 448 7 (by decide) _ fun t e => by pointwise [k0_pay98, u2_at, m7_at, ldv7, n2_at]) ?_
  refine View.allAt_cons_unit _ _ _ _ _ (tile x0 x1 x2 x3 x4 x5 x6 x7 n k 512 0 512 448 7 (by decide) _ fun t e => by pointwise [k0_pay97, u2_at, m7_at, ldv7, n2_at]) ?_
  refine View.allAt_cons_unit _ _ _ _ _ (tile x0 x1 x2 x3 x4 x5 x6 x7 n k 512 128 640 384 6 (by decide) _ fun t e => by pointwise [k0_pay96, k0_pay95, u2_at, m6_at, ldv6, n2_at]) ?_
  refine View.allAt_cons_unit _ _ _ _ _ (tile x0 x1 x2 x3 x4 x5 x6 x7 n k 512 0 512 384 6 (by decide) _ fun t e => by pointwise [k0_pay94, u2_at, m6_at, ldv6, n2_at]) ?_
  refine View.allAt_cons_unit _ _ _ _ _ (tile x0 x1 x2 x3 x4 x5 x6 x7 n k 512 128 640 320 5 (by decide) _ fun t e => by pointwise [k0_pay93, u2_at, m5_at, ldv5, n2_at]) ?_
  refine View.allAt_cons_unit _ _ _ _ _ (tile x0 x1 x2 x3 x4 x5 x6 x7 n k 512 0 512 320 5 (by decide) _ fun t e => by pointwise [k0_pay92, k0_pay91, u2_at, m5_at, ldv5, n2_at]) ?_
  refine View.allAt_cons_unit _ _ _ _ _ (tile x0 x1 x2 x3 x4 x5 x6 x7 n k 512 128 640 256 4 (by decide) _ fun t e => by pointwise [k0_pay90, u2_at, m4_at, ldv4, n2_at]) ?_
  refine View.allAt_cons_unit _ _ _ _ _ (tile x0 x1 x2 x3 x4 x5 x6 x7 n k 512 0 512 256 4 (by decide) _ fun t e => by pointwise [k0_pay89, u2_at, m4_at, ldv4, n2_at]) ?_
  refine View.allAt_cons_unit _ _ _ _ _ (tile x0 x1 x2 x3 x4 x5 x6 x7 n k 512 128 640 192 3 (by decide) _ fun t e => by pointwise [k0_pay88, k0_pay87, u2_at, m3_at, ldv3, n2_at]) ?_
  refine View.allAt_cons_unit _ _ _ _ _ (tile x0 x1 x2 x3 x4 x5 x6 x7 n k 512 0 512 192 3 (by decide) _ fun t e => by pointwise [k0_pay86, u2_at, m3_at, ldv3, n2_at]) ?_
  refine View.allAt_cons_unit _ _ _ _ _ (tile x0 x1 x2 x3 x4 x5 x6 x7 n k 512 128 640 128 2 (by decide) _ fun t e => by pointwise [k0_pay85, u2_at, m2_at, ldv2, n2_at]) ?_
  refine View.allAt_cons_unit _ _ _ _ _ (tile x0 x1 x2 x3 x4 x5 x6 x7 n k 512 0 512 128 2 (by decide) _ fun t e => by pointwise [k0_pay84, u2_at, m2_at, ldv2, n2_at]) ?_
  refine View.allAt_cons_unit _ _ _ _ _ (tile x0 x1 x2 x3 x4 x5 x6 x7 n k 512 128 640 64 1 (by decide) _ fun t e => by pointwise [k0_pay83, k0_pay82, u2_at, m1_at, ldv1, n2_at]) ?_
  refine View.allAt_cons_unit _ _ _ _ _ (tile x0 x1 x2 x3 x4 x5 x6 x7 n k 512 0 512 64 1 (by decide) _ fun t e => by pointwise [k0_pay81, u2_at, m1_at, ldv1, n2_at]) ?_
  refine View.allAt_cons_unit _ _ _ _ _ (tile x0 x1 x2 x3 x4 x5 x6 x7 n k 512 128 640 0 0 (by decide) _ fun t e => by pointwise [k0_pay80, u2_at, m0_at, ldv0, n2_at]) ?_
  refine View.allAt_cons_unit _ _ _ _ _ (tile x0 x1 x2 x3 x4 x5 x6 x7 n k 512 0 512 0 0 (by decide) _ fun t e => by pointwise [k0_pay79, k0_pay78, u2_at, m0_at, ldv0, i2_at]) ?_
  refine View.allAt_cons_unit _ _ _ _ _ (tile x0 x1 x2 x3 x4 x5 x6 x7 n k 256 128 384 448 7 (by decide) _ fun t e => by pointwise [k0_pay70, k0_pay69, u1_at, m7_at, ldv7, n1_at]) ?_
  refine View.allAt_cons_unit _ _ _ _ _ (tile x0 x1 x2 x3 x4 x5 x6 x7 n k 256 0 256 448 7 (by decide) _ fun t e => by pointwise [k0_pay68, u1_at, m7_at, ldv7, n1_at]) ?_
  refine View.allAt_cons_unit _ _ _ _ _ (tile x0 x1 x2 x3 x4 x5 x6 x7 n k 256 128 384 384 6 (by decide) _ fun t e => by pointwise [k0_pay67, u1_at, m6_at, ldv6, n1_at]) ?_
  refine View.allAt_cons_unit _ _ _ _ _ (tile x0 x1 x2 x3 x4 x5 x6 x7 n k 256 0 256 384 6 (by decide) _ fun t e => by pointwise [k0_pay66, k0_pay65, u1_at, m6_at, ldv6, n1_at]) ?_
  refine View.allAt_cons_unit _ _ _ _ _ (tile x0 x1 x2 x3 x4 x5 x6 x7 n k 256 128 384 320 5 (by decide) _ fun t e => by pointwise [k0_pay64, u1_at, m5_at, ldv5, n1_at]) ?_
  refine View.allAt_cons_unit _ _ _ _ _ (tile x0 x1 x2 x3 x4 x5 x6 x7 n k 256 0 256 320 5 (by decide) _ fun t e => by pointwise [k0_pay63, u1_at, m5_at, ldv5, n1_at]) ?_
  refine View.allAt_cons_unit _ _ _ _ _ (tile x0 x1 x2 x3 x4 x5 x6 x7 n k 256 128 384 256 4 (by decide) _ fun t e => by pointwise [k0_pay62, u1_at, m4_at, ldv4, n1_at]) ?_
  refine View.allAt_cons_unit _ _ _ _ _ (tile x0 x1 x2 x3 x4 x5 x6 x7 n k 256 0 256 256 4 (by decide) _ fun t e => by pointwise [k0_pay61, u1_at, m4_at, ldv4, n1_at]) ?_
  refine View.allAt_cons_unit _ _ _ _ _ (tile x0 x1 x2 x3 x4 x5 x6 x7 n k 256 128 384 192 3 (by decide) _ fun t e => by pointwise [k0_pay60, u1_at, m3_at, ldv3, n1_at]) ?_
  refine View.allAt_cons_unit _ _ _ _ _ (tile x0 x1 x2 x3 x4 x5 x6 x7 n k 256 0 256 192 3 (by decide) _ fun t e => by pointwise [k0_pay59, u1_at, m3_at, ldv3, n1_at]) ?_
  refine View.allAt_cons_unit _ _ _ _ _ (tile x0 x1 x2 x3 x4 x5 x6 x7 n k 256 128 384 128 2 (by decide) _ fun t e => by pointwise [k0_pay58, k0_pay57, u1_at, m2_at, ldv2, n1_at]) ?_
  refine View.allAt_cons_unit _ _ _ _ _ (tile x0 x1 x2 x3 x4 x5 x6 x7 n k 256 0 256 128 2 (by decide) _ fun t e => by pointwise [k0_pay56, u1_at, m2_at, ldv2, n1_at]) ?_
  refine View.allAt_cons_unit _ _ _ _ _ (tile x0 x1 x2 x3 x4 x5 x6 x7 n k 256 128 384 64 1 (by decide) _ fun t e => by pointwise [k0_pay55, u1_at, m1_at, ldv1, n1_at]) ?_
  refine View.allAt_cons_unit _ _ _ _ _ (tile x0 x1 x2 x3 x4 x5 x6 x7 n k 256 0 256 64 1 (by decide) _ fun t e => by pointwise [k0_pay54, k0_pay53, u1_at, m1_at, ldv1, i1_at]) ?_
  refine View.allAt_cons_unit _ _ _ _ _ (tile x0 x1 x2 x3 x4 x5 x6 x7 n k 256 128 384 0 0 (by decide) _ fun t e => by pointwise [k0_pay52, u1_at, m0_at, ldv0, i1_at]) ?_
  refine View.allAt_cons_unit _ _ _ _ _ (tile x0 x1 x2 x3 x4 x5 x6 x7 n k 256 0 256 0 0 (by decide) _ fun t e => by pointwise [k0_pay51, u1_at, m0_at, ldv0, i1_at]) ?_
  refine View.allAt_cons_unit _ _ _ _ _ (tile x0 x1 x2 x3 x4 x5 x6 x7 n k 0 128 128 448 7 (by decide) _ fun t e => by pointwise [k0_pay43, u0_at, m7_at, ldv7, n0_at]) ?_
  refine View.allAt_cons_unit _ _ _ _ _ (tile x0 x1 x2 x3 x4 x5 x6 x7 n k 0 0 0 448 7 (by decide) _ fun t e => by pointwise [k0_pay42, k0_pay41, u0_at, m7_at, ldv7, n0_at]) ?_
  refine View.allAt_cons_unit _ _ _ _ _ (tile x0 x1 x2 x3 x4 x5 x6 x7 n k 0 128 128 384 6 (by decide) _ fun t e => by pointwise [k0_pay40, u0_at, m6_at, ldv6, n0_at]) ?_
  refine View.allAt_cons_unit _ _ _ _ _ (tile x0 x1 x2 x3 x4 x5 x6 x7 n k 0 0 0 384 6 (by decide) _ fun t e => by pointwise [k0_pay39, u0_at, m6_at, ldv6, n0_at]) ?_
  refine View.allAt_cons_unit _ _ _ _ _ (tile x0 x1 x2 x3 x4 x5 x6 x7 n k 0 128 128 320 5 (by decide) _ fun t e => by pointwise [k0_pay38, u0_at, m5_at, ldv5, n0_at]) ?_
  refine View.allAt_cons_unit _ _ _ _ _ (tile x0 x1 x2 x3 x4 x5 x6 x7 n k 0 0 0 320 5 (by decide) _ fun t e => by pointwise [k0_pay37, k0_pay36, u0_at, m5_at, ldv5, n0_at]) ?_
  refine View.allAt_cons_unit _ _ _ _ _ (tile x0 x1 x2 x3 x4 x5 x6 x7 n k 0 128 128 256 4 (by decide) _ fun t e => by pointwise [k0_pay35, u0_at, m4_at, ldv4, n0_at]) ?_
  refine View.allAt_cons_unit _ _ _ _ _ (tile x0 x1 x2 x3 x4 x5 x6 x7 n k 0 0 0 256 4 (by decide) _ fun t e => by pointwise [k0_pay34, u0_at, m4_at, ldv4, n0_at]) ?_
  refine View.allAt_cons_unit _ _ _ _ _ (tile x0 x1 x2 x3 x4 x5 x6 x7 n k 0 128 128 192 3 (by decide) _ fun t e => by pointwise [k0_pay33, k0_pay32, u0_at, m3_at, ldv3, n0_at]) ?_
  refine View.allAt_cons_unit _ _ _ _ _ (tile x0 x1 x2 x3 x4 x5 x6 x7 n k 0 0 0 192 3 (by decide) _ fun t e => by pointwise [k0_pay31, u0_at, m3_at, ldv3, n0_at]) ?_
  refine View.allAt_cons_unit _ _ _ _ _ (tile x0 x1 x2 x3 x4 x5 x6 x7 n k 0 128 128 128 2 (by decide) _ fun t e => by pointwise [k0_pay30, u0_at, m2_at, ldv2, n0_at]) ?_
  refine View.allAt_cons_unit _ _ _ _ _ (tile x0 x1 x2 x3 x4 x5 x6 x7 n k 0 0 0 128 2 (by decide) _ fun t e => by pointwise [k0_pay29, k0_pay28, u0_at, m2_at, ldv2, n0_at]) ?_
  refine View.allAt_cons_unit _ _ _ _ _ (tile x0 x1 x2 x3 x4 x5 x6 x7 n k 0 128 128 64 1 (by decide) _ fun t e => by pointwise [k0_pay27, u0_at, m1_at, ldv1, n0_at]) ?_
  refine View.allAt_cons_unit _ _ _ _ _ (tile x0 x1 x2 x3 x4 x5 x6 x7 n k 0 0 0 64 1 (by decide) _ fun t e => by pointwise [k0_pay26, u0_at, m1_at, ldv1, n0_at]) ?_
  refine View.allAt_cons_unit _ _ _ _ _ (tile x0 x1 x2 x3 x4 x5 x6 x7 n k 0 128 128 0 0 (by decide) _ fun t e => by pointwise [k0_pay25, u0_at, m0_at, ldv0, n0_at]) ?_
  refine View.allAt_cons_unit _ _ _ _ _ (tile x0 x1 x2 x3 x4 x5 x6 x7 n k 0 0 0 0 0 (by decide) _ fun t e => by pointwise [k0_pay24, k0_pay23, u0_at, m0_at, ldv0, i0_at]) ?_
  exact View.allAt_nil _ _

end Cert.SguIdeal.Tile

end
-- ==== Proof.SguBlocks.lean ====
/- The spatial gate's result array, element by element, in terms of the call's arguments. -/
module

public import proofs.«01_k».proof.Proof.SguOut
public import proofs.«01_k».proof.Proof.Gen.SguIdeal.Value
public import Idealize.ShloMosaic.Lib.Claim

@[expose] public section

set_option maxRecDepth 16384

noncomputable section

namespace Cert.SguIdeal.Blk

open Idealize.ShloMosaic Idealize.ShloMosaic.TcCoe
open Cert.SguIdeal Cert.SguIdeal.Gen
open Cert.SguSpec

/-- The call's result from its eight arrays. -/
def result (a0 : Vec Ideal S8x4096x1024 .f32) (a1 : Vec Ideal S1024 .f32) (a2 a3 : Vec Ideal S1024x512 .f32) (a4 a5 : Vec Ideal S512 .f32)
    (a6 : Vec Ideal S8x128x128 .f32) (a7 : Vec Ideal S8x128 .f32) : Vec Ideal S8x4096x512 .bf16 := fun i =>
  out (fun n d => a0 (ix3 (i 0) n d)) (fun d => a1 (ix1 d)) (fun k d => a2 (ix2 d k)) (fun k d => a3 (ix2 d k))
    (fun k => a4 (ix1 k)) (fun k => a5 (ix1 k)) (fun g t s => a6 (ix3 g t s)) (fun g t => a7 (ix2 g t)) (i 1) (i 2)

variable (m : (ℓ : Loc nD τ sig) → Buf (Elt Ideal) ℓ) (c : Dev nD)

/-! ## The operands the host prepares -/

theorem main_v0_at (d : Fin 1024) (k : Fin 512) : (V m c main_v0 : Vec Ideal S1024x512 .bf16) (ix2 d k) = (m ((c : Thread nD τ).loc main_arg2) : Vec Ideal S1024x512 .f32) (ix2 d k) := by
  entry_read
  pointwise []

theorem main_v1_at (d : Fin 1024) (k : Fin 512) : (V m c main_v1 : Vec Ideal S1024x512 .bf16) (ix2 d k) = (m ((c : Thread nD τ).loc main_arg3) : Vec Ideal S1024x512 .f32) (ix2 d k) := by
  entry_read
  pointwise []

theorem main_v5_at (d : Fin 1024) : (V m c main_v5 : Vec Ideal S1x1024 .f32) (ix2 0 d) = (m ((c : Thread nD τ).loc main_arg1) : Vec Ideal S1024 .f32) (ix1 d) := by
  entry_read
  pointwise []

theorem main_v6_at (d : Fin 512) : (V m c main_v6 : Vec Ideal S1x512 .f32) (ix2 0 d) = (m ((c : Thread nD τ).loc main_arg4) : Vec Ideal S512 .f32) (ix1 d) := by
  entry_read
  pointwise []

theorem main_v7_at (d : Fin 512) : (V m c main_v7 : Vec Ideal S1x512 .f32) (ix2 0 d) = (m ((c : Thread nD τ).loc main_arg5) : Vec Ideal S512 .f32) (ix1 d) := by
  entry_read
  pointwise []

theorem main_v4_at (t : Fin 128) (k : Fin 512) : (V m c main_v4 : Vec Ideal S128x512 .f32) (ix2 t k) = (m ((c : Thread nD τ).loc main_arg7) : Vec Ideal S8x128 .f32) (ix2 ⟨k.val / 64, by omega⟩ t) := by
  entry_read
  pointwise []

/-! ## The blocks -/

theorem index_0 (t : Fin cfg0.N) : win0_0.index t (0 : Fin 3) = t.val / 4 ∧ win0_0.index t (1 : Fin 3) = t.val % 4 ∧ win0_0.index t (2 : Fin 3) = 0 :=
  (by decide +kernel : ∀ t : Fin grid0.N, win0_0.index t (0 : Fin 3) = t.val / 4 ∧ win0_0.index t (1 : Fin 3) = t.val % 4 ∧ win0_0.index t (2 : Fin 3) = 0) t

theorem blk_0 (t : Fin cfg0.N) (ht : t.val < 32) (i : Fin 1024) (d : Fin 1024) :
    (iblk m c 0 t : Vec Ideal S1x1024x1024 .f32) (ix3 0 i d)
      = (m ((c : Thread nD τ).loc main_arg0) : Vec Ideal S8x4096x1024 .f32) (ix3 ⟨t.val / 4, by omega⟩ ⟨1024 * (t.val % 4) + i.val, by omega⟩ d) := by
  have hi := index_0 t
  unfold iblk
  rw [View.read_apply]
  show V m c main_arg0 _ = m ((c : Thread nD τ).loc main_arg0) (ix3 _ _ d)
  rw [V_main_arg0]
  congr 1
  funext a
  apply Fin.ext
  match a with
  | ⟨0, _⟩ => show win0_0.index t (0 : Fin 3) * 1 + 1 * 0 = t.val / 4; rw [hi.1]; omega
  | ⟨1, _⟩ => show win0_0.index t (1 : Fin 3) * 1024 + 1 * i.val = 1024 * (t.val % 4) + i.val; rw [hi.2.1]; omega
  | ⟨2, _⟩ => show win0_0.index t (2 : Fin 3) * 1024 + 1 * d.val = d.val; rw [hi.2.2]; omega

theorem blk_1 (t : Fin cfg0.N) (j : Fin 1024) : (iblk m c 1 t : Vec Ideal S1x1024 .f32) (ix2 0 j) = (m ((c : Thread nD τ).loc main_arg1) : Vec Ideal S1024 .f32) (ix1 j) := by
  have hi := (by decide +kernel : ∀ t : Fin grid0.N, win0_1.index t (0 : Fin 2) = 0 ∧ win0_1.index t (1 : Fin 2) = 0) t
  refine Eq.trans ?_ (main_v5_at m c j)
  unfold iblk
  rw [View.read_apply]
  show V m c main_v5 _ = V m c main_v5 (ix2 0 j)
  congr 1
  funext a
  apply Fin.ext
  match a with
  | ⟨0, _⟩ => show win0_1.index t (0 : Fin 2) * 1 + 1 * 0 = 0; rw [hi.1]
  | ⟨1, _⟩ => show win0_1.index t (1 : Fin 2) * 1024 + 1 * j.val = j.val; rw [hi.2]; omega

theorem blk_2 (t : Fin cfg0.N) (i : Fin 1024) (j : Fin 512) : (iblk m c 2 t : Vec Ideal S1024x512 .bf16) (ix2 i j) = (m ((c : Thread nD τ).loc main_arg2) : Vec Ideal S1024x512 .f32) (ix2 i j) := by
  have hi := (by decide +kernel : ∀ t : Fin grid0.N, win0_2.index t (0 : Fin 2) = 0 ∧ win0_2.index t (1 : Fin 2) = 0) t
  refine Eq.trans ?_ (main_v0_at m c i j)
  unfold iblk
  rw [View.read_apply]
  show V m c main_v0 _ = V m c main_v0 (ix2 i j)
  congr 1
  funext a
  apply Fin.ext
  match a with
  | ⟨0, _⟩ => show win0_2.index t (0 : Fin 2) * 1024 + 1 * i.val = i.val; rw [hi.1]; omega
  | ⟨1, _⟩ => show win0_2.index t (1 : Fin 2) * 512 + 1 * j.val = j.val; rw [hi.2]; omega

theorem blk_3 (t : Fin cfg0.N) (i : Fin 1024) (j : Fin 512) : (iblk m c 3 t : Vec Ideal S1024x512 .bf16) (ix2 i j) = (m ((c : Thread nD τ).loc main_arg3) : Vec Ideal S1024x512 .f32) (ix2 i j) := by
  have hi := (by decide +kernel : ∀ t : Fin grid0.N, win0_3.index t (0 : Fin 2) = 0 ∧ win0_3.index t (1 : Fin 2) = 0) t
  refine Eq.trans ?_ (main_v1_at m c i j)
  unfold iblk
  rw [View.read_apply]
  show V m c main_v1 _ = V m c main_v1 (ix2 i j)
  congr 1
  funext a
  apply Fin.ext
  match a with
  | ⟨0, _⟩ => show win0_3.index t (0 : Fin 2) * 1024 + 1 * i.val = i.val; rw [hi.1]; omega
  | ⟨1, _⟩ => show win0_3.index t (1 : Fin 2) * 512 + 1 * j.val = j.val; rw [hi.2]; omega

theorem blk_4 (t : Fin cfg0.N) (j : Fin 512) : (iblk m c 4 t : Vec Ideal S1x512 .f32) (ix2 0 j) = (m ((c : Thread nD τ).loc main_arg4) : Vec Ideal S512 .f32) (ix1 j) := by
  have hi := (by decide +kernel : ∀ t : Fin grid0.N, win0_4.index t (0 : Fin 2) = 0 ∧ win0_4.index t (1 : Fin 2) = 0) t
  refine Eq.trans ?_ (main_v6_at m c j)
  unfold iblk
  rw [View.read_apply]
  show V m c main_v6 _ = V m c main_v6 (ix2 0 j)
  congr 1
  funext a
  apply Fin.ext
  match a with
  | ⟨0, _⟩ => show win0_4.index t (0 : Fin 2) * 1 + 1 * 0 = 0; rw [hi.1]
  | ⟨1, _⟩ => show win0_4.index t (1 : Fin 2) * 512 + 1 * j.val = j.val; rw [hi.2]; omega

theorem blk_5 (t : Fin cfg0.N) (j : Fin 512) : (iblk m c 5 t : Vec Ideal S1x512 .f32) (ix2 0 j) = (m ((c : Thread nD τ).loc main_arg5) : Vec Ideal S512 .f32) (ix1 j) := by
  have hi := (by decide +kernel : ∀ t : Fin grid0.N, win0_5.index t (0 : Fin 2) = 0 ∧ win0_5.index t (1 : Fin 2) = 0) t
  refine Eq.trans ?_ (main_v7_at m c j)
  unfold iblk
  rw [View.read_apply]
  show V m c main_v7 _ = V m c main_v7 (ix2 0 j)
  congr 1
  funext a
  apply Fin.ext
  match a with
  | ⟨0, _⟩ => show win0_5.index t (0 : Fin 2) * 1 + 1 * 0 = 0; rw [hi.1]
  | ⟨1, _⟩ => show win0_5.index t (1 : Fin 2) * 512 + 1 * j.val = j.val; rw [hi.2]; omega

theorem blk_6 (t : Fin cfg0.N) (i : Fin 8) (j : Fin 128) (k : Fin 128) : (iblk m c 6 t : Vec Ideal S8x128x128 .f32) (ix3 i j k) = (m ((c : Thread nD τ).loc main_arg6) : Vec Ideal S8x128x128 .f32) (ix3 i j k) := by
  have hi := (by decide +kernel : ∀ t : Fin grid0.N, win0_6.index t (0 : Fin 3) = 0 ∧ win0_6.index t (1 : Fin 3) = 0 ∧ win0_6.index t (2 : Fin 3) = 0) t
  refine Eq.trans ?_ (congrFun (V_main_arg6 m c) _)
  unfold iblk
  rw [View.read_apply]
  show V m c main_arg6 _ = V m c main_arg6 (ix3 i j k)
  congr 1
  funext a
  apply Fin.ext
  match a with
  | ⟨0, _⟩ => show win0_6.index t (0 : Fin 3) * 8 + 1 * i.val = i.val; rw [hi.1]; omega
  | ⟨1, _⟩ => show win0_6.index t (1 : Fin 3) * 128 + 1 * j.val = j.val; rw [hi.2.1]; omega
  | ⟨2, _⟩ => show win0_6.index t (2 : Fin 3) * 128 + 1 * k.val = k.val; rw [hi.2.2]; omega

theorem blk_7 (t : Fin cfg0.N) (i : Fin 128) (j : Fin 512) : (iblk m c 7 t : Vec Ideal S128x512 .f32) (ix2 i j) = (m ((c : Thread nD τ).loc main_arg7) : Vec Ideal S8x128 .f32) (ix2 ⟨j.val / 64, by omega⟩ i) := by
  have hi := (by decide +kernel : ∀ t : Fin grid0.N, win0_7.index t (0 : Fin 2) = 0 ∧ win0_7.index t (1 : Fin 2) = 0) t
  refine Eq.trans ?_ (main_v4_at m c i j)
  unfold iblk
  rw [View.read_apply]
  show V m c main_v4 _ = V m c main_v4 (ix2 i j)
  congr 1
  funext a
  apply Fin.ext
  match a with
  | ⟨0, _⟩ => show win0_7.index t (0 : Fin 2) * 128 + 1 * i.val = i.val; rw [hi.1]; omega
  | ⟨1, _⟩ => show win0_7.index t (1 : Fin 2) * 512 + 1 * j.val = j.val; rw [hi.2]; omega

theorem index_8 (t : Fin cfg0.N) : win0_8.index t (0 : Fin 3) = t.val / 4 ∧ win0_8.index t (1 : Fin 3) = t.val % 4 ∧ win0_8.index t (2 : Fin 3) = 0 :=
  (by decide +kernel : ∀ t : Fin grid0.N, win0_8.index t (0 : Fin 3) = t.val / 4 ∧ win0_8.index t (1 : Fin 3) = t.val % 4 ∧ win0_8.index t (2 : Fin 3) = 0) t

theorem flush_8 (t : Fin cfg0.N) : (cfg0.win 8).flush t = true :=
  (by decide +kernel : ∀ t : Fin grid0.N, win0_8.flush t = true) t

/-- The call's result array. -/
def G8 : Vec Ideal S8x4096x512 .bf16 :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem tile_eq (t : Fin cfg0.N) (ht : t.val < 32) (n : Fin 1024) (k : Fin 512) :
    Tile.E (iblk m c 0 t) (iblk m c 1 t) (iblk m c 2 t) (iblk m c 3 t) (iblk m c 4 t) (iblk m c 5 t) (iblk m c 6 t) (iblk m c 7 t) n k
      = G8 m c (ix3 ⟨t.val / 4, by omega⟩ ⟨1024 * (t.val % 4) + n.val, by omega⟩ k) := by
  have h1 : (⟨(1024 * (t.val % 4) + n.val) % 128, by omega⟩ : Fin 128) = ⟨n.val % 128, by omega⟩ :=
    Fin.ext (by show (1024 * (t.val % 4) + n.val) % 128 = n.val % 128; omega)
  have h2 : ∀ s : Fin 128, (⟨1024 * (t.val % 4) + n.val - (1024 * (t.val % 4) + n.val) % 128 + s.val, by omega⟩ : Fin 4096)
      = ⟨1024 * (t.val % 4) + (n.val - n.val % 128 + s.val), by omega⟩ :=
    fun s => Fin.ext (by show 1024 * (t.val % 4) + n.val - (1024 * (t.val % 4) + n.val) % 128 + s.val = 1024 * (t.val % 4) + (n.val - n.val % 128 + s.val); omega)
  unfold G8 result out Tile.E Tile.U Tile.N Tile.M
  unfold Tile.U
  show _ = proj (fun d => m ((c : Thread nD τ).loc main_arg0) (ix3 ⟨t.val / 4, _⟩ ⟨1024 * (t.val % 4) + n.val, _⟩ d)) _ (fun d => m ((c : Thread nD τ).loc main_arg2) (ix2 d k))
    * (∑ s : Fin 128, masked _ ⟨k.val / 64, _⟩ ⟨(1024 * (t.val % 4) + n.val) % 128, _⟩ s
      * layer (fun j => proj (fun d => m ((c : Thread nD τ).loc main_arg0) (ix3 ⟨t.val / 4, _⟩ ⟨1024 * (t.val % 4) + n.val - (1024 * (t.val % 4) + n.val) % 128 + s.val, _⟩ d)) _ _) _ _ k
      + m ((c : Thread nD τ).loc main_arg7) (ix2 ⟨k.val / 64, _⟩ ⟨(1024 * (t.val % 4) + n.val) % 128, _⟩))
  simp only [h1, h2, blk_0 m c t ht, blk_1, blk_2, blk_3, blk_4, blk_5, blk_6, blk_7]

theorem flushed_eq8 (t : Fin cfg0.N) : (dats m 0 c).flushed 8 t = ((cfg0.win 8).blk t).view.read (Elt Ideal) (G8 m c) := by
  have ht : t.val < 32 := t.isLt
  have hi := index_8 t
  rw [Value.flushed8]
  funext y
  have hy0 : (y 0).val < 1 := (y 0).isLt
  have hy1 : (y 1).val < 1024 := (y 1).isLt
  have hy2 : (y 2).val < 512 := (y 2).isLt
  have hx : (cfg0.win 8).xinj (grid0.coords t) y = (ix3 0 ⟨(y 1).val, hy1⟩ ⟨(y 2).val, hy2⟩ : S1x1024x512.Idx) := by
    funext a
    apply Fin.ext
    match a with
    | ⟨0, _⟩ => show (y 0).val = 0; omega
    | ⟨1, _⟩ => rfl
    | ⟨2, _⟩ => rfl
  have he : ((cfg0.win 8).blk t).view.emb y
      = (ix3 ⟨t.val / 4, by omega⟩ ⟨1024 * (t.val % 4) + (y 1).val, by omega⟩ ⟨(y 2).val, hy2⟩ : S8x4096x512.Idx) := by
    funext a
    apply Fin.ext
    match a with
    | ⟨0, _⟩ => show win0_8.index t (0 : Fin 3) * 1 + 1 * (y 0).val = t.val / 4; rw [hi.1]; omega
    | ⟨1, _⟩ => show win0_8.index t (1 : Fin 3) * 1024 + 1 * (y 1).val = 1024 * (t.val % 4) + (y 1).val; rw [hi.2.1]; omega
    | ⟨2, _⟩ => show win0_8.index t (2 : Fin 3) * 512 + 1 * (y 2).val = (y 2).val; rw [hi.2.2]; omega
  show out0_8 (iblk m c 0 t) (iblk m c 1 t) (iblk m c 2 t) (iblk m c 3 t) (iblk m c 4 t) (iblk m c 5 t) (iblk m c 6 t) (iblk m c 7 t)
    ((cfg0.win 8).xinj (grid0.coords t) y) = G8 m c (((cfg0.win 8).blk t).view.emb y)
  rw [hx, he]
  exact (Tile.out_at _ _ _ _ _ _ _ _ _ _).trans (tile_eq m c t ht _ _)

theorem covered_8 (i : S8x4096x512.Idx) : ∃ t : Fin cfg0.N, (cfg0.win 8).flush t = true ∧ i ∈ ((cfg0.win 8).blk t).view.set := by
  have h0 : (i 0).val < 8 := (i 0).isLt
  have h1 : (i 1).val < 4096 := (i 1).isLt
  have h2 : (i 2).val < 512 := (i 2).isLt
  have hN : 4 * (i 0).val + (i 1).val / 1024 < 32 := by omega
  let t : Fin cfg0.N := ⟨4 * (i 0).val + (i 1).val / 1024, hN⟩
  have ht : t.val = 4 * (i 0).val + (i 1).val / 1024 := rfl
  have hi := index_8 t
  refine ⟨t, flush_8 t, ?_⟩
  show i ∈ ((View.whole main_v8).slice (win0_8.rect t)).set
  rw [View.set_slice_whole, Rect.mem_set_unit]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 512 ≤ (i 2).val ∧ (i 2).val < win0_8.index t (2 : Fin 3) * 512 + 512; omega

theorem final_8 : (dats m 0 c).arrAt 8 cfg0.N = G8 m c :=
  (dats m 0 c).arrAt_eq_of_cover 8 _ (fun t _ => flushed_eq8 m c t) covered_8

end Cert.SguIdeal.Blk

end
-- ==== Proof.SguValue.lean ====
/- The plain text of the spatial gate, element by element, and the call beside it. -/
module

public import proofs.«01_k».proof.Proof.SguBlocks
public import proofs.«01_k».proof.Proof.Gen.SguReferenceIdeal.Run

@[expose] public section

set_option maxRecDepth 16384

noncomputable section

namespace Cert.SguReferenceIdeal.Elem

open Idealize.ShloMosaic Idealize.ShloMosaic.TcCoe
open Cert.SguReferenceIdeal Cert.SguReferenceIdeal.Gen
open Cert.FfnSpec (rms)
open Cert.SguSpec

variable (m : (ℓ : Loc nD τ sig) → Buf (Elt Ideal) ℓ) (c : Dev nD)

/-- The lower triangle's zeros and ones times a weight. -/
theorem tril_at (v w : EReal) (t s : Fin 128) :
    Scalar.select (IntOp.cmpi CmpIPredicate.sge (IntOp.addi (BitVec.ofNat 32 t.val) 0#32) (BitVec.ofNat 32 s.val)) (v * w) 0 = (if s.val ≤ t.val then w else 0) * v := by
  have h : IntOp.cmpi CmpIPredicate.sge (IntOp.addi (BitVec.ofNat 32 t.val) 0#32) (BitVec.ofNat 32 s.val) = if s.val ≤ t.val then 1#1 else 0#1 :=
    (by decide +kernel : ∀ t s : Fin 128, IntOp.cmpi CmpIPredicate.sge (IntOp.addi (BitVec.ofNat 32 t.val) 0#32) (BitVec.ofNat 32 s.val) = if s.val ≤ t.val then 1#1 else 0#1) t s
  rw [h]
  split
  · exact mul_comm v w
  · exact (zero_mul v).symm

/-- The reference's array has the call's elements. -/
theorem ref_at (b : Fin 8) (n : Fin 4096) (k : Fin 512) :
    (Value.res_main_v78 m c : Vec Ideal S8x4096x512 .bf16) (ix3 b n k)
      = Cert.SguIdeal.Blk.result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (ix3 b n k) := by
  pointwise [Value.res_main_v78, Cert.SguIdeal.Blk.result, out, masked, layer, mean, proj, gelu, rms]
  refine congrArg₂ (· * ·) rfl (congrArg₂ (· + ·) (Finset.sum_congr rfl fun s _ => ?_) rfl)
  have e : (⟨n.val - n.val % 128 + s.val, by omega⟩ : Fin 4096) = ⟨n.val / 128 * 128 + s.val, by omega⟩ :=
    Fin.ext (by show n.val - n.val % 128 + s.val = n.val / 128 * 128 + s.val; omega)
  simp only [e]
  exact tril_at _ _ ⟨n.val % 128, by omega⟩ s

theorem ref_eq : (Value.res_main_v78 m c : Vec Ideal S8x4096x512 .bf16) = Cert.SguIdeal.Blk.result (m ((c : Thread nD τ).loc main_arg0))
    (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  funext i
  have e : i = ix3 (n0 := 8) (n1 := 4096) (n2 := 512) (i 0) (i 1) (i 2) := funext fun a => by
    match a with
    | ⟨0, _⟩ => rfl
    | ⟨1, _⟩ => rfl
    | ⟨2, _⟩ => rfl
  rw [e]
  exact ref_at m c (i 0) (i 1) (i 2)

end Cert.SguReferenceIdeal.Elem

end
-- ==== Proof.lean ====
module

public import proofs.«01_k».proof.Defs
public import proofs.«01_k».proof.Proof.PlainFrame
public import proofs.«01_k».proof.Proof.IdealFrame
public import proofs.«01_k».proof.Proof.Gen.Ffn.Frame
public import proofs.«01_k».proof.Proof.Gen.FfnIdeal.Value
public import proofs.«01_k».proof.Proof.Gen.FfnReferenceIdeal.Run
public import proofs.«01_k».proof.Proof.FfnValue
public import proofs.«01_k».proof.Proof.Gen.Proj.Frame
public import proofs.«01_k».proof.Proof.Gen.ProjIdeal.Value
public import proofs.«01_k».proof.Proof.Gen.ProjReferenceIdeal.Run
public import proofs.«01_k».proof.Proof.ProjValue
public import proofs.«01_k».proof.Proof.Gen.Sgu.Frame
public import proofs.«01_k».proof.Proof.Gen.SguIdeal.Value
public import proofs.«01_k».proof.Proof.Gen.SguReferenceIdeal.Run
public import proofs.«01_k».proof.Proof.SguValue
public import Idealize.ShloMosaic.Adequacy
public import Idealize.ShloMosaic.Init
public import Idealize.ShloMosaic.Lib.Quiescent

@[expose] public section

noncomputable section

namespace Cert.Proof

open Idealize.ShloMosaic Idealize.SL.Sem

/-- The kernel ends from every memory, with its arguments as they were and every semaphore at zero. -/
theorem quiescent_kernel [Cert.Kernel.Facts] : Cert.quiescent_Kernel :=
  fun m ρ _ => Cert.Kernel.Nsa.run_quiescent m ρ

/-- So does its idealization. -/
theorem quiescent_kernel_ideal [Cert.KernelIdeal.Facts] : Cert.quiescent_KernelIdeal :=
  fun m ρ _ => Cert.KernelIdeal.Nsa.run_quiescent m ρ

/-- The three constants the idealization names differ from the kernel's by a rounding, or are masks. -/
theorem preserves : Cert.preserves_Kernel_KernelIdeal :=
  ⟨IdealRules.named_const.statement Cert.KernelIdeal.κ "q_scale" _ _ _ rfl,
   IdealRules.named_const.statement Cert.KernelIdeal.κ "mask" _ _ _ rfl,
   IdealRules.named_const.statement Cert.KernelIdeal.κ "mask_tenth" _ _ _ rfl⟩

/-- The plain text of the mixer projection and feed-forward network ends, its arguments as they were. -/
theorem quiescent_ffn_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The call computes what its plain text computes, at every element, over the extended reals. -/
theorem algebraic_ffn : Cert.algebraic_FfnIdeal_FfnReferenceIdeal := by
  intro m ρ m' ρ' _ hagree
  refine ⟨fun c => Cert.FfnIdeal.Value.G12 m c, Cert.FfnIdeal.Value.run (F := Ideal) m ρ, ?_⟩
  refine (θ_run Cert.FfnReferenceIdeal.defs _ _).mono (fun _ h c => ⟨?_, (h c).2⟩) (Cert.FfnReferenceIdeal.Value.run (F := Ideal) m' ρ')
  obtain ⟨h0, h1, h2, h3, h4, h5, h6, h7, h8, h9, h10⟩ := hagree c
  exact (h c).1.trans ((Cert.FfnReferenceIdeal.Value.val2_main_v90 (StableHlo.launchContents m' c)).symm.trans
    (Cert.FfnValue.arrays_eq m m' c (Cert.FfnValue.inputs_eq m m' c h0 h1 h2 h3 h4 h5 h6 h7 h8 h9 h10)))

/-- The plain text of the input projection ends, its arguments as they were. -/
theorem quiescent_proj_reference : Cert.quiescent_ProjReferenceIdeal := fun m ρ _ =>
  (θ_run Cert.ProjReferenceIdeal.defs _ _).mono (fun r h => ⟨fun c => (h c).2.2.2, sem_eq_zero_of_no_sems (by decide) r.2⟩)
    (Cert.ProjReferenceIdeal.Value.run (F := Ideal) m ρ)

/-- The input projection computes what its plain text computes: its three results, at every element, over the extended reals. -/
theorem algebraic_proj : Cert.algebraic_ProjIdeal_ProjReferenceIdeal := by
  intro m ρ m' ρ' _ hagree
  refine ⟨fun c => Cert.ProjIdeal.Blk.G5 m c, fun c => Cert.ProjIdeal.Blk.G6 m c, fun c => Cert.ProjIdeal.Blk.G7 m c, ?_, ?_⟩
  · refine (θ_run Cert.ProjIdeal.defs _ _).mono (fun _ h c => ?_) (Cert.ProjIdeal.Value.run_blocks (F := Ideal) m ρ)
    obtain ⟨h5, h6, h7, hargs⟩ := h c
    exact ⟨h5.trans (Cert.ProjIdeal.Blk.final_5 m c), h6.trans (Cert.ProjIdeal.Blk.final_6 m c), h7.trans (Cert.ProjIdeal.Blk.final_7 m c), hargs⟩
  · refine (θ_run Cert.ProjReferenceIdeal.defs _ _).mono (fun _ h c => ?_) (Cert.ProjReferenceIdeal.Value.run (F := Ideal) m' ρ')
    obtain ⟨h0, h1, h2, h3, h4⟩ := hagree c
    obtain ⟨hb, hf, ht, hargs⟩ := h c
    rw [h0, h1, h2] at hb
    rw [h0, h1, h3] at hf
    rw [h0, h1, h4] at ht
    exact ⟨hb.trans (Cert.ProjValue.b_eq m c), hf.trans (Cert.ProjValue.f_eq m c), ht.trans (Cert.ProjValue.t_eq m c), hargs⟩

/-- The plain text of the spatial gate ends, its arguments as they were. -/
theorem quiescent_sgu_reference : Cert.quiescent_SguReferenceIdeal := fun m ρ _ =>
  (θ_run Cert.SguReferenceIdeal.defs _ _).mono (fun r h => ⟨fun c => (h c).2, sem_eq_zero_of_no_sems (by decide) r.2⟩)
    (Cert.SguReferenceIdeal.Value.run (F := Ideal) m ρ)

/-- The spatial gate computes what its plain text computes, at every element, over the extended reals. -/
theorem algebraic_sgu : Cert.algebraic_SguIdeal_SguReferenceIdeal := by
  intro m ρ m' ρ' _ hagree
  refine ⟨fun c => Cert.SguIdeal.Blk.G8 m c, ?_, ?_⟩
  · refine (θ_run Cert.SguIdeal.defs _ _).mono (fun _ h c => ?_) (Cert.SguIdeal.Value.run_blocks (F := Ideal) m ρ)
    exact ⟨(h c).1.trans (Cert.SguIdeal.Blk.final_8 m c), (h c).2⟩
  · refine (θ_run Cert.SguReferenceIdeal.defs _ _).mono (fun _ h c => ?_) (Cert.SguReferenceIdeal.Value.run (F := Ideal) m' ρ')
    obtain ⟨h0, h1, h2, h3, h4, h5, h6, h7⟩ := hagree c
    refine ⟨((h c).1.trans (Cert.SguReferenceIdeal.Elem.ref_eq m' c)).trans ?_, (h c).2⟩
    rw [h0, h1, h2, h3, h4, h5, h6, h7]
    rfl

theorem claim : Cert.Claim :=
  ⟨Cert.Kernel.Gen.facts, Cert.KernelIdeal.Gen.facts, Cert.Ffn.Gen.facts, Cert.FfnIdeal.Gen.facts, Cert.FfnReferenceIdeal.Gen.facts,
    Cert.Proj.Gen.facts, Cert.ProjIdeal.Gen.facts, Cert.ProjReferenceIdeal.Gen.facts,
    Cert.Sgu.Gen.facts, Cert.SguIdeal.Gen.facts, Cert.SguReferenceIdeal.Gen.facts,
    quiescent_kernel, quiescent_kernel_ideal, fun m ρ _ => Cert.Ffn.Gen.frame m ρ, fun m ρ _ => Cert.FfnIdeal.Gen.frame m ρ,
    quiescent_ffn_reference, fun m ρ _ => Cert.Proj.Gen.frame m ρ, fun m ρ _ => Cert.ProjIdeal.Gen.frame m ρ,
    quiescent_proj_reference, fun m ρ _ => Cert.Sgu.Gen.frame m ρ, fun m ρ _ => Cert.SguIdeal.Gen.frame m ρ,
    quiescent_sgu_reference, preserves, (trivial : Cert.preserves_Ffn_FfnIdeal), algebraic_ffn,
    (trivial : Cert.preserves_Proj_ProjIdeal), algebraic_proj,
    (trivial : Cert.preserves_Sgu_SguIdeal), algebraic_sgu⟩

end Cert.Proof

end
